-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 12288]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![12288, 1536]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S2x4x3x96x768 : Shape := ⟨5, ![2, 4, 3, 96, 768]⟩
abbrev S2x2x96x768 : Shape := ⟨4, ![2, 2, 96, 768]⟩
abbrev S2x2x48x768 : Shape := ⟨4, ![2, 2, 48, 768]⟩
abbrev S2x4x3 : Shape := ⟨3, ![2, 4, 3]⟩
abbrev S2x2 : Shape := ⟨2, ![2, 2]⟩
abbrev S2x6x3 : Shape := ⟨3, ![2, 6, 3]⟩
abbrev S_ : Shape := ⟨0, ![]⟩
abbrev S384x768 : Shape := ⟨2, ![384, 768]⟩
abbrev S384x1536 : Shape := ⟨2, ![384, 1536]⟩
abbrev S1x1x1 : Shape := ⟨3, ![1, 1, 1]⟩
abbrev S1x1x1x96x768 : Shape := ⟨5, ![1, 1, 1, 96, 768]⟩
abbrev S96x768 : Shape := ⟨2, ![96, 768]⟩
abbrev S1x1 : Shape := ⟨2, ![1, 1]⟩
abbrev S1x1x96x768 : Shape := ⟨4, ![1, 1, 96, 768]⟩
abbrev S1x1x48x768 : Shape := ⟨4, ![1, 1, 48, 768]⟩
abbrev S48x768 : Shape := ⟨2, ![48, 768]⟩

abbrev nBuf : Space → Nat
  | .hbm => 3
  | .vmem => 7
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .bf16⟩
  | .local _ .vmem, ⟨0, _⟩ => ⟨S1536x768, .f32⟩
  | .local _ .vmem, ⟨1, _⟩ => ⟨S768x1536, .f32⟩
  | .local _ .vmem, ⟨2, _⟩ => ⟨S1536x1536, .bf16⟩
  | .local _ .vmem, ⟨3, _⟩ => ⟨S768x1536, .bf16⟩
  | .local _ .vmem, ⟨4, _⟩ => ⟨S2x4x3x96x768, .bf16⟩
  | .local _ .vmem, ⟨5, _⟩ => ⟨S2x2x96x768, .bf16⟩
  | .local _ .vmem, ⟨6, _⟩ => ⟨S2x2x48x768, .bf16⟩
  | _, _ => ⟨S1536x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 155 → Bool
  | ⟨i, _⟩ => dmaSemScopedAt i

abbrev sig : RefSig :=
  (ofTc nBuf bufTy 1 155 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_12 : BitVec 32 := 1#32
  let v22 : BitVec 32 := Scalar.muli v12 c1_i32_12
  let v23 : BitVec 32 := Scalar.addi c0_i32 v22
  v23.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_14 : BitVec 32 := 1#32
  let v24 : BitVec 32 := Scalar.muli v8 c1_i32_14
  let v25 : BitVec 32 := Scalar.addi c0_i32_15 v24
  v25.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_17 : BitVec 32 := 1#32
  let v26 : BitVec 32 := Scalar.muli v17 c1_i32_17
  let v27 : BitVec 32 := Scalar.addi c0_i32_18 v26
  v27.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_20 : BitVec 32 := 1#32
  let v28 : BitVec 32 := Scalar.muli v20 c1_i32_20
  let v29 : BitVec 32 := Scalar.addi c0_i32_21 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c384_i32_41 : BitVec 32 := 384#32
  let v62 : BitVec 32 := Scalar.muli v3 c384_i32_41
  let v63 : Index := Scalar.indexCast v62
  let c0_42 : Index := 0#32
  ![v63.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c384_i32_45 : BitVec 32 := 384#32
  let v70 : BitVec 32 := Scalar.muli v3 c384_i32_45
  let v71 : Index := Scalar.indexCast v70
  let c0_46 : Index := 0#32
  ![v71.toNat, 0]
def k0_off3 (d0 : Dev nD) (c0_i32_48 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v73 : BitVec 32 := Scalar.subi v3 c0_i32_48
  let c4_i32_49 : BitVec 32 := 4#32
  let v74 : BitVec 32 := Scalar.addi v73 c4_i32_49
  let c4_i32_50 : BitVec 32 := 4#32
  let v75 : BitVec 32 := Scalar.remsi v74 c4_i32_50
  let c384_i32_51 : BitVec 32 := 384#32
  let v76 : BitVec 32 := Scalar.muli v75 c384_i32_51
  let c0_i32_52 : BitVec 32 := 0#32
  let v77 : BitVec 32 := Scalar.addi v76 c0_i32_52
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v78 : BitVec 32 := Scalar.addi v77 v37
  let c0_i32_66 : BitVec 32 := 0#32
  ![v78.toNat, 0]
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_62 : BitVec 32 := 1#32
  let v79 : BitVec 32 := Scalar.muli v8 c1_i32_62
  let v80 : BitVec 32 := Scalar.addi c0_i32_63 v79
  v80.toNat
def k0_off4 (d0 : Dev nD) (c0_i32_67 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v88 : BitVec 32 := Scalar.addi v3 c0_i32_67
  let c4_i32_68 : BitVec 32 := 4#32
  let v89 : BitVec 32 := Scalar.remsi v88 c4_i32_68
  let c384_i32_69 : BitVec 32 := 384#32
  let v90 : BitVec 32 := Scalar.muli v89 c384_i32_69
  let c192_i32_70 : BitVec 32 := 192#32
  let v91 : BitVec 32 := Scalar.addi v90 c192_i32_70
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v92 : BitVec 32 := Scalar.addi v91 v37
  let c0_i32_84 : BitVec 32 := 0#32
  ![v92.toNat, 0]
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_80 : BitVec 32 := 1#32
  let v93 : BitVec 32 := Scalar.muli v12 c1_i32_80
  let v94 : BitVec 32 := Scalar.addi c0_i32_81 v93
  v94.toNat
def k0_off5 (d0 : Dev nD) (c0_i32_85 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v102 : BitVec 32 := Scalar.subi v3 c0_i32_85
  let c4_i32_86 : BitVec 32 := 4#32
  let v103 : BitVec 32 := Scalar.addi v102 c4_i32_86
  let c4_i32_87 : BitVec 32 := 4#32
  let v104 : BitVec 32 := Scalar.remsi v103 c4_i32_87
  let c384_i32_88 : BitVec 32 := 384#32
  let v105 : BitVec 32 := Scalar.muli v104 c384_i32_88
  let c0_i32_89 : BitVec 32 := 0#32
  let v106 : BitVec 32 := Scalar.addi v105 c0_i32_89
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v107 : BitVec 32 := Scalar.addi v106 v38
  let c0_i32_103 : BitVec 32 := 0#32
  ![v107.toNat, 0]
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_99 : BitVec 32 := 1#32
  let v108 : BitVec 32 := Scalar.muli v8 c1_i32_99
  let v109 : BitVec 32 := Scalar.addi c0_i32_100 v108
  v109.toNat
def k0_off6 (d0 : Dev nD) (c0_i32_104 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v117 : BitVec 32 := Scalar.addi v3 c0_i32_104
  let c4_i32_105 : BitVec 32 := 4#32
  let v118 : BitVec 32 := Scalar.remsi v117 c4_i32_105
  let c384_i32_106 : BitVec 32 := 384#32
  let v119 : BitVec 32 := Scalar.muli v118 c384_i32_106
  let c192_i32_107 : BitVec 32 := 192#32
  let v120 : BitVec 32 := Scalar.addi v119 c192_i32_107
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v121 : BitVec 32 := Scalar.addi v120 v38
  let c0_i32_120 : BitVec 32 := 0#32
  ![v121.toNat, 0]
def k0_dev8 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_116 : BitVec 32 := 1#32
  let v122 : BitVec 32 := Scalar.muli v12 c1_i32_116
  let v123 : BitVec 32 := Scalar.addi c0_i32_117 v122
  v123.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_121 : BitVec 32 := 4#32
  let v131 : BitVec 32 := Scalar.addi v3 c4_i32_121
  let c1_i32_122 : BitVec 32 := 1#32
  let v132 : BitVec 32 := Scalar.subi v131 c1_i32_122
  let c4_i32_123 : BitVec 32 := 4#32
  let v133 : BitVec 32 := Scalar.remsi v132 c4_i32_123
  let c384_i32_124 : BitVec 32 := 384#32
  let v134 : BitVec 32 := Scalar.muli v133 c384_i32_124
  let v135 : Index := Scalar.indexCast v134
  let c0_125 : Index := 0#32
  ![v135.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_121 : BitVec 32 := 4#32
  let v131 : BitVec 32 := Scalar.addi v3 c4_i32_121
  let c1_i32_122 : BitVec 32 := 1#32
  let v132 : BitVec 32 := Scalar.subi v131 c1_i32_122
  let c4_i32_123 : BitVec 32 := 4#32
  let v133 : BitVec 32 := Scalar.remsi v132 c4_i32_123
  let c384_i32_129 : BitVec 32 := 384#32
  let v142 : BitVec 32 := Scalar.muli v133 c384_i32_129
  let v143 : Index := Scalar.indexCast v142
  let c0_130 : Index := 0#32
  ![v143.toNat, 0]
def k0_off9 (d0 : Dev nD) (c1_i32_131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v145 : BitVec 32 := Scalar.addi v3 c1_i32_131
  let c4_i32_132 : BitVec 32 := 4#32
  let v146 : BitVec 32 := Scalar.remsi v145 c4_i32_132
  let c384_i32_133 : BitVec 32 := 384#32
  let v147 : BitVec 32 := Scalar.muli v146 c384_i32_133
  let v148 : Index := Scalar.indexCast v147
  let c0_134 : Index := 0#32
  ![v148.toNat, 0]
def k0_off10 (d0 : Dev nD) (c1_i32_131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v145 : BitVec 32 := Scalar.addi v3 c1_i32_131
  let c4_i32_132 : BitVec 32 := 4#32
  let v146 : BitVec 32 := Scalar.remsi v145 c4_i32_132
  let c384_i32_138 : BitVec 32 := 384#32
  let v155 : BitVec 32 := Scalar.muli v146 c384_i32_138
  let v156 : Index := Scalar.indexCast v155
  let c0_139 : Index := 0#32
  ![v156.toNat, 0]
def k0_off11 (d0 : Dev nD) (c0_i32_176 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v183 : BitVec 32 := Scalar.subi v3 c0_i32_176
  let c1_i32_177 : BitVec 32 := 1#32
  let v184 : BitVec 32 := Scalar.subi v183 c1_i32_177
  let c4_i32_178 : BitVec 32 := 4#32
  let v185 : BitVec 32 := Scalar.addi v184 c4_i32_178
  let c4_i32_179 : BitVec 32 := 4#32
  let v186 : BitVec 32 := Scalar.remsi v185 c4_i32_179
  let c384_i32_180 : BitVec 32 := 384#32
  let v187 : BitVec 32 := Scalar.muli v186 c384_i32_180
  let c0_i32_181 : BitVec 32 := 0#32
  let v188 : BitVec 32 := Scalar.addi v187 c0_i32_181
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v189 : BitVec 32 := Scalar.addi v188 v37
  let v190 : Index := Scalar.indexCast v189
  let c0_182 : Index := 0#32
  ![v190.toNat, 0]
def k0_dev9 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_203 : BitVec 32 := 1#32
  let v204 : BitVec 32 := Scalar.muli v8 c1_i32_203
  let v205 : BitVec 32 := Scalar.addi c0_i32_204 v204
  v205.toNat
def k0_off12 (d0 : Dev nD) (c0_i32_235 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v225 : BitVec 32 := Scalar.addi v3 c0_i32_235
  let c1_i32_236 : BitVec 32 := 1#32
  let v226 : BitVec 32 := Scalar.addi v225 c1_i32_236
  let c4_i32_237 : BitVec 32 := 4#32
  let v227 : BitVec 32 := Scalar.remsi v226 c4_i32_237
  let c384_i32_238 : BitVec 32 := 384#32
  let v228 : BitVec 32 := Scalar.muli v227 c384_i32_238
  let c192_i32_239 : BitVec 32 := 192#32
  let v229 : BitVec 32 := Scalar.addi v228 c192_i32_239
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v230 : BitVec 32 := Scalar.addi v229 v37
  let v231 : Index := Scalar.indexCast v230
  let c0_240 : Index := 0#32
  ![v231.toNat, 0]
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_259 : BitVec 32 := 1#32
  let v244 : BitVec 32 := Scalar.muli v12 c1_i32_259
  let v245 : BitVec 32 := Scalar.addi c0_i32_260 v244
  v245.toNat
def k0_off13 (d0 : Dev nD) (c0_i32_291 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v265 : BitVec 32 := Scalar.subi v3 c0_i32_291
  let c1_i32_292 : BitVec 32 := 1#32
  let v266 : BitVec 32 := Scalar.subi v265 c1_i32_292
  let c4_i32_293 : BitVec 32 := 4#32
  let v267 : BitVec 32 := Scalar.addi v266 c4_i32_293
  let c4_i32_294 : BitVec 32 := 4#32
  let v268 : BitVec 32 := Scalar.remsi v267 c4_i32_294
  let c384_i32_295 : BitVec 32 := 384#32
  let v269 : BitVec 32 := Scalar.muli v268 c384_i32_295
  let c0_i32_296 : BitVec 32 := 0#32
  let v270 : BitVec 32 := Scalar.addi v269 c0_i32_296
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v271 : BitVec 32 := Scalar.addi v270 v38
  let v272 : Index := Scalar.indexCast v271
  let c0_297 : Index := 0#32
  ![v272.toNat, 0]
def k0_dev11 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_317 : BitVec 32 := 1#32
  let v286 : BitVec 32 := Scalar.muli v8 c1_i32_317
  let v287 : BitVec 32 := Scalar.addi c0_i32_318 v286
  v287.toNat
def k0_off14 (d0 : Dev nD) (c0_i32_349 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v307 : BitVec 32 := Scalar.addi v3 c0_i32_349
  let c1_i32_350 : BitVec 32 := 1#32
  let v308 : BitVec 32 := Scalar.addi v307 c1_i32_350
  let c4_i32_351 : BitVec 32 := 4#32
  let v309 : BitVec 32 := Scalar.remsi v308 c4_i32_351
  let c384_i32_352 : BitVec 32 := 384#32
  let v310 : BitVec 32 := Scalar.muli v309 c384_i32_352
  let c192_i32_353 : BitVec 32 := 192#32
  let v311 : BitVec 32 := Scalar.addi v310 c192_i32_353
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v312 : BitVec 32 := Scalar.addi v311 v38
  let v313 : Index := Scalar.indexCast v312
  let c0_354 : Index := 0#32
  ![v313.toNat, 0]
def k0_dev12 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_373 : BitVec 32 := 1#32
  let v326 : BitVec 32 := Scalar.muli v12 c1_i32_373
  let v327 : BitVec 32 := Scalar.addi c0_i32_374 v326
  v327.toNat
def k0_off15 (d0 : Dev nD) (c0_i32_378 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v335 : BitVec 32 := Scalar.subi v3 c0_i32_378
  let c4_i32_379 : BitVec 32 := 4#32
  let v336 : BitVec 32 := Scalar.addi v335 c4_i32_379
  let c4_i32_380 : BitVec 32 := 4#32
  let v337 : BitVec 32 := Scalar.remsi v336 c4_i32_380
  let c384_i32_381 : BitVec 32 := 384#32
  let v338 : BitVec 32 := Scalar.muli v337 c384_i32_381
  let c0_i32_382 : BitVec 32 := 0#32
  let v339 : BitVec 32 := Scalar.addi v338 c0_i32_382
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v340 : BitVec 32 := Scalar.addi v339 v37
  let c768_i32 : BitVec 32 := 768#32
  ![v340.toNat, 768]
def k0_dev13 (d0 : Dev nD) : Nat :=
  let c0_i32_393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_392 : BitVec 32 := 1#32
  let v341 : BitVec 32 := Scalar.muli v8 c1_i32_392
  let v342 : BitVec 32 := Scalar.addi c0_i32_393 v341
  v342.toNat
def k0_off16 (d0 : Dev nD) (c0_i32_396 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v350 : BitVec 32 := Scalar.addi v3 c0_i32_396
  let c4_i32_397 : BitVec 32 := 4#32
  let v351 : BitVec 32 := Scalar.remsi v350 c4_i32_397
  let c384_i32_398 : BitVec 32 := 384#32
  let v352 : BitVec 32 := Scalar.muli v351 c384_i32_398
  let c192_i32_399 : BitVec 32 := 192#32
  let v353 : BitVec 32 := Scalar.addi v352 c192_i32_399
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v354 : BitVec 32 := Scalar.addi v353 v37
  let c768_i32_413 : BitVec 32 := 768#32
  ![v354.toNat, 768]
def k0_dev14 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_409 : BitVec 32 := 1#32
  let v355 : BitVec 32 := Scalar.muli v12 c1_i32_409
  let v356 : BitVec 32 := Scalar.addi c0_i32_410 v355
  v356.toNat
def k0_off17 (d0 : Dev nD) (c0_i32_414 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v364 : BitVec 32 := Scalar.subi v3 c0_i32_414
  let c4_i32_415 : BitVec 32 := 4#32
  let v365 : BitVec 32 := Scalar.addi v364 c4_i32_415
  let c4_i32_416 : BitVec 32 := 4#32
  let v366 : BitVec 32 := Scalar.remsi v365 c4_i32_416
  let c384_i32_417 : BitVec 32 := 384#32
  let v367 : BitVec 32 := Scalar.muli v366 c384_i32_417
  let c0_i32_418 : BitVec 32 := 0#32
  let v368 : BitVec 32 := Scalar.addi v367 c0_i32_418
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v369 : BitVec 32 := Scalar.addi v368 v38
  let c768_i32_432 : BitVec 32 := 768#32
  ![v369.toNat, 768]
def k0_dev15 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_428 : BitVec 32 := 1#32
  let v370 : BitVec 32 := Scalar.muli v8 c1_i32_428
  let v371 : BitVec 32 := Scalar.addi c0_i32_429 v370
  v371.toNat
def k0_off18 (d0 : Dev nD) (c0_i32_433 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v379 : BitVec 32 := Scalar.addi v3 c0_i32_433
  let c4_i32_434 : BitVec 32 := 4#32
  let v380 : BitVec 32 := Scalar.remsi v379 c4_i32_434
  let c384_i32_435 : BitVec 32 := 384#32
  let v381 : BitVec 32 := Scalar.muli v380 c384_i32_435
  let c192_i32_436 : BitVec 32 := 192#32
  let v382 : BitVec 32 := Scalar.addi v381 c192_i32_436
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v383 : BitVec 32 := Scalar.addi v382 v38
  let c768_i32_450 : BitVec 32 := 768#32
  ![v383.toNat, 768]
def k0_dev16 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_446 : BitVec 32 := 1#32
  let v384 : BitVec 32 := Scalar.muli v12 c1_i32_446
  let v385 : BitVec 32 := Scalar.addi c0_i32_447 v384
  v385.toNat
def k0_dev17 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_505 : BitVec 32 := 1#32
  let v426 : BitVec 32 := Scalar.muli v8 c1_i32_505
  let v427 : BitVec 32 := Scalar.addi c0_i32_506 v426
  v427.toNat
def k0_dev18 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_562 : BitVec 32 := 1#32
  let v466 : BitVec 32 := Scalar.muli v12 c1_i32_562
  let v467 : BitVec 32 := Scalar.addi c0_i32_563 v466
  v467.toNat
def k0_dev19 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_621 : BitVec 32 := 1#32
  let v508 : BitVec 32 := Scalar.muli v8 c1_i32_621
  let v509 : BitVec 32 := Scalar.addi c0_i32_622 v508
  v509.toNat
def k0_dev20 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_678 : BitVec 32 := 1#32
  let v548 : BitVec 32 := Scalar.muli v12 c1_i32_678
  let v549 : BitVec 32 := Scalar.addi c0_i32_679 v548
  v549.toNat
def k0_off19 (d0 : Dev nD) (c0_i32_710 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v569 : BitVec 32 := Scalar.subi v3 c0_i32_710
  let c1_i32_711 : BitVec 32 := 1#32
  let v570 : BitVec 32 := Scalar.subi v569 c1_i32_711
  let c4_i32_712 : BitVec 32 := 4#32
  let v571 : BitVec 32 := Scalar.addi v570 c4_i32_712
  let c4_i32_713 : BitVec 32 := 4#32
  let v572 : BitVec 32 := Scalar.remsi v571 c4_i32_713
  let c384_i32_714 : BitVec 32 := 384#32
  let v573 : BitVec 32 := Scalar.muli v572 c384_i32_714
  let c0_i32_715 : BitVec 32 := 0#32
  let v574 : BitVec 32 := Scalar.addi v573 c0_i32_715
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v575 : BitVec 32 := Scalar.addi v574 v37
  let v576 : Index := Scalar.indexCast v575
  let c768 : Index := 768#32
  ![v576.toNat, 768]
def k0_dev21 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_736 : BitVec 32 := 1#32
  let v590 : BitVec 32 := Scalar.muli v8 c1_i32_736
  let v591 : BitVec 32 := Scalar.addi c0_i32_737 v590
  v591.toNat
def k0_off20 (d0 : Dev nD) (c0_i32_768 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v611 : BitVec 32 := Scalar.addi v3 c0_i32_768
  let c1_i32_769 : BitVec 32 := 1#32
  let v612 : BitVec 32 := Scalar.addi v611 c1_i32_769
  let c4_i32_770 : BitVec 32 := 4#32
  let v613 : BitVec 32 := Scalar.remsi v612 c4_i32_770
  let c384_i32_771 : BitVec 32 := 384#32
  let v614 : BitVec 32 := Scalar.muli v613 c384_i32_771
  let c192_i32_772 : BitVec 32 := 192#32
  let v615 : BitVec 32 := Scalar.addi v614 c192_i32_772
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v616 : BitVec 32 := Scalar.addi v615 v37
  let v617 : Index := Scalar.indexCast v616
  let c768_773 : Index := 768#32
  ![v617.toNat, 768]
def k0_dev22 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_793 : BitVec 32 := 1#32
  let v630 : BitVec 32 := Scalar.muli v12 c1_i32_793
  let v631 : BitVec 32 := Scalar.addi c0_i32_794 v630
  v631.toNat
def k0_off21 (d0 : Dev nD) (c0_i32_825 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v651 : BitVec 32 := Scalar.subi v3 c0_i32_825
  let c1_i32_826 : BitVec 32 := 1#32
  let v652 : BitVec 32 := Scalar.subi v651 c1_i32_826
  let c4_i32_827 : BitVec 32 := 4#32
  let v653 : BitVec 32 := Scalar.addi v652 c4_i32_827
  let c4_i32_828 : BitVec 32 := 4#32
  let v654 : BitVec 32 := Scalar.remsi v653 c4_i32_828
  let c384_i32_829 : BitVec 32 := 384#32
  let v655 : BitVec 32 := Scalar.muli v654 c384_i32_829
  let c0_i32_830 : BitVec 32 := 0#32
  let v656 : BitVec 32 := Scalar.addi v655 c0_i32_830
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v657 : BitVec 32 := Scalar.addi v656 v38
  let v658 : Index := Scalar.indexCast v657
  let c768_831 : Index := 768#32
  ![v658.toNat, 768]
def k0_dev23 (d0 : Dev nD) : Nat :=
  let c0_i32_853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_852 : BitVec 32 := 1#32
  let v672 : BitVec 32 := Scalar.muli v8 c1_i32_852
  let v673 : BitVec 32 := Scalar.addi c0_i32_853 v672
  v673.toNat
def k0_off22 (d0 : Dev nD) (c0_i32_884 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v693 : BitVec 32 := Scalar.addi v3 c0_i32_884
  let c1_i32_885 : BitVec 32 := 1#32
  let v694 : BitVec 32 := Scalar.addi v693 c1_i32_885
  let c4_i32_886 : BitVec 32 := 4#32
  let v695 : BitVec 32 := Scalar.remsi v694 c4_i32_886
  let c384_i32_887 : BitVec 32 := 384#32
  let v696 : BitVec 32 := Scalar.muli v695 c384_i32_887
  let c192_i32_888 : BitVec 32 := 192#32
  let v697 : BitVec 32 := Scalar.addi v696 c192_i32_888
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v698 : BitVec 32 := Scalar.addi v697 v38
  let v699 : Index := Scalar.indexCast v698
  let c768_889 : Index := 768#32
  ![v699.toNat, 768]
def k0_dev24 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_909 : BitVec 32 := 1#32
  let v712 : BitVec 32 := Scalar.muli v12 c1_i32_909
  let v713 : BitVec 32 := Scalar.addi c0_i32_910 v712
  v713.toNat
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v774 : BitVec 32 := Scalar.addi v44 v37
  let c0_i32_1003 : BitVec 32 := 0#32
  ![v774.toNat, 0]
def k0_dev25 (d0 : Dev nD) : Nat :=
  let c0_i32_1000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_999 : BitVec 32 := 1#32
  let v776 : BitVec 32 := Scalar.muli v17 c1_i32_999
  let v777 : BitVec 32 := Scalar.addi c0_i32_1000 v776
  v777.toNat
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v775 : BitVec 32 := Scalar.addi v46 v37
  let c0_i32_1014 : BitVec 32 := 0#32
  ![v775.toNat, 0]
def k0_dev26 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_1010 : BitVec 32 := 1#32
  let v785 : BitVec 32 := Scalar.muli v17 c1_i32_1010
  let v786 : BitVec 32 := Scalar.addi c0_i32_1011 v785
  v786.toNat
def k0_dev27 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1148 : BitVec 32 := 1#32
  let v880 : BitVec 32 := Scalar.muli v8 c1_i32_1148
  let v881 : BitVec 32 := Scalar.addi c0_i32_1149 v880
  v881.toNat
def k0_dev28 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_1205 : BitVec 32 := 1#32
  let v920 : BitVec 32 := Scalar.muli v12 c1_i32_1205
  let v921 : BitVec 32 := Scalar.addi c0_i32_1206 v920
  v921.toNat
def k0_dev29 (d0 : Dev nD) : Nat :=
  let c0_i32_1265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1264 : BitVec 32 := 1#32
  let v962 : BitVec 32 := Scalar.muli v8 c1_i32_1264
  let v963 : BitVec 32 := Scalar.addi c0_i32_1265 v962
  v963.toNat
def k0_dev30 (d0 : Dev nD) : Nat :=
  let c0_i32_1322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_1321 : BitVec 32 := 1#32
  let v1002 : BitVec 32 := Scalar.muli v12 c1_i32_1321
  let v1003 : BitVec 32 := Scalar.addi c0_i32_1322 v1002
  v1003.toNat
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let v1023 : Index := Scalar.indexCast v47
  let c0_1347 : Index := 0#32
  ![v1023.toNat, 0]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let v1043 : Index := Scalar.indexCast v48
  let c0_1374 : Index := 0#32
  ![v1043.toNat, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let c1_i32_1380 : BitVec 32 := 1#32
  let c2_i32_7 : BitVec 32 := 2#32
  let v14 : BitVec 32 := Scalar.divsi v4 c2_i32_7
  let v1051 : BitVec 32 := Scalar.subi c1_i32_1380 v14
  let c48_i32_1381 : BitVec 32 := 48#32
  let v1052 : BitVec 32 := Scalar.muli v1051 c48_i32_1381
  let v1053 : BitVec 32 := Scalar.addi v47 v1052
  let c0_i32_1394 : BitVec 32 := 0#32
  ![v1053.toNat, 0]
def k0_dev31 (d0 : Dev nD) : Nat :=
  let c0_i32_1391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_1390 : BitVec 32 := 1#32
  let v1057 : BitVec 32 := Scalar.muli v20 c1_i32_1390
  let v1058 : BitVec 32 := Scalar.addi c0_i32_1391 v1057
  v1058.toNat
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let c1_i32_1382 : BitVec 32 := 1#32
  let c2_i32_7 : BitVec 32 := 2#32
  let v14 : BitVec 32 := Scalar.divsi v4 c2_i32_7
  let v1054 : BitVec 32 := Scalar.subi c1_i32_1382 v14
  let c48_i32_1383 : BitVec 32 := 48#32
  let v1055 : BitVec 32 := Scalar.muli v1054 c48_i32_1383
  let v1056 : BitVec 32 := Scalar.addi v48 v1055
  let c0_i32_1405 : BitVec 32 := 0#32
  ![v1056.toNat, 0]
def k0_dev32 (d0 : Dev nD) : Nat :=
  let c0_i32_1402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_1401 : BitVec 32 := 1#32
  let v1066 : BitVec 32 := Scalar.muli v20 c1_i32_1401
  let v1067 : BitVec 32 := Scalar.addi c0_i32_1402 v1066
  v1067.toNat
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v1128 : BitVec 32 := Scalar.addi v44 v37
  let c768_i32_1495 : BitVec 32 := 768#32
  ![v1128.toNat, 768]
def k0_dev33 (d0 : Dev nD) : Nat :=
  let c0_i32_1492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_1491 : BitVec 32 := 1#32
  let v1130 : BitVec 32 := Scalar.muli v17 c1_i32_1491
  let v1131 : BitVec 32 := Scalar.addi c0_i32_1492 v1130
  v1131.toNat
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c1_i32_25 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v36 : BitVec 32 := Scalar.subi c1_i32_25 v13
  let c96_i32 : BitVec 32 := 96#32
  let v37 : BitVec 32 := Scalar.muli v36 c96_i32
  let v1129 : BitVec 32 := Scalar.addi v46 v37
  let c768_i32_1506 : BitVec 32 := 768#32
  ![v1129.toNat, 768]
def k0_dev34 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_1502 : BitVec 32 := 1#32
  let v1139 : BitVec 32 := Scalar.muli v17 c1_i32_1502
  let v1140 : BitVec 32 := Scalar.addi c0_i32_1503 v1139
  v1140.toNat
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let c2_i32_7 : BitVec 32 := 2#32
  let v14 : BitVec 32 := Scalar.divsi v4 c2_i32_7
  let c48_i32 : BitVec 32 := 48#32
  let v49 : BitVec 32 := Scalar.muli v14 c48_i32
  let v50 : BitVec 32 := Scalar.addi v47 v49
  let v1213 : Index := Scalar.indexCast v50
  let c0_1607 : Index := 0#32
  ![v1213.toNat, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let c2_i32_7 : BitVec 32 := 2#32
  let v14 : BitVec 32 := Scalar.divsi v4 c2_i32_7
  let c48_i32_33 : BitVec 32 := 48#32
  let v51 : BitVec 32 := Scalar.muli v14 c48_i32_33
  let v52 : BitVec 32 := Scalar.addi v48 v51
  let v1233 : Index := Scalar.indexCast v52
  let c0_1634 : Index := 0#32
  ![v1233.toNat, 0]
def k0_off33 (d0 : Dev nD) (c0_i32_1649 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1648 : BitVec 32 := 1#32
  let v1267 : BitVec 32 := Scalar.addi v3 c1_i32_1648
  let v1268 : BitVec 32 := Scalar.subi v1267 c0_i32_1649
  let c4_i32_1650 : BitVec 32 := 4#32
  let v1269 : BitVec 32 := Scalar.addi v1268 c4_i32_1650
  let c4_i32_1651 : BitVec 32 := 4#32
  let v1270 : BitVec 32 := Scalar.remsi v1269 c4_i32_1651
  let c384_i32_1652 : BitVec 32 := 384#32
  let v1271 : BitVec 32 := Scalar.muli v1270 c384_i32_1652
  let c0_i32_1653 : BitVec 32 := 0#32
  let v1272 : BitVec 32 := Scalar.addi v1271 c0_i32_1653
  let c4_i32_0 : BitVec 32 := 4#32
  let v4 : BitVec 32 := Scalar.divsi v2 c4_i32_0
  let c2_i32 : BitVec 32 := 2#32
  let v13 : BitVec 32 := Scalar.remsi v4 c2_i32
  let c96_i32_34 : BitVec 32 := 96#32
  let v53 : BitVec 32 := Scalar.muli v13 c96_i32_34
  let c2_i32_7 : BitVec 32 := 2#32
  let v14 : BitVec 32 := Scalar.divsi v4 c2_i32_7
  let c48_i32_35 : BitVec 32 := 48#32
  let v54 : BitVec 32 := Scalar.muli v14 c48_i32_35
  let v55 : BitVec 32 := Scalar.addi v53 v54
  let v1273 : BitVec 32 := Scalar.addi v1272 v55
  let c0_i32_1662 : BitVec 32 := 0#32
  ![v1273.toNat, 0]
def k0_dev35 (d0 : Dev nD) : Nat :=
  let c0_i32_1661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1660 : BitVec 32 := 1#32
  let v1274 : BitVec 32 := Scalar.muli v8 c1_i32_1660
  let v1275 : BitVec 32 := Scalar.addi c0_i32_1661 v1274
  v1275.toNat
def k0_off34 (d0 : Dev nD) (c0_i32_1665 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1664 : BitVec 32 := 1#32
  let v1282 : BitVec 32 := Scalar.subi v3 c1_i32_1664
  let v1283 : BitVec 32 := Scalar.addi v1282 c0_i32_1665
  let c4_i32_1666 : BitVec 32 := 4#32
  let v1284 : BitVec 32 := Scalar.addi v1283 c4_i32_1666
  let c4_i32_1667 : BitVec 32 := 4#32
  let v1285 : BitVec 32 := Scalar.remsi v1284 c4_i32_1667
  let c384_i32_1668 : BitVec 32 := 384#32
  let v1286 : BitVec 32 := Scalar.muli v1285 c384_i32_1668
  let c192_i32_1669 : BitVec 32 := 192#32
  let v1287 : BitVec 32 := Scalar.addi v1286 c192_i32_1669
  let c4_i32_0 : BitVec 32 := 4#32
  let v4 : BitVec 32 := Scalar.divsi v2 c4_i32_0
  let c2_i32 : BitVec 32 := 2#32
  let v13 : BitVec 32 := Scalar.remsi v4 c2_i32
  let c96_i32_34 : BitVec 32 := 96#32
  let v53 : BitVec 32 := Scalar.muli v13 c96_i32_34
  let c2_i32_7 : BitVec 32 := 2#32
  let v14 : BitVec 32 := Scalar.divsi v4 c2_i32_7
  let c48_i32_35 : BitVec 32 := 48#32
  let v54 : BitVec 32 := Scalar.muli v14 c48_i32_35
  let v55 : BitVec 32 := Scalar.addi v53 v54
  let v1288 : BitVec 32 := Scalar.addi v1287 v55
  let c0_i32_1678 : BitVec 32 := 0#32
  ![v1288.toNat, 0]
def k0_dev36 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_1676 : BitVec 32 := 1#32
  let v1289 : BitVec 32 := Scalar.muli v12 c1_i32_1676
  let v1290 : BitVec 32 := Scalar.addi c0_i32_1677 v1289
  v1290.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let c2_i32_7 : BitVec 32 := 2#32
  let v14 : BitVec 32 := Scalar.divsi v4 c2_i32_7
  let c48_i32 : BitVec 32 := 48#32
  let v49 : BitVec 32 := Scalar.muli v14 c48_i32
  let v50 : BitVec 32 := Scalar.addi v47 v49
  let c0_i32_1686 : BitVec 32 := 0#32
  ![v50.toNat, 0]
def k0_dev37 (d0 : Dev nD) : Nat :=
  let c0_i32_1685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_1684 : BitVec 32 := 1#32
  let v1297 : BitVec 32 := Scalar.muli v20 c1_i32_1684
  let v1298 : BitVec 32 := Scalar.addi c0_i32_1685 v1297
  v1298.toNat
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let c2_i32_7 : BitVec 32 := 2#32
  let v14 : BitVec 32 := Scalar.divsi v4 c2_i32_7
  let c48_i32_33 : BitVec 32 := 48#32
  let v51 : BitVec 32 := Scalar.muli v14 c48_i32_33
  let v52 : BitVec 32 := Scalar.addi v48 v51
  let c0_i32_1694 : BitVec 32 := 0#32
  ![v52.toNat, 0]
def k0_dev38 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_1692 : BitVec 32 := 1#32
  let v1305 : BitVec 32 := Scalar.muli v20 c1_i32_1692
  let v1306 : BitVec 32 := Scalar.addi c0_i32_1693 v1305
  v1306.toNat
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let v1325 : Index := Scalar.indexCast v47
  let c768_1717 : Index := 768#32
  ![v1325.toNat, 768]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let v1345 : Index := Scalar.indexCast v48
  let c768_1744 : Index := 768#32
  ![v1345.toNat, 768]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let c1_i32_1750 : BitVec 32 := 1#32
  let c2_i32_7 : BitVec 32 := 2#32
  let v14 : BitVec 32 := Scalar.divsi v4 c2_i32_7
  let v1353 : BitVec 32 := Scalar.subi c1_i32_1750 v14
  let c48_i32_1751 : BitVec 32 := 48#32
  let v1354 : BitVec 32 := Scalar.muli v1353 c48_i32_1751
  let v1355 : BitVec 32 := Scalar.addi v47 v1354
  let c768_i32_1764 : BitVec 32 := 768#32
  ![v1355.toNat, 768]
def k0_dev39 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_1760 : BitVec 32 := 1#32
  let v1359 : BitVec 32 := Scalar.muli v20 c1_i32_1760
  let v1360 : BitVec 32 := Scalar.addi c0_i32_1761 v1359
  v1360.toNat
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let c1_i32_1752 : BitVec 32 := 1#32
  let c2_i32_7 : BitVec 32 := 2#32
  let v14 : BitVec 32 := Scalar.divsi v4 c2_i32_7
  let v1356 : BitVec 32 := Scalar.subi c1_i32_1752 v14
  let c48_i32_1753 : BitVec 32 := 48#32
  let v1357 : BitVec 32 := Scalar.muli v1356 c48_i32_1753
  let v1358 : BitVec 32 := Scalar.addi v48 v1357
  let c768_i32_1775 : BitVec 32 := 768#32
  ![v1358.toNat, 768]
def k0_dev40 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_1771 : BitVec 32 := 1#32
  let v1368 : BitVec 32 := Scalar.muli v20 c1_i32_1771
  let v1369 : BitVec 32 := Scalar.addi c0_i32_1772 v1368
  v1369.toNat
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let c0_i32_1812 : BitVec 32 := 0#32
  ![v47.toNat, 0]
def k0_dev41 (d0 : Dev nD) : Nat :=
  let c0_i32_1811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_1810 : BitVec 32 := 1#32
  let v1397 : BitVec 32 := Scalar.muli v17 c1_i32_1810
  let v1398 : BitVec 32 := Scalar.addi c0_i32_1811 v1397
  v1398.toNat
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let c0_i32_1820 : BitVec 32 := 0#32
  ![v48.toNat, 0]
def k0_dev42 (d0 : Dev nD) : Nat :=
  let c0_i32_1819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_1818 : BitVec 32 := 1#32
  let v1405 : BitVec 32 := Scalar.muli v17 c1_i32_1818
  let v1406 : BitVec 32 := Scalar.addi c0_i32_1819 v1405
  v1406.toNat
def k0_off43 (d0 : Dev nD) (c0_i32_1823 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1822 : BitVec 32 := 1#32
  let v1413 : BitVec 32 := Scalar.addi v3 c1_i32_1822
  let v1414 : BitVec 32 := Scalar.subi v1413 c0_i32_1823
  let c4_i32_1824 : BitVec 32 := 4#32
  let v1415 : BitVec 32 := Scalar.addi v1414 c4_i32_1824
  let c4_i32_1825 : BitVec 32 := 4#32
  let v1416 : BitVec 32 := Scalar.remsi v1415 c4_i32_1825
  let c384_i32_1826 : BitVec 32 := 384#32
  let v1417 : BitVec 32 := Scalar.muli v1416 c384_i32_1826
  let c0_i32_1827 : BitVec 32 := 0#32
  let v1418 : BitVec 32 := Scalar.addi v1417 c0_i32_1827
  let c4_i32_0 : BitVec 32 := 4#32
  let v4 : BitVec 32 := Scalar.divsi v2 c4_i32_0
  let c2_i32 : BitVec 32 := 2#32
  let v13 : BitVec 32 := Scalar.remsi v4 c2_i32
  let c96_i32_36 : BitVec 32 := 96#32
  let v56 : BitVec 32 := Scalar.muli v13 c96_i32_36
  let c1_i32_37 : BitVec 32 := 1#32
  let c2_i32_7 : BitVec 32 := 2#32
  let v14 : BitVec 32 := Scalar.divsi v4 c2_i32_7
  let v57 : BitVec 32 := Scalar.subi c1_i32_37 v14
  let c48_i32_38 : BitVec 32 := 48#32
  let v58 : BitVec 32 := Scalar.muli v57 c48_i32_38
  let v59 : BitVec 32 := Scalar.addi v56 v58
  let v1419 : BitVec 32 := Scalar.addi v1418 v59
  let c0_i32_1836 : BitVec 32 := 0#32
  ![v1419.toNat, 0]
def k0_dev43 (d0 : Dev nD) : Nat :=
  let c0_i32_1835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1834 : BitVec 32 := 1#32
  let v1420 : BitVec 32 := Scalar.muli v8 c1_i32_1834
  let v1421 : BitVec 32 := Scalar.addi c0_i32_1835 v1420
  v1421.toNat
def k0_off44 (d0 : Dev nD) (c0_i32_1839 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1838 : BitVec 32 := 1#32
  let v1428 : BitVec 32 := Scalar.subi v3 c1_i32_1838
  let v1429 : BitVec 32 := Scalar.addi v1428 c0_i32_1839
  let c4_i32_1840 : BitVec 32 := 4#32
  let v1430 : BitVec 32 := Scalar.addi v1429 c4_i32_1840
  let c4_i32_1841 : BitVec 32 := 4#32
  let v1431 : BitVec 32 := Scalar.remsi v1430 c4_i32_1841
  let c384_i32_1842 : BitVec 32 := 384#32
  let v1432 : BitVec 32 := Scalar.muli v1431 c384_i32_1842
  let c192_i32_1843 : BitVec 32 := 192#32
  let v1433 : BitVec 32 := Scalar.addi v1432 c192_i32_1843
  let c4_i32_0 : BitVec 32 := 4#32
  let v4 : BitVec 32 := Scalar.divsi v2 c4_i32_0
  let c2_i32 : BitVec 32 := 2#32
  let v13 : BitVec 32 := Scalar.remsi v4 c2_i32
  let c96_i32_36 : BitVec 32 := 96#32
  let v56 : BitVec 32 := Scalar.muli v13 c96_i32_36
  let c1_i32_37 : BitVec 32 := 1#32
  let c2_i32_7 : BitVec 32 := 2#32
  let v14 : BitVec 32 := Scalar.divsi v4 c2_i32_7
  let v57 : BitVec 32 := Scalar.subi c1_i32_37 v14
  let c48_i32_38 : BitVec 32 := 48#32
  let v58 : BitVec 32 := Scalar.muli v57 c48_i32_38
  let v59 : BitVec 32 := Scalar.addi v56 v58
  let v1434 : BitVec 32 := Scalar.addi v1433 v59
  let c0_i32_1852 : BitVec 32 := 0#32
  ![v1434.toNat, 0]
def k0_dev44 (d0 : Dev nD) : Nat :=
  let c0_i32_1851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_1850 : BitVec 32 := 1#32
  let v1435 : BitVec 32 := Scalar.muli v12 c1_i32_1850
  let v1436 : BitVec 32 := Scalar.addi c0_i32_1851 v1435
  v1436.toNat
def k0_dev45 (d0 : Dev nD) : Nat :=
  let c0_i32_1886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1885 : BitVec 32 := 1#32
  let v1460 : BitVec 32 := Scalar.muli v8 c1_i32_1885
  let v1461 : BitVec 32 := Scalar.addi c0_i32_1886 v1460
  v1461.toNat
def k0_dev46 (d0 : Dev nD) : Nat :=
  let c0_i32_1921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_1920 : BitVec 32 := 1#32
  let v1485 : BitVec 32 := Scalar.muli v12 c1_i32_1920
  let v1486 : BitVec 32 := Scalar.addi c0_i32_1921 v1485
  v1486.toNat
def k0_dev47 (d0 : Dev nD) : Nat :=
  let c0_i32_1956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1955 : BitVec 32 := 1#32
  let v1510 : BitVec 32 := Scalar.muli v8 c1_i32_1955
  let v1511 : BitVec 32 := Scalar.addi c0_i32_1956 v1510
  v1511.toNat
def k0_dev48 (d0 : Dev nD) : Nat :=
  let c0_i32_1991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_1990 : BitVec 32 := 1#32
  let v1535 : BitVec 32 := Scalar.muli v12 c1_i32_1990
  let v1536 : BitVec 32 := Scalar.addi c0_i32_1991 v1535
  v1536.toNat
def k0_dev49 (d0 : Dev nD) : Nat :=
  let c0_i32_2026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2025 : BitVec 32 := 1#32
  let v1560 : BitVec 32 := Scalar.muli v8 c1_i32_2025
  let v1561 : BitVec 32 := Scalar.addi c0_i32_2026 v1560
  v1561.toNat
def k0_dev50 (d0 : Dev nD) : Nat :=
  let c0_i32_2061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2060 : BitVec 32 := 1#32
  let v1585 : BitVec 32 := Scalar.muli v12 c1_i32_2060
  let v1586 : BitVec 32 := Scalar.addi c0_i32_2061 v1585
  v1586.toNat
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let c2_i32_7 : BitVec 32 := 2#32
  let v14 : BitVec 32 := Scalar.divsi v4 c2_i32_7
  let c48_i32 : BitVec 32 := 48#32
  let v49 : BitVec 32 := Scalar.muli v14 c48_i32
  let v50 : BitVec 32 := Scalar.addi v47 v49
  let v1605 : Index := Scalar.indexCast v50
  let c768_2085 : Index := 768#32
  ![v1605.toNat, 768]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let c2_i32_7 : BitVec 32 := 2#32
  let v14 : BitVec 32 := Scalar.divsi v4 c2_i32_7
  let c48_i32_33 : BitVec 32 := 48#32
  let v51 : BitVec 32 := Scalar.muli v14 c48_i32_33
  let v52 : BitVec 32 := Scalar.addi v48 v51
  let v1625 : Index := Scalar.indexCast v52
  let c768_2112 : Index := 768#32
  ![v1625.toNat, 768]
def k0_off47 (d0 : Dev nD) (c0_i32_2127 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_2126 : BitVec 32 := 1#32
  let v1659 : BitVec 32 := Scalar.addi v3 c1_i32_2126
  let v1660 : BitVec 32 := Scalar.subi v1659 c0_i32_2127
  let c4_i32_2128 : BitVec 32 := 4#32
  let v1661 : BitVec 32 := Scalar.addi v1660 c4_i32_2128
  let c4_i32_2129 : BitVec 32 := 4#32
  let v1662 : BitVec 32 := Scalar.remsi v1661 c4_i32_2129
  let c384_i32_2130 : BitVec 32 := 384#32
  let v1663 : BitVec 32 := Scalar.muli v1662 c384_i32_2130
  let c0_i32_2131 : BitVec 32 := 0#32
  let v1664 : BitVec 32 := Scalar.addi v1663 c0_i32_2131
  let c4_i32_0 : BitVec 32 := 4#32
  let v4 : BitVec 32 := Scalar.divsi v2 c4_i32_0
  let c2_i32 : BitVec 32 := 2#32
  let v13 : BitVec 32 := Scalar.remsi v4 c2_i32
  let c96_i32_34 : BitVec 32 := 96#32
  let v53 : BitVec 32 := Scalar.muli v13 c96_i32_34
  let c2_i32_7 : BitVec 32 := 2#32
  let v14 : BitVec 32 := Scalar.divsi v4 c2_i32_7
  let c48_i32_35 : BitVec 32 := 48#32
  let v54 : BitVec 32 := Scalar.muli v14 c48_i32_35
  let v55 : BitVec 32 := Scalar.addi v53 v54
  let v1665 : BitVec 32 := Scalar.addi v1664 v55
  let c768_i32_2140 : BitVec 32 := 768#32
  ![v1665.toNat, 768]
def k0_dev51 (d0 : Dev nD) : Nat :=
  let c0_i32_2139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2138 : BitVec 32 := 1#32
  let v1666 : BitVec 32 := Scalar.muli v8 c1_i32_2138
  let v1667 : BitVec 32 := Scalar.addi c0_i32_2139 v1666
  v1667.toNat
def k0_off48 (d0 : Dev nD) (c0_i32_2143 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_2142 : BitVec 32 := 1#32
  let v1674 : BitVec 32 := Scalar.subi v3 c1_i32_2142
  let v1675 : BitVec 32 := Scalar.addi v1674 c0_i32_2143
  let c4_i32_2144 : BitVec 32 := 4#32
  let v1676 : BitVec 32 := Scalar.addi v1675 c4_i32_2144
  let c4_i32_2145 : BitVec 32 := 4#32
  let v1677 : BitVec 32 := Scalar.remsi v1676 c4_i32_2145
  let c384_i32_2146 : BitVec 32 := 384#32
  let v1678 : BitVec 32 := Scalar.muli v1677 c384_i32_2146
  let c192_i32_2147 : BitVec 32 := 192#32
  let v1679 : BitVec 32 := Scalar.addi v1678 c192_i32_2147
  let c4_i32_0 : BitVec 32 := 4#32
  let v4 : BitVec 32 := Scalar.divsi v2 c4_i32_0
  let c2_i32 : BitVec 32 := 2#32
  let v13 : BitVec 32 := Scalar.remsi v4 c2_i32
  let c96_i32_34 : BitVec 32 := 96#32
  let v53 : BitVec 32 := Scalar.muli v13 c96_i32_34
  let c2_i32_7 : BitVec 32 := 2#32
  let v14 : BitVec 32 := Scalar.divsi v4 c2_i32_7
  let c48_i32_35 : BitVec 32 := 48#32
  let v54 : BitVec 32 := Scalar.muli v14 c48_i32_35
  let v55 : BitVec 32 := Scalar.addi v53 v54
  let v1680 : BitVec 32 := Scalar.addi v1679 v55
  let c768_i32_2156 : BitVec 32 := 768#32
  ![v1680.toNat, 768]
def k0_dev52 (d0 : Dev nD) : Nat :=
  let c0_i32_2155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2154 : BitVec 32 := 1#32
  let v1681 : BitVec 32 := Scalar.muli v12 c1_i32_2154
  let v1682 : BitVec 32 := Scalar.addi c0_i32_2155 v1681
  v1682.toNat
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let c2_i32_7 : BitVec 32 := 2#32
  let v14 : BitVec 32 := Scalar.divsi v4 c2_i32_7
  let c48_i32 : BitVec 32 := 48#32
  let v49 : BitVec 32 := Scalar.muli v14 c48_i32
  let v50 : BitVec 32 := Scalar.addi v47 v49
  let c768_i32_2164 : BitVec 32 := 768#32
  ![v50.toNat, 768]
def k0_dev53 (d0 : Dev nD) : Nat :=
  let c0_i32_2163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_2162 : BitVec 32 := 1#32
  let v1689 : BitVec 32 := Scalar.muli v20 c1_i32_2162
  let v1690 : BitVec 32 := Scalar.addi c0_i32_2163 v1689
  v1690.toNat
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let c2_i32_7 : BitVec 32 := 2#32
  let v14 : BitVec 32 := Scalar.divsi v4 c2_i32_7
  let c48_i32_33 : BitVec 32 := 48#32
  let v51 : BitVec 32 := Scalar.muli v14 c48_i32_33
  let v52 : BitVec 32 := Scalar.addi v48 v51
  let c768_i32_2172 : BitVec 32 := 768#32
  ![v52.toNat, 768]
def k0_dev54 (d0 : Dev nD) : Nat :=
  let c0_i32_2171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_9 : BitVec 32 := 8#32
  let v18 : BitVec 32 := Scalar.addi v2 c8_i32_9
  let c16_i32_10 : BitVec 32 := 16#32
  let c4_i32_0 : BitVec 32 := 4#32
  let v4 : BitVec 32 := Scalar.divsi v2 c4_i32_0
  let c2_i32_7 : BitVec 32 := 2#32
  let v14 : BitVec 32 := Scalar.divsi v4 c2_i32_7
  let v19 : BitVec 32 := Scalar.muli c16_i32_10 v14
  let v20 : BitVec 32 := Scalar.subi v18 v19
  let c1_i32_2170 : BitVec 32 := 1#32
  let v1697 : BitVec 32 := Scalar.muli v20 c1_i32_2170
  let v1698 : BitVec 32 := Scalar.addi c0_i32_2171 v1697
  v1698.toNat
def k0_off51 (d0 : Dev nD) (c0_i32_2205 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_2204 : BitVec 32 := 1#32
  let v1725 : BitVec 32 := Scalar.addi v3 c1_i32_2204
  let v1726 : BitVec 32 := Scalar.subi v1725 c0_i32_2205
  let c4_i32_2206 : BitVec 32 := 4#32
  let v1727 : BitVec 32 := Scalar.addi v1726 c4_i32_2206
  let c4_i32_2207 : BitVec 32 := 4#32
  let v1728 : BitVec 32 := Scalar.remsi v1727 c4_i32_2207
  let c384_i32_2208 : BitVec 32 := 384#32
  let v1729 : BitVec 32 := Scalar.muli v1728 c384_i32_2208
  let c0_i32_2209 : BitVec 32 := 0#32
  let v1730 : BitVec 32 := Scalar.addi v1729 c0_i32_2209
  let c1_i32_39 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v60 : BitVec 32 := Scalar.subi c1_i32_39 v13
  let c96_i32_40 : BitVec 32 := 96#32
  let v61 : BitVec 32 := Scalar.muli v60 c96_i32_40
  let v1731 : BitVec 32 := Scalar.addi v1730 v61
  let c0_i32_2218 : BitVec 32 := 0#32
  ![v1731.toNat, 0]
def k0_dev55 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2216 : BitVec 32 := 1#32
  let v1732 : BitVec 32 := Scalar.muli v8 c1_i32_2216
  let v1733 : BitVec 32 := Scalar.addi c0_i32_2217 v1732
  v1733.toNat
def k0_off52 (d0 : Dev nD) (c0_i32_2221 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_2220 : BitVec 32 := 1#32
  let v1740 : BitVec 32 := Scalar.subi v3 c1_i32_2220
  let v1741 : BitVec 32 := Scalar.addi v1740 c0_i32_2221
  let c4_i32_2222 : BitVec 32 := 4#32
  let v1742 : BitVec 32 := Scalar.addi v1741 c4_i32_2222
  let c4_i32_2223 : BitVec 32 := 4#32
  let v1743 : BitVec 32 := Scalar.remsi v1742 c4_i32_2223
  let c384_i32_2224 : BitVec 32 := 384#32
  let v1744 : BitVec 32 := Scalar.muli v1743 c384_i32_2224
  let c192_i32_2225 : BitVec 32 := 192#32
  let v1745 : BitVec 32 := Scalar.addi v1744 c192_i32_2225
  let c1_i32_39 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v60 : BitVec 32 := Scalar.subi c1_i32_39 v13
  let c96_i32_40 : BitVec 32 := 96#32
  let v61 : BitVec 32 := Scalar.muli v60 c96_i32_40
  let v1746 : BitVec 32 := Scalar.addi v1745 v61
  let c0_i32_2233 : BitVec 32 := 0#32
  ![v1746.toNat, 0]
def k0_dev56 (d0 : Dev nD) : Nat :=
  let c0_i32_2232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2231 : BitVec 32 := 1#32
  let v1747 : BitVec 32 := Scalar.muli v12 c1_i32_2231
  let v1748 : BitVec 32 := Scalar.addi c0_i32_2232 v1747
  v1748.toNat
def k0_dev57 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2266 : BitVec 32 := 1#32
  let v1772 : BitVec 32 := Scalar.muli v8 c1_i32_2266
  let v1773 : BitVec 32 := Scalar.addi c0_i32_2267 v1772
  v1773.toNat
def k0_dev58 (d0 : Dev nD) : Nat :=
  let c0_i32_2302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2301 : BitVec 32 := 1#32
  let v1797 : BitVec 32 := Scalar.muli v12 c1_i32_2301
  let v1798 : BitVec 32 := Scalar.addi c0_i32_2302 v1797
  v1798.toNat
def k0_dev59 (d0 : Dev nD) : Nat :=
  let c0_i32_2375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2374 : BitVec 32 := 1#32
  let v1842 : BitVec 32 := Scalar.muli v8 c1_i32_2374
  let v1843 : BitVec 32 := Scalar.addi c0_i32_2375 v1842
  v1843.toNat
def k0_dev60 (d0 : Dev nD) : Nat :=
  let c0_i32_2410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2409 : BitVec 32 := 1#32
  let v1867 : BitVec 32 := Scalar.muli v12 c1_i32_2409
  let v1868 : BitVec 32 := Scalar.addi c0_i32_2410 v1867
  v1868.toNat
def k0_dev61 (d0 : Dev nD) : Nat :=
  let c0_i32_2483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2482 : BitVec 32 := 1#32
  let v1912 : BitVec 32 := Scalar.muli v8 c1_i32_2482
  let v1913 : BitVec 32 := Scalar.addi c0_i32_2483 v1912
  v1913.toNat
def k0_dev62 (d0 : Dev nD) : Nat :=
  let c0_i32_2518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2517 : BitVec 32 := 1#32
  let v1937 : BitVec 32 := Scalar.muli v12 c1_i32_2517
  let v1938 : BitVec 32 := Scalar.addi c0_i32_2518 v1937
  v1938.toNat
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_27 : BitVec 32 := 1#32
  let v39 : BitVec 32 := Scalar.addi v3 c1_i32_27
  let c4_i32_28 : BitVec 32 := 4#32
  let v40 : BitVec 32 := Scalar.remsi v39 c4_i32_28
  let c384_i32 : BitVec 32 := 384#32
  let v44 : BitVec 32 := Scalar.muli v40 c384_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v47 : BitVec 32 := Scalar.addi v44 v38
  let c768_i32_2595 : BitVec 32 := 768#32
  ![v47.toNat, 768]
def k0_dev63 (d0 : Dev nD) : Nat :=
  let c0_i32_2594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_2593 : BitVec 32 := 1#32
  let v1985 : BitVec 32 := Scalar.muli v17 c1_i32_2593
  let v1986 : BitVec 32 := Scalar.addi c0_i32_2594 v1985
  v1986.toNat
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c4_i32_29 : BitVec 32 := 4#32
  let v41 : BitVec 32 := Scalar.addi v3 c4_i32_29
  let c1_i32_30 : BitVec 32 := 1#32
  let v42 : BitVec 32 := Scalar.subi v41 c1_i32_30
  let c4_i32_31 : BitVec 32 := 4#32
  let v43 : BitVec 32 := Scalar.remsi v42 c4_i32_31
  let c384_i32_32 : BitVec 32 := 384#32
  let v45 : BitVec 32 := Scalar.muli v43 c384_i32_32
  let c192_i32 : BitVec 32 := 192#32
  let v46 : BitVec 32 := Scalar.addi v45 c192_i32
  let c4_i32_0 : BitVec 32 := 4#32
  let v4 : BitVec 32 := Scalar.divsi v2 c4_i32_0
  let c2_i32 : BitVec 32 := 2#32
  let v13 : BitVec 32 := Scalar.remsi v4 c2_i32
  let c96_i32_26 : BitVec 32 := 96#32
  let v38 : BitVec 32 := Scalar.muli v13 c96_i32_26
  let v48 : BitVec 32 := Scalar.addi v46 v38
  let c768_i32_2603 : BitVec 32 := 768#32
  ![v48.toNat, 768]
def k0_dev64 (d0 : Dev nD) : Nat :=
  let c0_i32_2602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8 : BitVec 32 := 4#32
  let v15 : BitVec 32 := Scalar.addi v2 c4_i32_8
  let c8_i32 : BitVec 32 := 8#32
  let c4_i32_0 : BitVec 32 := 4#32
  let v4 : BitVec 32 := Scalar.divsi v2 c4_i32_0
  let c2_i32 : BitVec 32 := 2#32
  let v13 : BitVec 32 := Scalar.remsi v4 c2_i32
  let v16 : BitVec 32 := Scalar.muli c8_i32 v13
  let v17 : BitVec 32 := Scalar.subi v15 v16
  let c1_i32_2601 : BitVec 32 := 1#32
  let v1993 : BitVec 32 := Scalar.muli v17 c1_i32_2601
  let v1994 : BitVec 32 := Scalar.addi c0_i32_2602 v1993
  v1994.toNat
def k0_off55 (d0 : Dev nD) (c0_i32_2606 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_2605 : BitVec 32 := 1#32
  let v2001 : BitVec 32 := Scalar.addi v3 c1_i32_2605
  let v2002 : BitVec 32 := Scalar.subi v2001 c0_i32_2606
  let c4_i32_2607 : BitVec 32 := 4#32
  let v2003 : BitVec 32 := Scalar.addi v2002 c4_i32_2607
  let c4_i32_2608 : BitVec 32 := 4#32
  let v2004 : BitVec 32 := Scalar.remsi v2003 c4_i32_2608
  let c384_i32_2609 : BitVec 32 := 384#32
  let v2005 : BitVec 32 := Scalar.muli v2004 c384_i32_2609
  let c0_i32_2610 : BitVec 32 := 0#32
  let v2006 : BitVec 32 := Scalar.addi v2005 c0_i32_2610
  let c4_i32_0 : BitVec 32 := 4#32
  let v4 : BitVec 32 := Scalar.divsi v2 c4_i32_0
  let c2_i32 : BitVec 32 := 2#32
  let v13 : BitVec 32 := Scalar.remsi v4 c2_i32
  let c96_i32_36 : BitVec 32 := 96#32
  let v56 : BitVec 32 := Scalar.muli v13 c96_i32_36
  let c1_i32_37 : BitVec 32 := 1#32
  let c2_i32_7 : BitVec 32 := 2#32
  let v14 : BitVec 32 := Scalar.divsi v4 c2_i32_7
  let v57 : BitVec 32 := Scalar.subi c1_i32_37 v14
  let c48_i32_38 : BitVec 32 := 48#32
  let v58 : BitVec 32 := Scalar.muli v57 c48_i32_38
  let v59 : BitVec 32 := Scalar.addi v56 v58
  let v2007 : BitVec 32 := Scalar.addi v2006 v59
  let c768_i32_2619 : BitVec 32 := 768#32
  ![v2007.toNat, 768]
def k0_dev65 (d0 : Dev nD) : Nat :=
  let c0_i32_2618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2617 : BitVec 32 := 1#32
  let v2008 : BitVec 32 := Scalar.muli v8 c1_i32_2617
  let v2009 : BitVec 32 := Scalar.addi c0_i32_2618 v2008
  v2009.toNat
def k0_off56 (d0 : Dev nD) (c0_i32_2622 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_2621 : BitVec 32 := 1#32
  let v2016 : BitVec 32 := Scalar.subi v3 c1_i32_2621
  let v2017 : BitVec 32 := Scalar.addi v2016 c0_i32_2622
  let c4_i32_2623 : BitVec 32 := 4#32
  let v2018 : BitVec 32 := Scalar.addi v2017 c4_i32_2623
  let c4_i32_2624 : BitVec 32 := 4#32
  let v2019 : BitVec 32 := Scalar.remsi v2018 c4_i32_2624
  let c384_i32_2625 : BitVec 32 := 384#32
  let v2020 : BitVec 32 := Scalar.muli v2019 c384_i32_2625
  let c192_i32_2626 : BitVec 32 := 192#32
  let v2021 : BitVec 32 := Scalar.addi v2020 c192_i32_2626
  let c4_i32_0 : BitVec 32 := 4#32
  let v4 : BitVec 32 := Scalar.divsi v2 c4_i32_0
  let c2_i32 : BitVec 32 := 2#32
  let v13 : BitVec 32 := Scalar.remsi v4 c2_i32
  let c96_i32_36 : BitVec 32 := 96#32
  let v56 : BitVec 32 := Scalar.muli v13 c96_i32_36
  let c1_i32_37 : BitVec 32 := 1#32
  let c2_i32_7 : BitVec 32 := 2#32
  let v14 : BitVec 32 := Scalar.divsi v4 c2_i32_7
  let v57 : BitVec 32 := Scalar.subi c1_i32_37 v14
  let c48_i32_38 : BitVec 32 := 48#32
  let v58 : BitVec 32 := Scalar.muli v57 c48_i32_38
  let v59 : BitVec 32 := Scalar.addi v56 v58
  let v2022 : BitVec 32 := Scalar.addi v2021 v59
  let c768_i32_2635 : BitVec 32 := 768#32
  ![v2022.toNat, 768]
def k0_dev66 (d0 : Dev nD) : Nat :=
  let c0_i32_2634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2633 : BitVec 32 := 1#32
  let v2023 : BitVec 32 := Scalar.muli v12 c1_i32_2633
  let v2024 : BitVec 32 := Scalar.addi c0_i32_2634 v2023
  v2024.toNat
def k0_dev67 (d0 : Dev nD) : Nat :=
  let c0_i32_2669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2668 : BitVec 32 := 1#32
  let v2048 : BitVec 32 := Scalar.muli v8 c1_i32_2668
  let v2049 : BitVec 32 := Scalar.addi c0_i32_2669 v2048
  v2049.toNat
def k0_dev68 (d0 : Dev nD) : Nat :=
  let c0_i32_2704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2703 : BitVec 32 := 1#32
  let v2073 : BitVec 32 := Scalar.muli v12 c1_i32_2703
  let v2074 : BitVec 32 := Scalar.addi c0_i32_2704 v2073
  v2074.toNat
def k0_dev69 (d0 : Dev nD) : Nat :=
  let c0_i32_2739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2738 : BitVec 32 := 1#32
  let v2098 : BitVec 32 := Scalar.muli v8 c1_i32_2738
  let v2099 : BitVec 32 := Scalar.addi c0_i32_2739 v2098
  v2099.toNat
def k0_dev70 (d0 : Dev nD) : Nat :=
  let c0_i32_2774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2773 : BitVec 32 := 1#32
  let v2123 : BitVec 32 := Scalar.muli v12 c1_i32_2773
  let v2124 : BitVec 32 := Scalar.addi c0_i32_2774 v2123
  v2124.toNat
def k0_dev71 (d0 : Dev nD) : Nat :=
  let c0_i32_2809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2808 : BitVec 32 := 1#32
  let v2148 : BitVec 32 := Scalar.muli v8 c1_i32_2808
  let v2149 : BitVec 32 := Scalar.addi c0_i32_2809 v2148
  v2149.toNat
def k0_dev72 (d0 : Dev nD) : Nat :=
  let c0_i32_2844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2843 : BitVec 32 := 1#32
  let v2173 : BitVec 32 := Scalar.muli v12 c1_i32_2843
  let v2174 : BitVec 32 := Scalar.addi c0_i32_2844 v2173
  v2174.toNat
def k0_off57 (d0 : Dev nD) (c0_i32_2878 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_2877 : BitVec 32 := 1#32
  let v2201 : BitVec 32 := Scalar.addi v3 c1_i32_2877
  let v2202 : BitVec 32 := Scalar.subi v2201 c0_i32_2878
  let c4_i32_2879 : BitVec 32 := 4#32
  let v2203 : BitVec 32 := Scalar.addi v2202 c4_i32_2879
  let c4_i32_2880 : BitVec 32 := 4#32
  let v2204 : BitVec 32 := Scalar.remsi v2203 c4_i32_2880
  let c384_i32_2881 : BitVec 32 := 384#32
  let v2205 : BitVec 32 := Scalar.muli v2204 c384_i32_2881
  let c0_i32_2882 : BitVec 32 := 0#32
  let v2206 : BitVec 32 := Scalar.addi v2205 c0_i32_2882
  let c1_i32_39 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v60 : BitVec 32 := Scalar.subi c1_i32_39 v13
  let c96_i32_40 : BitVec 32 := 96#32
  let v61 : BitVec 32 := Scalar.muli v60 c96_i32_40
  let v2207 : BitVec 32 := Scalar.addi v2206 v61
  let c768_i32_2891 : BitVec 32 := 768#32
  ![v2207.toNat, 768]
def k0_dev73 (d0 : Dev nD) : Nat :=
  let c0_i32_2890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2889 : BitVec 32 := 1#32
  let v2208 : BitVec 32 := Scalar.muli v8 c1_i32_2889
  let v2209 : BitVec 32 := Scalar.addi c0_i32_2890 v2208
  v2209.toNat
def k0_off58 (d0 : Dev nD) (c0_i32_2894 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_2893 : BitVec 32 := 1#32
  let v2216 : BitVec 32 := Scalar.subi v3 c1_i32_2893
  let v2217 : BitVec 32 := Scalar.addi v2216 c0_i32_2894
  let c4_i32_2895 : BitVec 32 := 4#32
  let v2218 : BitVec 32 := Scalar.addi v2217 c4_i32_2895
  let c4_i32_2896 : BitVec 32 := 4#32
  let v2219 : BitVec 32 := Scalar.remsi v2218 c4_i32_2896
  let c384_i32_2897 : BitVec 32 := 384#32
  let v2220 : BitVec 32 := Scalar.muli v2219 c384_i32_2897
  let c192_i32_2898 : BitVec 32 := 192#32
  let v2221 : BitVec 32 := Scalar.addi v2220 c192_i32_2898
  let c1_i32_39 : BitVec 32 := 1#32
  let c4_i32_0 : BitVec 32 := 4#32
  let v4 : BitVec 32 := Scalar.divsi v2 c4_i32_0
  let c2_i32 : BitVec 32 := 2#32
  let v13 : BitVec 32 := Scalar.remsi v4 c2_i32
  let v60 : BitVec 32 := Scalar.subi c1_i32_39 v13
  let c96_i32_40 : BitVec 32 := 96#32
  let v61 : BitVec 32 := Scalar.muli v60 c96_i32_40
  let v2222 : BitVec 32 := Scalar.addi v2221 v61
  let c768_i32_2907 : BitVec 32 := 768#32
  ![v2222.toNat, 768]
def k0_dev74 (d0 : Dev nD) : Nat :=
  let c0_i32_2906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2905 : BitVec 32 := 1#32
  let v2223 : BitVec 32 := Scalar.muli v12 c1_i32_2905
  let v2224 : BitVec 32 := Scalar.addi c0_i32_2906 v2223
  v2224.toNat
def k0_dev75 (d0 : Dev nD) : Nat :=
  let c0_i32_2941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_2940 : BitVec 32 := 1#32
  let v2248 : BitVec 32 := Scalar.muli v8 c1_i32_2940
  let v2249 : BitVec 32 := Scalar.addi c0_i32_2941 v2248
  v2249.toNat
def k0_dev76 (d0 : Dev nD) : Nat :=
  let c0_i32_2976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_2975 : BitVec 32 := 1#32
  let v2273 : BitVec 32 := Scalar.muli v12 c1_i32_2975
  let v2274 : BitVec 32 := Scalar.addi c0_i32_2976 v2273
  v2274.toNat
def k0_dev77 (d0 : Dev nD) : Nat :=
  let c0_i32_3049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_3048 : BitVec 32 := 1#32
  let v2318 : BitVec 32 := Scalar.muli v8 c1_i32_3048
  let v2319 : BitVec 32 := Scalar.addi c0_i32_3049 v2318
  v2319.toNat
def k0_dev78 (d0 : Dev nD) : Nat :=
  let c0_i32_3084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_3083 : BitVec 32 := 1#32
  let v2343 : BitVec 32 := Scalar.muli v12 c1_i32_3083
  let v2344 : BitVec 32 := Scalar.addi c0_i32_3084 v2343
  v2344.toNat
def k0_dev79 (d0 : Dev nD) : Nat :=
  let c0_i32_3157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_3156 : BitVec 32 := 1#32
  let v2388 : BitVec 32 := Scalar.muli v8 c1_i32_3156
  let v2389 : BitVec 32 := Scalar.addi c0_i32_3157 v2388
  v2389.toNat
def k0_dev80 (d0 : Dev nD) : Nat :=
  let c0_i32_3192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_4 : BitVec 32 := 4#32
  let v9 : BitVec 32 := Scalar.addi v3 c4_i32_4
  let c1_i32_5 : BitVec 32 := 1#32
  let v10 : BitVec 32 := Scalar.subi v9 c1_i32_5
  let c4_i32_6 : BitVec 32 := 4#32
  let v11 : BitVec 32 := Scalar.remsi v10 c4_i32_6
  let v12 : BitVec 32 := Scalar.addi v5 v11
  let c1_i32_3191 : BitVec 32 := 1#32
  let v2413 : BitVec 32 := Scalar.muli v12 c1_i32_3191
  let v2414 : BitVec 32 := Scalar.addi c0_i32_3192 v2413
  v2414.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x12288 : Shape := ⟨2, ![1536, 12288]⟩
abbrev S12288x1536 : Shape := ⟨2, ![12288, 1536]⟩
abbrev S1536x1536 : Shape := ⟨2, ![1536, 1536]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1536x12288, .f32⟩
  | .hbm, ⟨1, _⟩ => ⟨S12288x1536, .f32⟩
  | .hbm, ⟨2, _⟩ => ⟨S1536x1536, .f32⟩
  | .hbm, ⟨3, _⟩ => ⟨S1536x1536, .f32⟩
  | .hbm, ⟨4, _⟩ => ⟨S1536x1536, .f32⟩
  | .hbm, ⟨5, _⟩ => ⟨S_, .f32⟩
  | .hbm, ⟨6, _⟩ => ⟨S1536x1536, .f32⟩
  | .hbm, ⟨7, _⟩ => ⟨S1536x1536, .f32⟩
  | .hbm, ⟨8, _⟩ => ⟨S1536x1536, .f32⟩
  | .hbm, ⟨9, _⟩ => ⟨S1536x1536, .bf16⟩
  | _, _ => ⟨S1536x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Table.lean ====
/-
# The kernel's protocol, as data

One program runs on sixteen devices: four rings of four (`w`), the rings paired by two exchanges (`b1`, `b2`).
Everything is written RELATIVE to the device that runs: a piece of memory names the neighbour whose memory it is
(`dir`), and a piece of the result names its row chunk by the distance `k` round the ring, its half `h`, its
quarter `q` and eighth `e` as "mine" (0) or "the partner's" (1). The program is then one list of abstract steps,
`ops`, the same for all devices, and `run` checks that each step finds the pieces it needs.
-/
module

public import Mathlib.Data.List.Basic

@[expose] public section

namespace Cert.Prot

/-- A piece of memory, or a credit.

`kind` 0: rows of the result buffer; 1: a slot of the ring buffer (`k` the message kind, `q` the step);
2, 3: a slot of the two exchange buffers; 4, 5: the operands; 6: the narrowed right operand; 7: the credit of a
copy in flight whose send cell is `k`; 8: a slab of 384 rows of the result, `k` chunks after the device's own.

`dir`: 0 own, 1 the next device of the ring, 2 the one before, 3 and 4 the partners of the two exchanges.
`tag`: 0 any contents; in the result 1 to 4 the ring sum after that many terms, 5 and 6 after the exchanges,
7 the result. `sh`: 0 the full share, 1 and 2 its halves. -/
structure Item where
  kind : ℕ
  dir : ℕ
  g : ℕ
  h : ℕ
  k : ℕ
  q : ℕ
  e : ℕ
  tag : ℕ
  sh : ℕ
deriving DecidableEq

/-- Rows of the result buffer. -/
def out (dir g h k q e tag sh : ℕ) : Item := ⟨0, dir, g, h, k, q, e, tag, sh⟩
/-- A slot of the ring buffer. -/
def slotR (dir g κ t tag : ℕ) : Item := ⟨1, dir, g, 0, κ, t, 0, tag, 0⟩
/-- A slot of the first exchange's buffer. -/
def slot1 (dir g h tag : ℕ) : Item := ⟨2, dir, g, h, 0, 0, 0, tag, 0⟩
/-- A slot of the second exchange's buffer. -/
def slot2 (dir g h tag : ℕ) : Item := ⟨3, dir, g, h, 0, 0, 0, tag, 0⟩
/-- The left operand. -/
def opA : Item := ⟨4, 0, 0, 0, 0, 0, 0, 1, 0⟩
/-- The right operand. -/
def opB : Item := ⟨5, 0, 0, 0, 0, 0, 0, 1, 0⟩
/-- The narrowed right operand. -/
def opN (tag : ℕ) : Item := ⟨6, 0, 0, 0, 0, 0, 0, tag, 0⟩
/-- The credit of a copy in flight. -/
def fly (j : ℕ) : Item := ⟨7, 0, 0, 0, j, 0, 0, 0, 0⟩
/-- A slab of the result buffer. -/
def slab (s tag : ℕ) : Item := ⟨8, 0, 0, 0, s, 0, 0, tag, 0⟩

/-- The direction back. -/
def opp (dir : ℕ) : ℕ := if dir = 1 then 2 else if dir = 2 then 1 else dir

/-- The direction a half travels round the ring. -/
def fwd (h : ℕ) : ℕ := if h = 0 then 1 else 2

/-- A copy to a neighbour: its send cell here and its receive cell there, the piece copied, the piece written
(as this device names it), the tag of what lands, the pieces of this device that travel with it, and whether the
piece copied stays with the receiver. -/
structure Msg where
  ss : ℕ
  rs : ℕ
  dir : ℕ
  src : Item
  dst : Item
  ntag : ℕ
  extra : List Item
  land : Bool
deriving DecidableEq

/-- The ring sum's message of kind `κ` (0, 1 forward, 2, 3 back; even kinds the partner's quarter). -/
def mRS (g κ t : ℕ) : Msg :=
  ⟨3 + 12 * g + 3 * κ + t, 27 + 12 * g + 3 * κ + t, fwd (κ / 2),
    out 0 g (κ / 2) t (1 - κ % 2) 2 (t + 1) 0, slotR (fwd (κ / 2)) g κ t 0, 1,
    if t = 2 then
      if κ / 2 = 1 then [out 0 g 0 0 (1 - κ % 2) 2 1 0, out 0 g 0 1 (1 - κ % 2) 2 2 0]
      else [out 0 g 1 0 (1 - κ % 2) 2 1 0]
    else [], false⟩

/-- The first exchange's message. -/
def mZ1 (g h : ℕ) : Msg := ⟨51 + 2 * g + h, 55 + 2 * g + h, 3, out 0 g h 3 1 2 4 0, slot1 3 g h 0, 1, [], true⟩

/-- The second exchange's message. -/
def mZ2 (g h : ℕ) : Msg := ⟨59 + 2 * g + h, 63 + 2 * g + h, 4, out 0 g h 3 0 1 5 0, slot2 4 g h 0, 1, [], true⟩

/-- The second exchange undone: the finished eighth to the partner. -/
def mG2 (g h : ℕ) : Msg := ⟨67 + 2 * g + h, 71 + 2 * g + h, 4, out 0 g h 3 0 0 7 2, out 4 g h 3 0 1 0 0, 7, [], false⟩

/-- The first exchange undone: the finished quarter to the partner. -/
def mG1 (g h : ℕ) : Msg := ⟨75 + 2 * g + h, 79 + 2 * g + h, 3, out 0 g h 3 0 2 7 2, out 3 g h 3 1 2 0 0, 7, [], false⟩

/-- The gathering's message of kind `κ` (0 to 2 forward, 3 to 5 back). -/
def mAG (g κ t : ℕ) : Msg :=
  ⟨83 + 18 * g + 3 * κ + t, 119 + 18 * g + 3 * κ + t, fwd (κ / 3),
    out 0 g (κ / 3) ((t + 3) % 4) (κ % 3 / 2) (κ % 3) 7 (if t = 0 ∧ κ % 3 < 2 then 1 else 0),
    out (fwd (κ / 3)) g (κ / 3) t (κ % 3 / 2) (κ % 3) 0 0, 7,
    if t = 0 ∧ κ = 3 then [out 0 g 0 2 1 2 3 0, out 0 g 0 2 0 2 3 0]
    else if t = 0 ∧ κ = 0 then [out 0 g 1 1 1 2 2 0, out 0 g 1 1 0 2 2 0, out 0 g 1 2 1 2 3 0, out 0 g 1 2 0 2 3 0]
    else [], false⟩

/-- The abstract steps of the program. -/
inductive Op
  /-- Signal the neighbour's barrier cell. -/
  | sig (dir : ℕ)
  /-- Narrow the right operand. -/
  | nar
  /-- Multiply one slab. -/
  | mm (s : ℕ)
  /-- Cut a slab into its quarters. -/
  | cut (s : ℕ)
  /-- Start a copy. -/
  | send (m : Msg)
  /-- Wait on a cell. -/
  | wait (j : ℕ)
  /-- Add a landed slot of the ring. -/
  | addR (g κ t : ℕ)
  /-- Add a landed slot of the first exchange. -/
  | addX (g h : ℕ)
  /-- Add a landed slot of the second exchange. -/
  | addY (g h : ℕ)
  /-- Apply the activation. -/
  | act (g h : ℕ)
  /-- Cut a quarter into eighths. -/
  | split (x : Item)
  /-- Join two eighths. -/
  | join (x : Item)
  /-- Halve a share. -/
  | halve (x : Item)
deriving DecidableEq

/-- What a device hands the neighbour it signals: the slots that neighbour writes. -/
def barItems (dir : ℕ) : List Item :=
  if dir = 1 then [slotR 0 0 2 0 0, slotR 0 0 2 1 0, slotR 0 0 2 2 0, slotR 0 0 3 0 0, slotR 0 0 3 1 0, slotR 0 0 3 2 0,
    slotR 0 1 2 0 0, slotR 0 1 2 1 0, slotR 0 1 2 2 0, slotR 0 1 3 0 0, slotR 0 1 3 1 0, slotR 0 1 3 2 0]
  else if dir = 2 then [slotR 0 0 0 0 0, slotR 0 0 0 1 0, slotR 0 0 0 2 0, slotR 0 0 1 0 0, slotR 0 0 1 1 0, slotR 0 0 1 2 0,
    slotR 0 1 0 0 0, slotR 0 1 0 1 0, slotR 0 1 0 2 0, slotR 0 1 1 0 0, slotR 0 1 1 1 0, slotR 0 1 1 2 0]
  else if dir = 3 then [slot1 0 0 0 0, slot1 0 0 1 0, slot1 0 1 0 0, slot1 0 1 1 0]
  else [slot2 0 0 0 0, slot2 0 0 1 0, slot2 0 1 0 0, slot2 0 1 1 0]

/-- A piece of the sender, contents forgotten, as the receiver of a message in direction `dir` names it. -/
def Item.flip (dir : ℕ) (x : Item) : Item := { x with dir := opp dir, tag := 0 }

/-- What lands, as the receiver names it. -/
def Msg.landed (m : Msg) : Item := { m.dst with dir := 0, tag := m.ntag }

/-- What a receiver gets. -/
def Msg.recv (m : Msg) : List Item :=
  m.landed :: (m.extra.map (Item.flip m.dir) ++ if m.land then [m.src.flip m.dir] else [])

/-- What the sender gets back. -/
def Msg.back (m : Msg) : List Item := if m.land then [] else [m.src]

/-- The waits for a message: its send cell, its receive cell. -/
def waits (m : Msg) : List Op := [.wait m.ss, .wait m.rs]

/-- One slab multiplied and cut. -/
def mmS (s : ℕ) : List Op := [.mm s, .cut s]
/-- The four first messages of a column group's ring sum. -/
def rsStarts (g : ℕ) : List Op := [.send (mRS g 0 0), .send (mRS g 2 0), .send (mRS g 1 0), .send (mRS g 3 0)]
/-- One message of the ring sum finished, the next started. -/
def rsFin (g κ t : ℕ) : List Op := waits (mRS g κ t) ++ [.addR g κ t] ++ if t < 2 then [.send (mRS g κ (t + 1))] else []
/-- One round of the ring sum. -/
def rsRound (g t : ℕ) : List Op := rsFin g 0 t ++ rsFin g 2 t ++ rsFin g 1 t ++ rsFin g 3 t
/-- The first exchange. -/
def z1Start (g : ℕ) : List Op := [.send (mZ1 g 0), .send (mZ1 g 1)]
/-- The first exchange finished. -/
def z1Fin (g : ℕ) : List Op := waits (mZ1 g 0) ++ [.addX g 0] ++ waits (mZ1 g 1) ++ [.addX g 1]
/-- The second exchange. -/
def z2Start (g : ℕ) : List Op :=
  [.split (out 0 g 0 3 0 2 5 0), .split (out 0 g 1 3 0 2 5 0), .send (mZ2 g 0), .send (mZ2 g 1)]
/-- The second exchange finished. -/
def z2Fin (g : ℕ) : List Op := waits (mZ2 g 0) ++ [.addY g 0] ++ waits (mZ2 g 1) ++ [.addY g 1]
/-- One message of the gathering started; the neighbour's quarter is cut when its first eighth is written. -/
def agStart (g κ t : ℕ) : List Op :=
  (if κ % 3 = 0 then [.split (out (fwd (κ / 3)) g (κ / 3) t 0 2 0 0)] else []) ++ [.send (mAG g κ t)]
/-- One message of the gathering finished, the next started. -/
def agFin (g κ t : ℕ) : List Op := waits (mAG g κ t) ++ if t < 2 then agStart g κ (t + 1) else []
/-- The gathering opened. -/
def agOpen (g : ℕ) : List Op :=
  [.act g 0, .act g 1, .halve (out 0 g 0 3 0 0 7 0), .halve (out 0 g 1 3 0 0 7 0)] ++ agStart g 0 0 ++ agStart g 3 0
    ++ [.send (mG2 g 0), .send (mG2 g 1)]
/-- The gathering's middle. -/
def agMid (g : ℕ) : List Op :=
  waits (mG2 g 0) ++ waits (mG2 g 1)
    ++ [.halve (out 0 g 0 3 0 1 7 0), .join (out 0 g 0 3 0 2 7 2), .halve (out 0 g 1 3 0 1 7 0), .join (out 0 g 1 3 0 2 7 2),
      .send (mG1 g 0), .send (mG1 g 1)]
    ++ agStart g 1 0 ++ agStart g 4 0 ++ agFin g 0 0 ++ agFin g 3 0 ++ agFin g 1 0 ++ agFin g 4 0 ++ agFin g 0 1 ++ agFin g 3 1
/-- The gathering's end. -/
def agClose (g : ℕ) : List Op :=
  waits (mG1 g 0) ++ waits (mG1 g 1) ++ agStart g 2 0 ++ agStart g 5 0 ++ agFin g 1 1 ++ agFin g 4 1 ++ agFin g 0 2 ++ agFin g 3 2
    ++ agFin g 2 0 ++ agFin g 5 0 ++ agFin g 1 2 ++ agFin g 4 2 ++ agFin g 2 1 ++ agFin g 5 1 ++ agFin g 2 2 ++ agFin g 5 2

/-- The whole program. -/
def ops : List Op :=
  [.sig 2, .sig 1, .sig 3, .sig 4, .nar] ++ mmS 0 ++ [.wait 0] ++ rsStarts 0 ++ mmS 3 ++ mmS 1 ++ mmS 2
    ++ rsRound 0 0 ++ rsStarts 1 ++ rsRound 0 1 ++ rsRound 1 0
    ++ rsFin 0 0 2 ++ rsFin 0 2 2 ++ z1Start 0 ++ rsFin 0 1 2 ++ rsFin 0 3 2 ++ rsRound 1 1 ++ z1Fin 0 ++ z2Start 0
    ++ rsFin 1 0 2 ++ rsFin 1 2 2 ++ z1Start 1 ++ rsFin 1 1 2 ++ rsFin 1 3 2 ++ z2Fin 0
    ++ agOpen 0 ++ z1Fin 1 ++ z2Start 1 ++ agMid 0 ++ z2Fin 1 ++ agOpen 1 ++ agClose 0 ++ agMid 1 ++ agClose 1

/-- The messages, in the order they are started. -/
def msgs : List Msg := ops.filterMap fun | .send m => some m | _ => none

/-- What a wait on cell `j` hands over. -/
def payItems (j : ℕ) : List Item :=
  if j = 0 then
    (barItems 1).map (Item.flip 1) ++ ((barItems 2).map (Item.flip 2) ++ ((barItems 3).map (Item.flip 3)
      ++ (barItems 4).map (Item.flip 4)))
  else match msgs.find? (fun m => m.ss = j) with
    | some m => m.back
    | none => match msgs.find? (fun m => m.rs = j) with
      | some m => m.recv
      | none => []

/-- Whether a cell is a send cell: its waiter holds the credit of its own copy. -/
def isSend (j : ℕ) : Bool := (msgs.find? (fun m => m.ss = j)).isSome

/-- The quarters of slab `s`: the distance round the ring of its upper and lower half. -/
def cutItems (s : ℕ) : List Item :=
  [out 0 0 0 ((4 - s) % 4) 0 2 1 0, out 0 0 0 ((4 - s) % 4) 1 2 1 0, out 0 0 1 (s % 4) 0 2 1 0, out 0 0 1 (s % 4) 1 2 1 0,
    out 0 1 0 ((4 - s) % 4) 0 2 1 0, out 0 1 0 ((4 - s) % 4) 1 2 1 0, out 0 1 1 (s % 4) 0 2 1 0, out 0 1 1 (s % 4) 1 2 1 0]

/-- The pieces a step consumes. -/
def ins : Op → List Item
  | .sig dir => barItems dir
  | .nar => [opN 0]
  | .mm s => [slab s 0]
  | .cut s => [slab s 1]
  | .send m => m.src :: m.dst :: m.extra
  | .wait j => if isSend j then [fly j] else []
  | .addR g κ t => [out 0 g (κ / 2) (t + 1) (1 - κ % 2) 2 1 0]
  | .addX g h => [out 0 g h 3 0 2 4 0]
  | .addY g h => [out 0 g h 3 0 0 5 0]
  | .act g h => [out 0 g h 3 0 0 6 0]
  | .split x => [x]
  | .join x => [{ x with e := 0 }, { x with e := 1 }]
  | .halve x => [x]

/-- The pieces a step yields. -/
def outs : Op → List Item
  | .sig _ => []
  | .nar => [opN 1]
  | .mm s => [slab s 1]
  | .cut s => cutItems s
  | .send m => [fly m.ss]
  | .wait j => payItems j
  | .addR g κ t => [out 0 g (κ / 2) (t + 1) (1 - κ % 2) 2 (t + 2) 0]
  | .addX g h => [out 0 g h 3 0 2 5 0]
  | .addY g h => [out 0 g h 3 0 0 6 0]
  | .act g h => [out 0 g h 3 0 0 7 0]
  | .split x => [{ x with e := 0 }, { x with e := 1 }]
  | .join x => [x]
  | .halve x => [{ x with sh := 1 }, { x with sh := 2 }]

/-- The pieces a step reads and keeps. -/
def uses : Op → List Item
  | .nar => [opB]
  | .mm _ => [opA, opN 1]
  | .addR g κ t => [slotR 0 g κ t 1]
  | .addX g h => [slot1 0 g h 1]
  | .addY g h => [slot2 0 g h 1]
  | _ => []

/-- One piece taken out of a list. -/
def take1 (x : Item) : List Item → Option (List Item)
  | [] => none
  | y :: l => if x = y then some l else (take1 x l).map (y :: ·)

/-- Several pieces taken out of a list. -/
def takeL : List Item → List Item → Option (List Item)
  | [], l => some l
  | x :: xs, l => (take1 x l).bind (takeL xs)

/-- One step. -/
def step (op : Op) (l : List Item) : Option (List Item) :=
  if (uses op).all (fun x => decide (x ∈ l)) then (takeL (ins op) l).map (outs op ++ ·) else none

/-- A run of steps. -/
def run : List Op → List Item → Option (List Item)
  | [], l => some l
  | op :: r, l => (step op l).bind (run r)

/-- The pieces a device starts with. -/
def start : List Item :=
  [opA, opB, opN 0, slab 0 0, slab 1 0, slab 2 0, slab 3 0] ++ (barItems 2 ++ (barItems 1 ++ (barItems 3 ++ barItems 4)))

/-- The pieces held before step `i`. -/
def held (i : ℕ) : List Item := (run (ops.take i) start).getD []

theorem ops_length : ops.length = 306 := by decide +kernel
theorem run_some : (run ops start).isSome = true := by decide +kernel
theorem held_end : (held 306).length = 87 := by decide +kernel

end Cert.Prot
end
-- ==== Proof.Content.lean ====
/-
# What the buffers hold

The sixteen devices and their neighbours, the rows a piece of memory stands for, and the contents of every buffer as
functions of the operands of all devices, over any float values: the products, the ring sums, the sums after the two
exchanges, the result. Rows and columns are plain numbers here.
-/
module

public import proofs.«01_k».proof.Proof.Table
public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.Prot

open Cert.KernelIdeal Cert.KernelIdeal.Gen
open Idealize.ShloMosaic Idealize.ShloMosaic.TcCoe

/-! ## Devices -/

/-- The number of the neighbour of device `c` in direction `dir`: round the ring, or a bit of the ring's number changed. -/
def peerN (c dir : ℕ) : ℕ :=
  if dir = 1 then 4 * (c / 4) + (c % 4 + 1) % 4
  else if dir = 2 then 4 * (c / 4) + (c % 4 + 3) % 4
  else if dir = 3 then c % 4 + 4 * ((c / 4 + 1) % 2) + 8 * (c / 8)
  else if dir = 4 then c % 8 + 8 * ((c / 8 + 1) % 2)
  else c

/-- The neighbour. -/
def peer (c : Dev nD) (dir : ℕ) : Dev nD := ⟨peerN c.val dir % 16, Nat.mod_lt _ (by decide)⟩

theorem peer_zero (c : Dev nD) : peer c 0 = c := by revert c; decide
theorem peer_opp1 (c : Dev nD) : peer (peer c 1) 2 = c := by revert c; decide
theorem peer_opp2 (c : Dev nD) : peer (peer c 2) 1 = c := by revert c; decide
theorem peer_opp3 (c : Dev nD) : peer (peer c 3) 3 = c := by revert c; decide
theorem peer_opp4 (c : Dev nD) : peer (peer c 4) 4 = c := by revert c; decide

/-- Going and coming back. -/
theorem peer_opp (c : Dev nD) (dir : ℕ) (h : dir = 1 ∨ dir = 2 ∨ dir = 3 ∨ dir = 4) : peer (peer c dir) (opp dir) = c := by
  rcases h with rfl | rfl | rfl | rfl
  exacts [peer_opp1 c, peer_opp2 c, peer_opp3 c, peer_opp4 c]

/-- Coming and going. -/
theorem opp_peer (c : Dev nD) (dir : ℕ) (h : dir = 1 ∨ dir = 2 ∨ dir = 3 ∨ dir = 4) : peer (peer c (opp dir)) dir = c := by
  rcases h with rfl | rfl | rfl | rfl
  exacts [peer_opp2 c, peer_opp1 c, peer_opp3 c, peer_opp4 c]

/-! ## Rows -/

/-- The first row of the piece `(h, k, q, e)` of device number `c`; `e = 2` is a whole quarter. -/
def row (c h k q e : ℕ) : ℕ :=
  384 * (if h = 0 then (c % 4 + 4 - k % 4) % 4 else (c % 4 + k) % 4) + 192 * h + 96 * ((q + c / 4) % 2)
    + (if e = 2 then 0 else 48 * ((e + c / 8) % 2))

/-- The number of rows of such a piece. -/
def len (e : ℕ) : ℕ := if e = 2 then 96 else 48

/-- The index of row `r` and column `j` in a buffer of two axes. -/
def at2 {m n : ℕ} (hm : 0 < m) (hn : 0 < n) (r j : ℕ) : (⟨2, ![m, n]⟩ : Shape).Idx :=
  Shape.pair (d := ![m, n]) ⟨r % m, Nat.mod_lt _ hm⟩ ⟨j % n, Nat.mod_lt _ hn⟩

theorem at2_eta {m n : ℕ} (hm : 0 < m) (hn : 0 < n) (i : (⟨2, ![m, n]⟩ : Shape).Idx) : at2 hm hn (i 0).val (i 1).val = i := by
  have h0 : (i 0).val < m := (i 0).isLt
  have h1 : (i 1).val < n := (i 1).isLt
  unfold at2
  refine (congrArg₂ Shape.pair (Fin.ext ?_) (Fin.ext ?_)).trans (Shape.pair_eta i)
  · exact Nat.mod_eq_of_lt h0
  · exact Nat.mod_eq_of_lt h1

/-! ## Contents -/

variable {F : FTy → Type} [FloatOps F]
variable (a : Dev nD → Vec F S1536x768 .f32) (b : Dev nD → Vec F S768x1536 .f32)

/-- Slab `s` of the left operand of device `c`. -/
def slabA (c : Dev nD) (s : ℕ) : Vec F S384x768 .f32 :=
  fun i => a c (at2 (m := 1536) (n := 768) (by decide) (by decide) (384 * s + (i 0).val) (i 1).val)

/-- Row `r`, column `j` of device `c`'s own product. -/
def prod (c : Dev nD) (r j : ℕ) : F .bf16 :=
  k0_pay2 (slabA a c (r / 384)) (k0_pay1 (b c)) (at2 (m := 384) (n := 1536) (by decide) (by decide) r j)

/-- The ring sum at device `c` after `t + 1` terms, in half `h`. -/
def acc (c : Dev nD) (h : ℕ) : ℕ → ℕ → ℕ → F .bf16
  | 0, r, j => prod a b c r j
  | t + 1, r, j => FloatOps.addf (prod a b c r j) (acc (peer c (opp (fwd h))) h t r j)

/-- After the first exchange. -/
def xsum (c : Dev nD) (h r j : ℕ) : F .bf16 := FloatOps.addf (acc a b c h 3 r j) (acc a b (peer c 3) h 3 r j)

/-- After the second exchange. -/
def ysum (c : Dev nD) (h r j : ℕ) : F .bf16 := FloatOps.addf (xsum a b c h r j) (xsum a b (peer c 4) h r j)

/-- The activation of one number, as the kernel computes it. -/
def act1 (z : F .bf16) : F .bf16 := k0_pay38 (fun _ => z) (at2 (m := 48) (n := 768) (by decide) (by decide) 0 0)

/-- The device that finishes row `r`. -/
def owner (r : ℕ) : Dev nD :=
  ⟨((if (r / 192) % 2 = 0 then (r / 384 + 3) % 4 else (r / 384 + 1) % 4) + 4 * ((r / 96) % 2) + 8 * ((r / 48) % 2)) % 16,
    Nat.mod_lt _ (by decide)⟩

/-- Row `r`, column `j` of the result. -/
def res (r j : ℕ) : F .bf16 := act1 (ysum a b (owner r) ((r / 192) % 2) r j)

/-- What a row of the result buffer of device `c` holds at tag `tag`. -/
def outV (c : Dev nD) (h tag r j : ℕ) : F .bf16 :=
  if tag = 7 then res a b r j else if tag = 6 then ysum a b c h r j else if tag = 5 then xsum a b c h r j
  else acc a b c h (tag - 1) r j

/-- The result buffer, as if all of it were at tag `tag`. -/
def outC (c : Dev nD) (h tag : ℕ) : S1536x1536.Idx → F .bf16 := fun i => outV a b c h tag (i 0).val (i 1).val

/-- The ring buffer once everything has landed. -/
def rsC (c : Dev nD) : S2x4x3x96x768.Idx → F .bf16 := fun i =>
  acc a b (peer c (opp (fwd ((i 1).val / 2)))) ((i 1).val / 2) (i 2).val
    (row c.val ((i 1).val / 2) ((i 2).val + 1) (1 - (i 1).val % 2) 2 + (i 3).val) (768 * (i 0).val + (i 4).val)

/-- The first exchange's buffer once everything has landed. -/
def z1C (c : Dev nD) : S2x2x96x768.Idx → F .bf16 := fun i =>
  acc a b (peer c 3) (i 1).val 3 (row c.val (i 1).val 3 0 2 + (i 2).val) (768 * (i 0).val + (i 3).val)

/-- The second exchange's buffer once everything has landed. -/
def z2C (c : Dev nD) : S2x2x48x768.Idx → F .bf16 := fun i =>
  xsum a b (peer c 4) (i 1).val (row c.val (i 1).val 3 0 0 + (i 2).val) (768 * (i 0).val + (i 3).val)

end Cert.Prot
end
end
-- ==== Proof.Proto.lean ====
/-
# The protocol

Each cell has one round. A device's barrier cell has four duties, one per neighbour; what a neighbour hands over with
its signal is the slots of its buffers this device will write. A copy's send cell hands the piece copied back, its
receive cell what landed and the pieces that travelled with it. `Inv c l` is what device `c` holds before the rest
`l` of its program; what is left to owe, the tokens and the positions are read off `l`, and the pieces of memory held
off the run of the steps done.
-/
module

public import proofs.«01_k».proof.Proof.Content

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Separating conjunction over a list -/

section SepL
variable {M : Type} [URA M] {I J : Type}

/-- The separating conjunction of `Φ` over a list. -/
def sepL : List I → (I → sProp M) → sProp M
  | [], _ => iprop(emp)
  | i :: l, Φ => iprop(Φ i ∗ sepL l Φ)

@[simp] theorem sepL_nil (Φ : I → sProp M) : sepL [] Φ = iprop(emp) := rfl
@[simp] theorem sepL_cons (i : I) (l : List I) (Φ : I → sProp M) : sepL (i :: l) Φ = iprop(Φ i ∗ sepL l Φ) := rfl

theorem sep_comm_eq (P Q : sProp M) : iprop(P ∗ Q) = iprop(Q ∗ P) := BI.equiv_iff.mp ⟨BI.sep_comm, BI.sep_comm⟩
theorem sep_assoc_eq (P Q R : sProp M) : iprop((P ∗ Q) ∗ R) = iprop(P ∗ Q ∗ R) := BI.equiv_iff.mp ⟨BI.sep_assoc, BI.sep_assoc'⟩
theorem emp_sep_eq (P : sProp M) : iprop(emp ∗ P) = P := BI.equiv_iff.mp BI.emp_sep
theorem sep_left_comm_eq (P Q R : sProp M) : iprop(P ∗ Q ∗ R) = iprop(Q ∗ P ∗ R) := by
  rw [← sep_assoc_eq, sep_comm_eq P Q, sep_assoc_eq]

theorem sepL_append (l l' : List I) (Φ : I → sProp M) : sepL (l ++ l') Φ = iprop(sepL l Φ ∗ sepL l' Φ) := by
  induction l with
  | nil => exact (emp_sep_eq _).symm
  | cons i l ih => rw [List.cons_append, sepL_cons, ih, sepL_cons, sep_assoc_eq]

theorem sepL_map (f : I → J) (l : List I) (Φ : J → sProp M) : sepL (l.map f) Φ = sepL l (fun i => Φ (f i)) := by
  induction l with
  | nil => rfl
  | cons i l ih => rw [List.map_cons, sepL_cons, sepL_cons, ih]

theorem sepL_mono {l : List I} {Φ Ψ : I → sProp M} (h : ∀ i ∈ l, Φ i ⊢ Ψ i) : sepL l Φ ⊢ sepL l Ψ := by
  induction l with
  | nil => exact .rfl
  | cons i l ih => exact BI.sep_mono (h i (by simp)) (ih fun j hj => h j (by simp [hj]))

theorem sepL_congr {l : List I} {Φ Ψ : I → sProp M} (h : ∀ i ∈ l, Φ i = Ψ i) : sepL l Φ = sepL l Ψ := by
  induction l with
  | nil => rfl
  | cons i l ih => rw [sepL_cons, sepL_cons, h i (by simp), ih fun j hj => h j (by simp [hj])]

theorem sepL_sep (l : List I) (Φ Ψ : I → sProp M) : sepL l (fun i => iprop(Φ i ∗ Ψ i)) = iprop(sepL l Φ ∗ sepL l Ψ) := by
  induction l with
  | nil => exact (emp_sep_eq _).symm
  | cons i l ih => rw [sepL_cons, sepL_cons, sepL_cons, ih, sep_assoc_eq, sep_assoc_eq, sep_left_comm_eq (Ψ i)]

theorem sepL_emp (l : List I) : sepL l (fun _ => (iprop(emp) : sProp M)) = iprop(emp) := by
  induction l with
  | nil => rfl
  | cons i l ih => rw [sepL_cons, ih, emp_sep_eq]

theorem sepL_perm {l l' : List I} (h : l.Perm l') (Φ : I → sProp M) : sepL l Φ = sepL l' Φ := by
  induction h with
  | nil => rfl
  | cons x _ ih => rw [sepL_cons, sepL_cons, ih]
  | swap x y l => rw [sepL_cons, sepL_cons, sepL_cons, sepL_cons, sep_left_comm_eq]
  | trans _ _ h₁ h₂ => rw [h₁, h₂]

instance sepL_persistent (l : List I) (Φ : I → sProp M) [∀ i, BI.Persistent (Φ i)] : BI.Persistent (sepL l Φ) := by
  induction l with
  | nil => unfold sepL; infer_instance
  | cons i l ih => unfold sepL; infer_instance

/-- One of a list. -/
theorem sepL_elem {l : List I} {i : I} (h : i ∈ l) (Φ : I → sProp M) : sepL l Φ ⊢ iprop(Φ i ∗ (Φ i -∗ sepL l Φ)) := by
  induction l with
  | nil => cases h
  | cons j l ih =>
    rw [sepL_cons]
    by_cases hj : i = j
    · subst hj
      iintro ⟨H, Hl⟩
      isplitl [H]; · iexact H
      iintro H; isplitl [H] <;> iassumption
    · iintro ⟨H, Hl⟩
      ihave Hl := (ih (by simpa [hj] using h)) $$ Hl
      icases Hl with ⟨Hi, Hl⟩
      isplitl [Hi]; · iexact Hi
      iintro Hi
      isplitl [H]; · iexact H
      iapply Hl; iexact Hi

theorem sepL_take1 {x : Item} {l l' : List Item} (h : take1 x l = some l') (Φ : Item → sProp M) :
    sepL l Φ = iprop(Φ x ∗ sepL l' Φ) := by
  induction l generalizing l' with
  | nil => cases h
  | cons y l ih =>
    unfold take1 at h
    by_cases hxy : x = y
    · rw [if_pos hxy] at h; cases h; subst hxy; rfl
    · rw [if_neg hxy] at h
      obtain ⟨l₁, h₁, rfl⟩ := Option.map_eq_some_iff.mp h
      rw [sepL_cons, ih h₁, sepL_cons, sep_left_comm_eq]

theorem sepL_takeL {xs l l' : List Item} (h : takeL xs l = some l') (Φ : Item → sProp M) :
    sepL l Φ = iprop(sepL xs Φ ∗ sepL l' Φ) := by
  induction xs generalizing l with
  | nil => cases h; exact (emp_sep_eq _).symm
  | cons x xs ih =>
    obtain ⟨l₁, h₁, h₂⟩ := Option.bind_eq_some_iff.mp h
    rw [sepL_take1 h₁, ih h₂, sepL_cons, sep_assoc_eq]

end SepL

/-! ## Cells -/

/-- The runtime's barrier semaphore. -/
abbrev barS : Sem sig := (SemArray.scalar (sig.barrier 0 rfl) : Sems sig S_).sem

/-- The semaphore of code `j`: 0 the barrier, the others the copies' by their number. -/
def semOf (j : ℕ) : SemLoc sig := match j with
  | 0 => .reg barS
  | j + 1 => .dma ⟨(j + 1) % 155, Nat.mod_lt _ (by decide)⟩

/-- The cell of code `j` at device `c`. -/
def cell (c : Dev nD) (j : ℕ) : GSem nD τ sig := ((c : Thread nD τ), semOf j)

/-- The units of a copy of 96 rows, and of 48. -/
def N96 : ℕ := ((Memref.whole cc0_stg2_0 : Memref sig .tc .vmem S1536x1536 .bf16).access
  (Rect.unit (s := S1536x1536) ![0, 0] S96x768.size (by decide))).dmaCredit
def N48 : ℕ := ((Memref.whole cc0_stg2_0 : Memref sig .tc .vmem S1536x1536 .bf16).access
  (Rect.unit (s := S1536x1536) ![0, 0] S48x768.size (by decide))).dmaCredit

theorem N96_pos : 0 < N96 := View.dmaCredit_pos _ (by decide)
theorem N48_pos : 0 < N48 := View.dmaCredit_pos _ (by decide)

/-- Whether a cell's copy moves 48 rows. -/
def small (j : ℕ) : Bool :=
  (59 ≤ j && j < 75) || (83 ≤ j && decide ((j - 83) % 18 / 3 % 3 < 2))

/-- The units of cell `j`'s copy. -/
def amt (j : ℕ) : ℕ := if small j then N48 else N96

theorem amt_pos (j : ℕ) : 0 < amt j := by unfold amt; split; exacts [N48_pos, N96_pos]

/-! ## Pieces of memory -/

/-- The columns of group `g` of `n` rows from `r`. -/
def box (r n g : ℕ) : Finset S1536x1536.Idx :=
  Finset.univ.filter fun i => r ≤ (i 0).val ∧ (i 0).val < r + n ∧ 768 * g ≤ (i 1).val ∧ (i 1).val < 768 * g + 768
/-- `n` whole rows from `r`. -/
def rows (r n : ℕ) : Finset S1536x1536.Idx := Finset.univ.filter fun i => r ≤ (i 0).val ∧ (i 0).val < r + n
/-- A slot of the ring buffer. -/
def rsBox (g κ t : ℕ) : Finset S2x4x3x96x768.Idx := Finset.univ.filter fun i => (i 0).val = g ∧ (i 1).val = κ ∧ (i 2).val = t
/-- A slot of the first exchange's buffer. -/
def z1Box (g h : ℕ) : Finset S2x2x96x768.Idx := Finset.univ.filter fun i => (i 0).val = g ∧ (i 1).val = h
/-- A slot of the second exchange's buffer. -/
def z2Box (g h : ℕ) : Finset S2x2x48x768.Idx := Finset.univ.filter fun i => (i 0).val = g ∧ (i 1).val = h

/-- The share of a piece. -/
def shareOf (sh : ℕ) : PosShare TreeShare := if sh = 1 then fullShare.left else if sh = 2 then fullShare.right else fullShare

/-- Elements of a buffer: at any contents for tag 0, at the given ones otherwise. -/
def pts (ℓ : Loc nD τ sig) (S : Finset (Idx ℓ)) (tag sh : ℕ) (f : Buf (Elt F) ℓ) : sProp 𝕄 :=
  if tag = 0 then iprop(∃ f : Buf (Elt F) ℓ, ℓ ↦[S]{fullShare} f) else (ℓ ↦[S]{shareOf sh} f)

instance pts_storable (ℓ : Loc nD τ sig) (S : Finset (Idx ℓ)) (tag sh : ℕ) (f : Buf (Elt F) ℓ) :
    BI.Storable (upEmb : UEmb _ 𝕄) (pts ℓ S tag sh f) := by unfold pts; split <;> infer_instance

variable (a : Dev nD → Vec F S1536x768 .f32) (b : Dev nD → Vec F S768x1536 .f32)

abbrev locA (c : Dev nD) : Loc nD τ sig := (c : Thread nD τ).loc cc0_stg0_0
abbrev locB (c : Dev nD) : Loc nD τ sig := (c : Thread nD τ).loc cc0_stg1_0
abbrev locO (c : Dev nD) : Loc nD τ sig := (c : Thread nD τ).loc cc0_stg2_0
abbrev locN (c : Dev nD) : Loc nD τ sig := (c : Thread nD τ).loc cc0_scratch0
abbrev locR (c : Dev nD) : Loc nD τ sig := (c : Thread nD τ).loc cc0_scratch1
abbrev locX (c : Dev nD) : Loc nD τ sig := (c : Thread nD τ).loc cc0_scratch2
abbrev locY (c : Dev nD) : Loc nD τ sig := (c : Thread nD τ).loc cc0_scratch3

/-- The slab's first row. -/
def slabRow (c s : ℕ) : ℕ := 384 * ((c % 4 + s) % 4)

/-- A piece in the memory of device `d`. -/
def pieceAt (d : Dev nD) (x : Item) : sProp 𝕄 := match x.kind with
  | 0 => pts (locO d) (box (row d.val x.h x.k x.q x.e) (len x.e) x.g) x.tag x.sh (outC a b d x.h x.tag)
  | 1 => pts (locR d) (rsBox x.g x.k x.q) x.tag 0 (rsC a b d)
  | 2 => pts (locX d) (z1Box x.g x.h) x.tag 0 (z1C a b d)
  | 3 => pts (locY d) (z2Box x.g x.h) x.tag 0 (z2C a b d)
  | 4 => pts (locA d) Finset.univ 1 0 (a d)
  | 5 => pts (locB d) Finset.univ 1 0 (b d)
  | 6 => pts (locN d) Finset.univ x.tag 0 (k0_pay1 (b d))
  | 8 => pts (locO d) (rows (slabRow d.val x.k) 384) x.tag 0 (outC a b d 0 x.tag)
  | _ => iprop(emp)

instance pieceAt_storable (d : Dev nD) (x : Item) : BI.Storable (upEmb : UEmb _ 𝕄) (pieceAt a b d x) := by
  unfold pieceAt; split <;> infer_instance

/-- A piece, named by device `c`. -/
def piece (c : Dev nD) (x : Item) : sProp 𝕄 := pieceAt a b (peer c x.dir) x

instance piece_storable (c : Dev nD) (x : Item) : BI.Storable (upEmb : UEmb _ 𝕄) (piece a b c x) := by unfold piece; infer_instance

instance sepL_piece_storable (c : Dev nD) (l : List Item) : BI.Storable (upEmb : UEmb _ 𝕄) (sepL l (piece a b c)) := by
  induction l with
  | nil => unfold sepL; infer_instance
  | cons i l ih => unfold sepL; infer_instance

/-- A piece or the credit of a copy in flight. -/
def item (c : Dev nD) (x : Item) : sProp 𝕄 :=
  if x.kind = 7 then cred (tallyAt (cell c x.k) () (amt x.k)) else piece a b c x

theorem item_piece {c : Dev nD} {x : Item} (h : x.kind ≠ 7) : item a b c x = piece a b c x := if_neg h

theorem sepL_item_piece {c : Dev nD} {l : List Item} (h : ∀ x ∈ l, x.kind ≠ 7) : sepL l (item a b c) = sepL l (piece a b c) :=
  sepL_congr fun x hx => item_piece a b (h x hx)

/-! ## The schedule -/

/-- One round: the barrier's four duties, one per neighbour, and one duty for a copy's cell. -/
def Rd : Rounds.Schedule (GSem nD τ sig) ℕ 𝕄 where
  duties g r := if r = 0 ∧ g.1.2 = .tc then (match g.2 with
    | .reg _ => {1, 2, 3, 4}
    | .dma _ => {0}) else ∅
  unitless _ := False
  amount g _ _ := match g.2 with
    | .reg _ => 1
    | .dma j => amt j.val
  payload g _ d := match g.2 with
    | .reg _ => sepL ((barItems d).map (Item.flip d)) (piece a b g.1.1)
    | .dma j => sepL (payItems j.val) (piece a b g.1.1)
  amount_pos g _ _ _ := by
    cases g.2
    · exact Nat.one_pos
    · exact amt_pos _

instance Rd_payload_storable (g : GSem nD τ sig) (r d : ℕ) : BI.Storable (upEmb : UEmb _ 𝕄) ((Rd a b).payload g r d) := by
  show BI.Storable upEmb (match g.2 with
    | .reg _ => sepL ((barItems d).map (Item.flip d)) (piece a b g.1.1)
    | .dma j => sepL (payItems j.val) (piece a b g.1.1))
  split <;> infer_instance

/-- The codes of the cells. -/
def codes : List ℕ := 0 :: (List.range 152).map (· + 3)

/-- The code of a copy's cell. -/
def IsDma (j : ℕ) : Prop := 3 ≤ j ∧ j < 155
instance (j : ℕ) : Decidable (IsDma j) := by unfold IsDma; infer_instance

theorem semOf_dma {j : ℕ} (h : IsDma j) : semOf j = .dma ⟨j, h.2⟩ := by
  obtain ⟨h₁, h₂⟩ := h
  obtain ⟨k, rfl⟩ : ∃ k, j = k + 1 := ⟨j - 1, by omega⟩
  exact congrArg SemLoc.dma (Fin.ext (Nat.mod_eq_of_lt h₂))

theorem mem_codes {j : ℕ} (h : IsDma j) : j ∈ codes := by
  unfold codes
  refine List.mem_cons_of_mem _ (List.mem_map.mpr ⟨j - 3, List.mem_range.mpr ?_, ?_⟩)
  · have := h.1; have := h.2; omega
  · have := h.1; show j - 3 + 3 = j; omega

theorem zero_mem_codes : 0 ∈ codes := List.mem_cons_self

section Sched
variable (c : Dev nD)

theorem duties_bar : (Rd a b).duties (cell c 0) 0 = {1, 2, 3, 4} := by dsimp only [Rd]; exact if_pos ⟨rfl, rfl⟩
theorem duties_dma {j : ℕ} (h : IsDma j) : (Rd a b).duties (cell c j) 0 = {0} := by
  unfold cell; rw [semOf_dma h]; dsimp only [Rd]; exact if_pos ⟨rfl, rfl⟩
theorem duties_later (g : GSem nD τ sig) : ∀ r, 1 ≤ r → (Rd a b).duties g r = ∅ := fun r hr => by
  dsimp only [Rd]; exact if_neg fun h => by omega
theorem amount_bar (d : ℕ) : (Rd a b).amount (cell c 0) 0 d = 1 := rfl
theorem amount_dma {j : ℕ} (h : IsDma j) (d : ℕ) : (Rd a b).amount (cell c j) 0 d = amt j := by
  unfold cell; rw [semOf_dma h]; rfl
theorem expect_bar : (Rd a b).expect (cell c 0) 0 = 4 := by
  unfold Schedule.expect Schedule.amountOf; rw [duties_bar, Finset.sum_congr rfl fun d _ => amount_bar a b c d]; rfl
theorem expect_dma {j : ℕ} (h : IsDma j) : (Rd a b).expect (cell c j) 0 = amt j := by
  unfold Schedule.expect Schedule.amountOf; rw [duties_dma a b c h, Finset.sum_singleton, amount_dma a b c h]
theorem payload_bar (d : ℕ) : (Rd a b).payload (cell c 0) 0 d = sepL ((barItems d).map (Item.flip d)) (piece a b c) := rfl
theorem payload_dma {j : ℕ} (h : IsDma j) (d : ℕ) : (Rd a b).payload (cell c j) 0 d = sepL (payItems j) (piece a b c) := by
  unfold cell; rw [semOf_dma h]; rfl

/-- All of a barrier cell's round. -/
theorem rest_bar : bigSep ((Rd a b).duties (cell c 0) 0 \ ∅) (fun d => (Rd a b).payload (cell c 0) 0 d) = sepL (payItems 0) (piece a b c) := by
  rw [Finset.sdiff_empty, duties_bar, bigSep_eq_bigSepL_of_eq [1, 2, 3, 4] (by decide) (by decide)]
  simp only [bigSepL_cons_cons, bigSepL_singleton]
  rw [payload_bar, payload_bar, payload_bar, payload_bar, show payItems 0 = (barItems 1).map (Item.flip 1) ++ ((barItems 2).map (Item.flip 2)
    ++ ((barItems 3).map (Item.flip 3) ++ (barItems 4).map (Item.flip 4))) from rfl, sepL_append, sepL_append, sepL_append]
  rfl

/-- All of a copy's cell's round. -/
theorem rest_dma {j : ℕ} (h : IsDma j) :
    bigSep ((Rd a b).duties (cell c j) 0 \ ∅) (fun d => (Rd a b).payload (cell c j) 0 d) = sepL (payItems j) (piece a b c) := by
  rw [Finset.sdiff_empty, duties_dma a b c h, bigSep_singleton, payload_dma a b c h]

end Sched

/-! ## Debts and levels -/

/-- What a step pays. -/
def debt (c : Dev nD) : Op → CellTallies nD τ sig Unit
  | .sig dir => tallyAt (cell (peer c dir) 0) () 1
  | .send m => tallyAt (cell (peer c m.dir) m.rs) () (amt m.rs)
  | _ => 0

/-- What the rest of the program pays. -/
def O (c : Dev nD) : List Op → CellTallies nD τ sig Unit
  | [] => 0
  | op :: l => O c l + debt c op

/-- The level of cell `j`: the barrier's 1, a receive cell's its message's place, any other 0. -/
def lvl (j : ℕ) : ℕ := if j = 0 then 1 else match msgs.findIdx? (fun m => m.rs = j) with
  | some i => i + 2
  | none => 0

def L (g : GSem nD τ sig) : Finset Unit := if g.1.2 = .tc then {()} else ∅
def lv (g : GSem nD τ sig) (_ : Unit) : ℕ := match g.2 with
  | .reg _ => 1
  | .dma j => if j.val < 3 then 0 else lvl j.val

theorem L_of_ne (g : GSem nD τ sig) (h : g.1.2 ≠ .tc) : L g = ∅ := if_neg h
theorem L_cell (c : Dev nD) (s : SemLoc sig) : L ((c : Thread nD τ), s) = {()} := if_pos rfl
theorem lv_cell {c : Dev nD} {j : ℕ} (h : j = 0 ∨ IsDma j) : lv (cell c j) () = lvl j := by
  rcases h with rfl | h
  · rfl
  · unfold cell; rw [semOf_dma h]; exact if_neg (Nat.not_lt.mpr h.1)

/-- The cell a step pays into. -/
def owedCode : Op → Option ℕ
  | .sig _ => some 0
  | .send m => some m.rs
  | _ => none

/-- Everything the rest of the program pays lies above level `n`. -/
def above (n : ℕ) (l : List Op) : Bool := l.all fun op => match owedCode op with
  | some j => decide (n < lvl j)
  | none => true

/-- Each wait lies below what is paid after it. -/
def ordered : List Op → Bool
  | [] => true
  | op :: l => (match op with
    | .wait j => above (lvl j) l
    | _ => true) && ordered l

theorem ordered_ops : ordered ops = true := by decide +kernel
theorem above_ops : above 0 ops = true := by decide +kernel

theorem ordered_suffix {d l : List Op} (h : ordered (d ++ l) = true) : ordered l = true := by
  induction d with
  | nil => exact h
  | cons op d ih => exact ih (Bool.and_eq_true_iff.mp h).2

/-- What every step of the program meets: its codes name cells, what its cells hand over, where its pieces lie. -/
def goodOp : Op → Bool
  | .sig d => decide (1 ≤ d ∧ d ≤ 4)
  | .send m => decide (IsDma m.ss ∧ IsDma m.rs ∧ (1 ≤ m.dir ∧ m.dir ≤ 4) ∧ payItems m.ss = m.back ∧ payItems m.rs = m.recv
      ∧ small m.ss = small m.rs ∧ m.src.kind = 0 ∧ m.src.dir = 0 ∧ m.dst.kind ≠ 7 ∧ m.dst.dir = m.dir ∧ (∀ x ∈ m.extra, x.kind = 0 ∧ x.dir = 0)
      ∧ m.src.tag ≠ 0 ∧ (m.land = true → m.src.sh = 0) ∧ (∀ x ∈ m.extra, x.sh = 0))
  | .wait j => decide ((j = 0 ∨ IsDma j) ∧ ∀ x ∈ payItems j, x.kind ≠ 7)
  | _ => true

theorem good_ops : ops.all goodOp = true := by decide +kernel

end Cert.Prot
end
end
-- ==== Proof.Steps.lean ====
/-
# The steps

What device `c` holds before the rest `l` of its program (`Inv c l`), and one rule per kind of step: from the
continuation after the step to the program at the step.
-/
module

public import proofs.«01_k».proof.Proof.Proto

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .f32) (b : Dev nD → Vec F S768x1536 .f32)
variable (K : Dev nD × ℕ → ℕ) (c : Dev nD)

abbrev 𝒱₀ : Variants := Variants.none

/-! ## What a device holds -/

/-- The ghost state a step needs: the tokens of what it pays, the position and credit of the cell it waits on. -/
def toks : Op → sProp 𝕄
  | .sig dir => dutyTok ER (cell (peer c dir) 0) 0 dir
  | .send m => iprop(dutyTok ER (cell c m.ss) 0 0 ∗ dutyTok ER (cell (peer c m.dir) m.rs) 0 0)
  | .wait j => iprop(atPos ER (cell c j) 0 ∅ 0 ∗ if isSend j then iprop(emp) else cred (tallyAt (cell c j) () (if j = 0 then 4 else amt j)))
  | _ => iprop(emp)

/-- What a step leaves for good: the counter of the cell it waited on, at zero. -/
def zeros : Op → sProp 𝕄
  | .wait j => semVal (cell c j) 0
  | _ => iprop(emp)

/-- All cells' invariants, and that all are at their round. -/
def recs : sProp 𝕄 :=
  bigSep Finset.univ fun d : Dev nD => sepL codes fun j => iprop(cellInv ER (Rd a b) (K (d, j)) (cell d j) ∗ reached ER (cell d j) 0)

instance recs_persistent : BI.Persistent (recs a b K) := by unfold recs; infer_instance

theorem recs_at (d : Dev nD) {j : ℕ} (h : j ∈ codes) :
    recs a b K ⊢ iprop(cellInv ER (Rd a b) (K (d, j)) (cell d j) ∗ reached ER (cell d j) 0) := by
  unfold recs
  refine (bigSep_elim (Finset.mem_univ d)).trans ((sepL_elem h _).trans ?_)
  iintro ⟨H, -⟩
  iexact H

/-- What device `c` holds before the rest `l` of its program. -/
def Inv (l : List Op) : sProp 𝕄 :=
  iprop(∃ (d : List Op) (regs : List Item) (W : Waits sig Unit), ⌜d ++ l = ops ∧ run d start = some regs⌝
    ∗ owes (c : Thread nD τ) (O c l) W ∗ sepL l (toks c) ∗ sepL d (zeros c) ∗ sepL regs (item a b c))

theorem run_append (d₁ d₂ : List Op) (r : List Item) : run (d₁ ++ d₂) r = (run d₁ r).bind (run d₂) := by
  induction d₁ generalizing r with
  | nil => rfl
  | cons op d ih =>
    show (step op r).bind (run (d ++ d₂)) = ((step op r).bind (run d)).bind (run d₂)
    cases step op r with
    | none => rfl
    | some r' => exact ih r'

/-- The run finds the pieces of every step. -/
theorem run_step {d l : List Op} {op : Op} {regs : List Item} (h : d ++ op :: l = ops) (hr : run d start = some regs) :
    (∀ x ∈ uses op, x ∈ regs) ∧ ∃ rest, takeL (ins op) regs = some rest ∧ run (d ++ [op]) start = some (outs op ++ rest) := by
  have hs := run_some
  rw [← h, run_append, hr, Option.bind_some] at hs
  show _ ∧ _
  change ((step op regs).bind (run l)).isSome = true at hs
  cases hstep : step op regs with
  | none => rw [hstep] at hs; cases hs
  | some r' =>
    rw [run_append, hr, Option.bind_some]
    have hst := hstep
    unfold step at hstep
    split at hstep
    · rename_i hu
      refine ⟨fun x hx => of_decide_eq_true (List.all_eq_true.mp hu x hx), ?_⟩
      obtain ⟨rest, h₁, h₂⟩ := Option.map_eq_some_iff.mp hstep
      refine ⟨rest, h₁, ?_⟩
      show (step op regs).bind (run []) = _
      rw [hst, Option.bind_some, h₂]; rfl
    · cases hstep

/-- Opening the invariant at a step. -/
theorem inv_step (op : Op) (l : List Op) :
    Inv a b c (op :: l) ⊢ iprop(⌜op ∈ ops ∧ ordered (op :: l) = true⌝ ∗ ∃ W : Waits sig Unit, owes (c : Thread nD τ) (O c l + debt c op) W
      ∗ toks c op ∗ sepL (ins op) (item a b c)
      ∗ (∀ W' : Waits sig Unit, (owes (c : Thread nD τ) (O c l) W' ∗ zeros c op ∗ sepL (outs op) (item a b c)) -∗ Inv a b c l)) := by
  unfold Inv
  rw [sepL_cons]
  iintro ⟨%d, %regs, %W, %h, HO, ⟨Ht, Htl⟩, Hz, Hr⟩
  obtain ⟨h, hr⟩ := h
  obtain ⟨-, rest, h₁, h₂⟩ := run_step h hr
  ihave Hr := (Entails.of_eq (sepL_takeL h₁ (item a b c))) $$ Hr
  icases Hr with ⟨Hi, Hr⟩
  isplitr
  · ipureintro
    exact ⟨h ▸ List.mem_append_right _ List.mem_cons_self, ordered_suffix (d := d) (h ▸ ordered_ops)⟩
  iexists W
  isplitl [HO]; · iexact HO
  isplitl [Ht]; · iexact Ht
  isplitl [Hi]; · iexact Hi
  iintro %W' ⟨HO, Hz', Hi⟩
  iexists (d ++ [op]); iexists (outs op ++ rest); iexists W'
  isplitr
  · ipureintro; exact ⟨by rw [List.append_assoc]; exact h, h₂⟩
  isplitl [HO]; · iexact HO
  isplitl [Htl]; · iexact Htl
  isplitl [Hz Hz']
  · rw [sepL_append, sepL_cons, sepL_nil]
    isplitl [Hz]; · iexact Hz
    isplitl [Hz']; · iexact Hz'
    iempintro
  rw [sepL_append]
  isplitl [Hi] <;> iassumption

/-- Borrowing a piece a step reads or consumes. -/
theorem inv_use {op : Op} {l : List Op} {x : Item} (hx : x ∈ uses op ++ ins op) :
    Inv a b c (op :: l) ⊢ iprop(item a b c x ∗ (item a b c x -∗ Inv a b c (op :: l))) := by
  unfold Inv
  iintro ⟨%d, %regs, %W, %h, HO, Ht, Hz, Hr⟩
  obtain ⟨hu, rest, h₁, h₂⟩ := run_step h.1 h.2
  have e : sepL regs (item a b c) ⊢ iprop(item a b c x ∗ (item a b c x -∗ sepL regs (item a b c))) := by
    rcases List.mem_append.mp hx with hx | hx
    · exact sepL_elem (hu x hx) _
    · rw [sepL_takeL h₁]
      iintro ⟨Hi, Hr⟩
      ihave Hi := (sepL_elem hx _) $$ Hi
      icases Hi with ⟨Hx, Hi⟩
      isplitl [Hx]; · iexact Hx
      iintro Hx
      isplitl [Hi Hx]; · iapply Hi; iexact Hx
      iexact Hr
  ihave Hr := e $$ Hr
  icases Hr with ⟨Hx, Hr⟩
  isplitl [Hx]; · iexact Hx
  iintro Hx
  iexists d; iexists regs; iexists W
  isplitr; · ipureintro; exact h
  isplitl [HO]; · iexact HO
  isplitl [Ht]; · iexact Ht
  isplitl [Hz]; · iexact Hz
  iapply Hr; iexact Hx

theorem good_of_mem {op : Op} (h : op ∈ ops) : goodOp op = true := List.all_eq_true.mp good_ops op h

/-! ## Programs -/

variable {α : Type}

/-- The program `p` runs from what device `c` holds before the rest `l`. -/
def Tr (l : List Op) (p : Prog (TpuEff nD τ sig (Elt F) Λ₀ .tc) α) (Q : α → sProp 𝕄) : Prop :=
  iprop(recs a b K ∗ levAts L lv ∗ Inv a b c l) ⊢ wp frame (wpE (defs₀ (F := F)) 𝒱₀ (c : Thread nD τ) none) Set.univ p Q

variable {a b K c}
variable {l : List Op}

/-- A step without ghost state. -/
def quiet : Op → Bool
  | .sig _ | .send _ | .wait _ => false
  | _ => true

/-- A step that only renames pieces. -/
theorem st_ghost {Q : α → sProp 𝕄} {op : Op} {p : Prog (TpuEff nD τ sig (Elt F) Λ₀ .tc) α} (hq : quiet op = true)
    (h : sepL (ins op) (item a b c) ⊢ sepL (outs op) (item a b c)) (H : Tr a b K c l p Q) : Tr a b K c (op :: l) p Q := by
  unfold Tr at H ⊢
  refine (sep_mono_right (sep_mono_right ?_)).trans H
  iintro HI
  ihave HI := (inv_step a b c op l) $$ HI
  icases HI with ⟨-, %W, HO, Ht, Hi, Hk⟩
  iapply Hk
  have hd : debt c op = 0 := by cases op <;> first | rfl | cases hq
  rw [hd, add_zero]
  isplitl [HO]; · iexact HO
  isplitr [Hi]
  · have hz : (iprop(emp) : sProp 𝕄) ⊢ zeros c op := by cases op <;> first | exact .rfl | cases hq
    iapply hz; iempintro
  iapply h; iexact Hi

/-- A load of known contents. -/
theorem st_load {Q : α → sProp 𝕄} {op : Op} {x : Item} (hx : x ∈ uses op ++ ins op) {cs : CoreSpace} {s : Shape} {e : EltTy} {m : Memref sig .tc cs s e}
    {r : LoadRect s} {hl : m.view.LoadsAt r} {k : (r.shape.Idx → Elt F e) → Prog (TpuEff nD τ sig (Elt F) Λ₀ .tc) α}
    {S : Finset (Idx (m.view.loc (c : Thread nD τ)))} {sh : ℕ} {f : Buf (Elt F) (m.view.loc (c : Thread nD τ))}
    (hi : item a b c x = (m.view.loc (c : Thread nD τ) ↦[S]{shareOf sh} f)) (hS : m.view.setOn r.set ⊆ S)
    {w : r.shape.Idx → Elt F e} (hw : m.view.readAt (Elt F) r f = w)
    (H : Tr a b K c (op :: l) (k w) Q) : Tr a b K c (op :: l) (.op (.load m r hl) k) Q := by
  unfold Tr at H ⊢
  iintro ⟨#HR, #HL, HI⟩
  ihave HI := (inv_use a b c hx) $$ HI
  rw [hi]
  icases HI with ⟨Hx, HI⟩
  iapply (wp_load 𝒱₀ (c : Thread nD τ) none Set.univ hS) $$ Hx
  iintro Hx
  rw [hw]
  iapply H
  isplitr; · iexact HR
  isplitr; · iexact HL
  iapply HI; iexact Hx

/-- A load whose value is not used. -/
theorem st_load_any {Q : α → sProp 𝕄} {op : Op} {x : Item} (hx : x ∈ uses op ++ ins op) {cs : CoreSpace} {s : Shape} {e : EltTy} {m : Memref sig .tc cs s e}
    {r : LoadRect s} {hl : m.view.LoadsAt r} {k : (r.shape.Idx → Elt F e) → Prog (TpuEff nD τ sig (Elt F) Λ₀ .tc) α}
    {S : Finset (Idx (m.view.loc (c : Thread nD τ)))} {t sh : ℕ} {f : Buf (Elt F) (m.view.loc (c : Thread nD τ))}
    (hi : item a b c x = pts (m.view.loc (c : Thread nD τ)) S t sh f) (hS : m.view.setOn r.set ⊆ S)
    (H : ∀ w, Tr a b K c (op :: l) (k w) Q) : Tr a b K c (op :: l) (.op (.load m r hl) k) Q := by
  by_cases ht : t = 0
  · unfold Tr at H ⊢
    iintro ⟨#HR, #HL, HI⟩
    ihave HI := (inv_use a b c hx) $$ HI
    rw [hi]; unfold pts; rw [if_pos ht]
    icases HI with ⟨⟨%f, Hx⟩, HI⟩
    iapply (wp_load 𝒱₀ (c : Thread nD τ) none Set.univ hS) $$ Hx
    iintro Hx
    iapply (H _)
    isplitr; · iexact HR
    isplitr; · iexact HL
    iapply HI; iexists f; iexact Hx
  · unfold pts at hi; rw [if_neg ht] at hi
    exact st_load hx hi hS rfl (H _)

/-- A store that is a step. -/
theorem st_store {Q : α → sProp 𝕄} {op : Op} {x y : Item} (hq : quiet op = true) (hx : ins op = [x]) (hy : outs op = [y])
    {cs : CoreSpace} {s : Shape} {e : EltTy} {m : Memref sig .tc cs s e} {r : Rect s} {w : r.shape.Idx → Elt F e} {Mk : Finset r.shape.Idx}
    {hst : (m.access r).Stores Mk} {hm : Mk = Finset.univ ∨ ∀ a, r.stride a = 1} {k : PUnit → Prog (TpuEff nD τ sig (Elt F) Λ₀ .tc) α}
    {S : Finset (Idx ((m.access r).loc (c : Thread nD τ)))} {t t' : ℕ} {f f' : Buf (Elt F) ((m.access r).loc (c : Thread nD τ))}
    (hMk : Mk = Finset.univ) (hix : item a b c x = pts ((m.access r).loc (c : Thread nD τ)) S t 0 f)
    (hiy : item a b c y = pts ((m.access r).loc (c : Thread nD τ)) S t' 0 f')
    (hS : (m.access r).set = S) (hw : w = (m.access r).read (Elt F) f')
    (H : Tr a b K c l (k ⟨⟩) Q) : Tr a b K c (op :: l) (.op (.store m r w Mk hst hm) k) Q := by
  subst hMk
  unfold Tr at H ⊢
  iintro ⟨#HR, #HL, HI⟩
  ihave HI := (inv_step a b c op l) $$ HI
  icases HI with ⟨-, %W, HO, Ht, Hi, Hk⟩
  have hin : sepL (ins op) (item a b c) ⊢ pts ((m.access r).loc (c : Thread nD τ)) S t 0 f := by
    rw [hx, sepL_cons, sepL_nil, hix]; iintro ⟨H, -⟩; iexact H
  have hout : pts ((m.access r).loc (c : Thread nD τ)) S t' 0 f' ⊢ sepL (outs op) (item a b c) := by
    rw [hy, sepL_cons, sepL_nil, hiy]; iintro H; isplitl [H]; · iexact H
    iempintro
  ihave Hx := hin $$ Hi
  have e₀ : pts ((m.access r).loc (c : Thread nD τ)) S t 0 f
      ⊢ iprop(∃ f : Buf (Elt F) ((m.access r).loc (c : Thread nD τ)), (m.access r).loc (c : Thread nD τ) ↦[S]{fullShare} f : sProp 𝕄) := by
    unfold pts; split
    · exact .rfl
    · iintro H; iexists f; iexact H
  ihave Hx := e₀ $$ Hx
  icases Hx with ⟨%g, Hx⟩
  iapply (wp_store 𝒱₀ (c : Thread nD τ) none Set.univ (S := S) (by rw [View.setOn_univ, hS])) $$ Hx
  iintro Hx
  have e₁ : ((m.access r).loc (c : Thread nD τ) ↦[S]{fullShare} (m.access r).write (Elt F) g w Finset.univ : sProp 𝕄)
      = ((m.access r).loc (c : Thread nD τ) ↦[S]{fullShare} f') := by
    refine pointsTo_congr fun i hi => ?_
    rw [hw, View.write_read_eq_piecewise, View.setOn_univ, hS, Finset.piecewise_eq_of_mem _ _ _ hi]
  have e₂ : ((m.access r).loc (c : Thread nD τ) ↦[S]{fullShare} f' : sProp 𝕄) ⊢ pts ((m.access r).loc (c : Thread nD τ)) S t' 0 f' := by
    unfold pts; split
    · iintro H; iexists f'; iexact H
    · exact .rfl
  ihave Hx := (Entails.of_eq e₁) $$ Hx
  iapply H
  isplitr; · iexact HR
  isplitr; · iexact HL
  iapply Hk
  have hd : debt c op = 0 := by cases op <;> first | rfl | cases hq
  rw [hd, add_zero]
  isplitl [HO]; · iexact HO
  isplitr [Hx]
  · have hz : (iprop(emp) : sProp 𝕄) ⊢ zeros c op := by cases op <;> first | exact .rfl | cases hq
    iapply hz; iempintro
  iapply hout
  iapply e₂; iexact Hx

/-- Pieces of the sender, as the receiver of its message names them. -/
theorem flip_piece (dir : ℕ) (hdir : 1 ≤ dir ∧ dir ≤ 4) (x : Item) (hd : x.dir = 0) (hs : x.sh = 0) (hk : x.kind ≤ 3) :
    item a b c x ⊢ piece a b (peer c dir) (x.flip dir) := by
  have hp : peer (peer c dir) (opp dir) = c := peer_opp c dir (by omega)
  rw [item_piece a b (by omega)]
  unfold piece
  rw [hd, peer_zero, show (x.flip dir).dir = opp dir from rfl, hp]
  obtain ⟨kind, dr, g, h, kk, q, e, tag, sh⟩ := x
  dsimp only at hs hk hd
  subst hs hd
  have key : ∀ (ℓ : Loc nD τ sig) (S : Finset (Idx ℓ)) (f f' : Buf (Elt F) ℓ), (pts ℓ S tag 0 f : sProp 𝕄) ⊢ pts ℓ S 0 0 f' := by
    intro ℓ S f f'
    unfold pts; rw [if_pos rfl]; split
    · exact .rfl
    · iintro H; iexists f; iexact H
  have : kind = 0 ∨ kind = 1 ∨ kind = 2 ∨ kind = 3 := by omega
  rcases this with rfl | rfl | rfl | rfl <;> exact key _ _ _ _

theorem flip_pieces (dir : ℕ) (hdir : 1 ≤ dir ∧ dir ≤ 4) (xs : List Item) (h : ∀ x ∈ xs, x.dir = 0 ∧ x.sh = 0 ∧ x.kind ≤ 3) :
    sepL xs (item a b c) ⊢ sepL (xs.map (Item.flip dir)) (piece a b (peer c dir)) := by
  rw [sepL_map]
  exact sepL_mono fun x hx => flip_piece dir hdir x (h x hx).1 (h x hx).2.1 (h x hx).2.2

theorem barItems_plain (dir : ℕ) (hdir : 1 ≤ dir ∧ dir ≤ 4) : ∀ x ∈ barItems dir, x.dir = 0 ∧ x.sh = 0 ∧ x.kind ≤ 3 := by
  have : dir = 1 ∨ dir = 2 ∨ dir = 3 ∨ dir = 4 := by omega
  rcases this with rfl | rfl | rfl | rfl <;> decide

/-- The signal to a neighbour. -/
theorem st_sig {Q : α → sProp 𝕄} {dir : ℕ} {n : Dev nD} (hn : n = peer c dir) {sem : Sem sig} (hsem : sem = barS) {k' : ℤ} (hk : k' = 1)
    {k : PUnit → Prog (TpuEff nD τ sig (Elt F) Λ₀ .tc) α}
    (H : Tr a b K c l (k ⟨⟩) Q) : Tr a b K c (.sig dir :: l) (.op (.semSignal ((n, .tc) : Thread nD τ) sem k') k) Q := by
  subst hn hsem hk
  unfold Tr at H ⊢
  iintro ⟨#HR, #HL, HI⟩
  ihave HI := (inv_step a b c _ l) $$ HI
  icases HI with ⟨%hg, %W, HO, Ht, Hi, Hk⟩
  ihave Ht := (show toks c (.sig dir) ⊢ dutyTok ER (((peer c dir : Dev nD) : Thread nD τ), SemLoc.reg barS) 0 dir from .rfl) $$ Ht
  have hdir : 1 ≤ dir ∧ dir ≤ 4 := of_decide_eq_true (good_of_mem hg.1)
  ihave #Hc := (recs_at a b K (peer c dir) zero_mem_codes) $$ HR
  icases Hc with ⟨#Hci, #Hre⟩
  iapply (Rounds.wp_signal 𝒱₀ ER (Rd a b) (c : Thread nD τ) none (dst := (peer c dir : Thread nD τ)) (κ := K (peer c dir, 0))
      (r := 0) (d := dir) (by
        show dir ∈ (Rd a b).duties (cell (peer c dir) 0) 0
        rw [duties_bar]
        have : dir = 1 ∨ dir = 2 ∨ dir = 3 ∨ dir = 4 := by omega
        rcases this with rfl | rfl | rfl | rfl <;> decide) (amount_bar a b (peer c dir) dir) () (O c l) rfl)
    $$ [HO Ht Hi]
  · isplitr; · iexact Hci
    isplitl [HO]; · iexact HO
    isplitl [Ht]; · iexact Ht
    isplitl [Hi]
    · iapply (show sepL (ins (.sig dir)) (item a b c) ⊢ (Rd a b).payload (((peer c dir : Dev nD) : Thread nD τ), SemLoc.reg barS) 0 dir from
        (flip_pieces dir hdir _ (barItems_plain dir hdir)).trans (Entails.of_eq (payload_bar a b (peer c dir) dir).symm))
      iexact Hi
    · iexact Hre
  iintro HO
  iapply H
  isplitr; · iexact HR
  isplitr; · iexact HL
  iapply Hk
  isplitl [HO]; · iexact HO
  isplitl
  · iempintro
  · iempintro

/-- What the rest of the program pays lies above a level. -/
theorem O_above {n : ℕ} {l : List Op} (hl : above n l = true) (hg : ∀ op ∈ l, goodOp op = true) {g : GSem nD τ sig} {u : Unit} (h : 0 < O c l g u) :
    g.1.2 = .tc ∧ n < lv g u := by
  induction l with
  | nil => exact absurd h (Nat.lt_irrefl 0)
  | cons op l ih =>
    have hl' := Bool.and_eq_true_iff.mp (show ((match owedCode op with
      | some j => decide (n < lvl j)
      | none => true) && above n l) = true from hl)
    rw [show O c (op :: l) = O c l + debt c op from rfl, Pi.add_apply, Finsupp.add_apply] at h
    by_cases h₁ : 0 < O c l g u
    · exact ih hl'.2 (fun op hop => hg op (List.mem_cons_of_mem _ hop)) h₁
    · have h₂ : 0 < debt c op g u := by omega
      have hgo := hg op List.mem_cons_self
      cases op with
      | sig dir =>
        rw [show debt c (.sig dir) = tallyAt (cell (peer c dir) 0) () 1 from rfl, tallyAt_apply] at h₂
        by_cases he : g = cell (peer c dir) 0 ∧ u = ()
        · obtain ⟨rfl, rfl⟩ := he
          exact ⟨rfl, of_decide_eq_true hl'.1⟩
        · rw [if_neg he] at h₂; exact absurd h₂ (Nat.lt_irrefl 0)
      | send m =>
        rw [show debt c (.send m) = tallyAt (cell (peer c m.dir) m.rs) () (amt m.rs) from rfl, tallyAt_apply] at h₂
        by_cases he : g = cell (peer c m.dir) m.rs ∧ u = ()
        · obtain ⟨rfl, rfl⟩ := he
          refine ⟨rfl, ?_⟩
          rw [lv_cell (Or.inr (of_decide_eq_true hgo).2.1)]
          exact of_decide_eq_true hl'.1
        · rw [if_neg he] at h₂; exact absurd h₂ (Nat.lt_irrefl 0)
      | _ => exact absurd h₂ (Nat.lt_irrefl 0)

theorem mayWait {n : ℕ} {l : List Op} {s : SemLoc sig} (hs : lv ((c : Thread nD τ), s) () ≤ n) (hl : above n l = true) (hg : ∀ op ∈ l, goodOp op = true) :
    (levAts L lv : sProp 𝕄) ⊢ MayWait (c : Thread nD τ) s () (O c l) :=
  MayOwe.of_cut (L := L) (lev := lv) n (fun p hp => by rw [Finset.mem_singleton.mp hp, L_cell]; exact Finset.mem_singleton_self _)
    (fun g u h => by
      have := (O_above hl hg h).1
      unfold L; rw [if_pos this]; exact Finset.mem_singleton_self _)
    (fun p hp => by rw [Finset.mem_singleton.mp hp]; exact hs)
    (fun g u h => (O_above hl hg h).2)

/-- A wait. -/
theorem st_wait_core {Q : α → sProp 𝕄} {j : ℕ} {w : TpuEff nD τ sig (Elt F) Λ₀ .tc PUnit} {k' : ℕ}
    (hw : ∀ Kk : PUnit → sProp 𝕄, wpE (defs₀ (F := F)) 𝒱₀ (c : Thread nD τ) none Set.univ w Kk = waitSpec (c : Thread nD τ) Set.univ (semOf j) k' Kk)
    (hk : k' = if j = 0 then 4 else amt j)
    {k : PUnit → Prog (TpuEff nD τ sig (Elt F) Λ₀ .tc) α}
    (H : Tr a b K c l (k ⟨⟩) Q) : Tr a b K c (.wait j :: l) (.op w k) Q := by
  unfold Tr at H ⊢
  iintro ⟨#HR, #HL, HI⟩
  have hsub : Inv a b c (.wait j :: l) ⊢ iprop(⌜∀ op ∈ l, op ∈ ops⌝ ∗ Inv a b c (.wait j :: l)) := by
    unfold Inv
    iintro ⟨%d, %regs, %W, %h, H⟩
    isplitr
    · ipureintro; intro op hop; rw [← h.1]; exact List.mem_append_right _ (List.mem_cons_of_mem _ hop)
    iexists d; iexists regs; iexists W
    isplitr; · ipureintro; exact h
    iexact H
  ihave HI := hsub $$ HI
  icases HI with ⟨%hl, HI⟩
  ihave HI := (inv_step a b c _ l) $$ HI
  rw [show toks c (.wait j) = iprop(atPos ER (cell c j) 0 ∅ 0 ∗ if isSend j then iprop(emp) else cred (tallyAt (cell c j) () (if j = 0 then 4 else amt j))) from rfl]
  icases HI with ⟨%hg, %W, HO, ⟨Hat, Hcr⟩, Hi, Hk⟩
  obtain ⟨hj, hpay⟩ : (j = 0 ∨ IsDma j) ∧ ∀ x ∈ payItems j, x.kind ≠ 7 := of_decide_eq_true (good_of_mem hg.1)
  have hjc : j ∈ codes := by
    rcases hj with rfl | hj
    exacts [zero_mem_codes, mem_codes hj]
  have hord := (Bool.and_eq_true_iff.mp hg.2).1
  ihave #Hc := (recs_at a b K c hjc) $$ HR
  icases Hc with ⟨#Hci, #Hre⟩
  have hcred : iprop((if isSend j then iprop(emp) else cred (tallyAt (cell c j) () (if j = 0 then 4 else amt j))) ∗ sepL (ins (.wait j)) (item a b c))
      ⊢ (cred (tallyAt ((c : Thread nD τ), semOf j) () k') : sProp 𝕄) := by
    rw [hk, show ins (.wait j) = if isSend j then [fly j] else [] from rfl]
    by_cases hs : isSend j = true
    · have hj0 : j ≠ 0 := by rintro rfl; revert hs; decide +kernel
      rw [if_pos hs, if_pos hs, sepL_cons, if_neg hj0,
        show item a b c (fly j) = cred (tallyAt ((c : Thread nD τ), semOf j) () (amt j)) from rfl]
      iintro ⟨-, H, -⟩
      iexact H
    · rw [if_neg hs, if_neg hs]
      iintro ⟨H, -⟩
      iexact H
  ihave Hcr := hcred $$ [Hcr Hi]
  · isplitl [Hcr] <;> iassumption
  have hexp : 0 + k' = (Rd a b).expect ((c : Thread nD τ), semOf j) 0 := by
    rw [Nat.zero_add, hk]
    rcases hj with rfl | hj
    · exact (expect_bar a b c).symm
    · rw [if_neg (by rintro rfl; exact absurd hj (by decide))]; exact (expect_dma a b c hj).symm
  have hrest : bigSep ((Rd a b).duties (cell c j) 0 \ ∅) (fun d => (Rd a b).payload (cell c j) 0 d) = sepL (payItems j) (item a b c) := by
    rw [sepL_item_piece a b hpay]
    rcases hj with rfl | hj
    exacts [rest_bar a b c, rest_dma a b c hj]
  iapply (Rounds.wp_wait_rest_token 𝒱₀ ER (Rd a b) (c : Thread nD τ) none (κ := K (c, j)) hw (Set.mem_univ _) ()
      (O := O c l) (W := W) (R := 0) (m := 0) (T := ∅) hexp) $$ [Hcr HO Hat]
  · isplitr; · iexact Hci
    isplitl [Hcr]; · iexact Hcr
    isplitl [HO]
    · rw [show debt c (.wait j) = 0 from rfl, add_zero]; iexact HO
    isplitr
    · iapply (mayWait (n := lvl j) (le_of_eq (lv_cell hj)) hord (fun op hop => good_of_mem (hl op hop))); iexact HL
    · iexact Hat
  iintro ⟨HO, Hat, -, Hpay⟩
  imod (Rounds.cell_close ER (Rd a b) (κ := K (c, j)) (g := cell c j) (Set.mem_univ _) (fun h => h) (R := 0 + 1) (duties_later a b _)) $$ [Hat] with Hz
  · isplitr; · iexact Hci
    iexact Hat
  iapply H
  isplitr; · iexact HR
  isplitr; · iexact HL
  iapply Hk
  isplitl [HO]; · iexact HO
  isplitl [Hz]
  · iapply (show semVal (cell c j) 0 ⊢ zeros c (.wait j) from .rfl); iexact Hz
  iapply (Entails.of_eq hrest)
  iexact Hpay

/-- A wait on a copy's cell. -/
theorem st_wait {Q : α → sProp 𝕄} {j : ℕ} {sp sp' : Space} {s s' : Shape} {e e' : EltTy} {sem : DmaSem sig}
    {src : Memref sig .tc sp' s' e'} {dst : Memref sig .tc sp s e} {hsrc : src.view.WordExact} {hdst : dst.view.WordExact}
    (hs : SemLoc.dma sem = semOf j) (hk : dst.view.dmaCredit = amt j) {k : PUnit → Prog (TpuEff nD τ sig (Elt F) Λ₀ .tc) α}
    (H : Tr a b K c l (k ⟨⟩) Q) : Tr a b K c (.wait j :: l) (.op (.waitDma2 sem src dst hsrc hdst) k) Q :=
  st_wait_core (k' := dst.view.dmaCredit) (fun Kk => by rw [← hs]; exact wpE_waitDma2_eq 𝒱₀ (c : Thread nD τ) none Set.univ Kk)
    (by rw [hk, if_neg]; rintro rfl; cases hs) H

/-- The wait on the barrier cell. -/
theorem st_wait_bar {Q : α → sProp 𝕄} {sem : Sem sig} (hs : sem = barS) {k' : ℤ} (hk : k' = 4) {k : PUnit → Prog (TpuEff nD τ sig (Elt F) Λ₀ .tc) α}
    (H : Tr a b K c l (k ⟨⟩) Q) : Tr a b K c (.wait 0 :: l) (.op (.semWait sem k') k) Q := by
  subst hs hk
  exact st_wait_core (j := 0) (k' := 4) (w := .semWait barS ((4 : ℕ) : ℤ))
    (fun Kk => wpE_semWait_eq 𝒱₀ (c : Thread nD τ) none Set.univ Kk) (if_pos rfl).symm H

/-- A copy to a neighbour. -/
theorem st_send {Q : α → sProp 𝕄} {m : Msg} {n : Dev nD} {s : Shape} {e : EltTy} {src dst : Memref sig .tc .vmem s e}
    (hn : n = peer c m.dir) {sS sR : SemLoc sig} (hsS : sS = semOf m.ss) (hsR : sR = semOf m.rs)
    {hsc : (dst : Memref sig (Dev.tc n : Thread nD τ).2.kind .vmem s e).view.ref.isScScratch = false}
    {hsrc : src.view.WordExact} {hdst : dst.view.WordExact}
    {hsem : DmaTarget.Typed .vmem sR (.remote (Dev.tc n : Thread nD τ) dst sS hsc)}
    {k : PUnit → Prog (TpuEff nD τ sig (Elt F) Λ₀ .tc) α}
    {f : Buf (Elt F) (dst.view.loc (peer c m.dir : Thread nD τ))}
    (fs : Buf (Elt F) (src.view.loc (c : Thread nD τ))) (fl : Buf (Elt F) (dst.view.loc (peer c m.dir : Thread nD τ)))
    (hisrc : item a b c m.src = (src.view.loc (c : Thread nD τ) ↦[src.view.set]{shareOf m.src.sh} fs))
    (hidst : item a b c m.dst = pts (dst.view.loc (peer c m.dir : Thread nD τ)) dst.view.set 0 0 f)
    (hilan : piece a b (peer c m.dir) m.landed = (dst.view.loc (peer c m.dir : Thread nD τ) ↦[dst.view.set]{fullShare} fl))
    (hN : dst.view.dmaCredit = amt m.rs)
    (hv : src.view.read (Elt F) fs = dst.view.read (Elt F) fl)
    (H : Tr a b K c l (k ⟨⟩) Q) :
    Tr a b K c (.send m :: l) (.op (.enqueueDma src (.remote (Dev.tc n : Thread nD τ) dst sS hsc) sR hsrc hdst hsem) k) Q := by
  subst hn hsS hsR
  unfold Tr at H ⊢
  iintro ⟨#HR, #HL, HI⟩
  ihave HI := (inv_step a b c _ l) $$ HI
  rw [show toks c (.send m) = iprop(dutyTok ER (cell c m.ss) 0 0 ∗ dutyTok ER (cell (peer c m.dir) m.rs) 0 0) from rfl,
    show ins (.send m) = m.src :: m.dst :: m.extra from rfl, sepL_cons, sepL_cons, hisrc, hidst]
  icases HI with ⟨%hg, %W, HO, ⟨Ht₁, Ht₂⟩, ⟨Hsrc, Hdst, Hex⟩, Hk⟩
  obtain ⟨hss, hrs, hdir, hpS, hpR, hsm, hk0, hd0, hdk, hdd, hex, htag, hlsh, hexs⟩ : IsDma m.ss ∧ IsDma m.rs ∧ (1 ≤ m.dir ∧ m.dir ≤ 4)
      ∧ payItems m.ss = m.back ∧ payItems m.rs = m.recv
      ∧ small m.ss = small m.rs ∧ m.src.kind = 0 ∧ m.src.dir = 0 ∧ m.dst.kind ≠ 7 ∧ m.dst.dir = m.dir ∧ (∀ x ∈ m.extra, x.kind = 0 ∧ x.dir = 0)
      ∧ m.src.tag ≠ 0 ∧ (m.land = true → m.src.sh = 0) ∧ (∀ x ∈ m.extra, x.sh = 0) := of_decide_eq_true (good_of_mem hg.1)
  have hamt : amt m.ss = amt m.rs := by unfold amt; rw [hsm]
  ihave #Hc₁ := (recs_at a b K c (mem_codes hss)) $$ HR
  icases Hc₁ with ⟨#Hci₁, #Hre₁⟩
  ihave #Hc₂ := (recs_at a b K (peer c m.dir) (mem_codes hrs)) $$ HR
  icases Hc₂ with ⟨#Hci₂, #Hre₂⟩
  have hany : pts (dst.view.loc (peer c m.dir : Thread nD τ)) dst.view.set 0 0 f
      ⊢ iprop(∃ f : Buf (Elt F) (dst.view.loc (peer c m.dir : Thread nD τ)), dst.view.loc (peer c m.dir : Thread nD τ) ↦[dst.view.set]{fullShare} f : sProp 𝕄) := by
    unfold pts; rw [if_pos rfl]
  ihave Hdst := hany $$ Hdst
  icases Hdst with ⟨%fd, Hdst⟩
  have hland : (dst.view.loc (peer c m.dir : Thread nD τ) ↦[dst.view.set]{fullShare}
      (dst.view.write (Elt F) fd (src.view.read (Elt F) fs) Finset.univ) : sProp 𝕄) = piece a b (peer c m.dir) m.landed := by
    rw [hilan]
    refine pointsTo_congr fun i hi => ?_
    rw [hv, View.write_read_eq_piecewise, View.setOn_univ, Finset.piecewise_eq_of_mem _ _ _ hi]
  have hexm : sepL m.extra (item a b c) ⊢ sepL (m.extra.map (Item.flip m.dir)) (piece a b (peer c m.dir)) :=
    flip_pieces m.dir hdir _ fun x hx => ⟨(hex x hx).2, hexs x hx, by rw [(hex x hx).1]; decide⟩
  have hkk : ∀ P : sProp 𝕄, iprop(P ∗ (∀ W' : Waits sig Unit, (owes (c : Thread nD τ) (O c l) W' ∗ zeros c (.send m) ∗ sepL (outs (.send m)) (item a b c)) -∗ Inv a b c l))
      ⊢ iprop((cred (tallyAt ((c : Thread nD τ), semOf m.ss) () (amt m.rs)) ∗ owes (c : Thread nD τ) (O c l) W) -∗ (P ∗ Inv a b c l)) := by
    intro P
    iintro ⟨HP, Hk⟩ ⟨Hcr, HO⟩
    isplitl [HP]; · iexact HP
    iapply Hk
    isplitl [HO]; · iexact HO
    isplitr [Hcr]; · iempintro
    iapply (show (cred (tallyAt ((c : Thread nD τ), semOf m.ss) () (amt m.rs)) : sProp 𝕄) ⊢ sepL (outs (.send m)) (item a b c) from by
      rw [show outs (.send m) = [fly m.ss] from rfl, sepL_cons, sepL_nil,
        show item a b c (fly m.ss) = cred (tallyAt ((c : Thread nD τ), semOf m.ss) () (amt m.ss)) from rfl, hamt]
      iintro H
      isplitl [H]; · iexact H
      iempintro)
    iexact Hcr
  by_cases hl : m.land = true
  · iapply (Rounds.wp_send_landing_pointsTo_with 𝒱₀ ER (Rd a b) (c : Thread nD τ) none (c' := (peer c m.dir : Thread nD τ))
      (κ₁ := K (c, m.ss)) (κ₂ := K (peer c m.dir, m.rs)) (r₁ := 0) (r₂ := 0) (d₁ := 0) (d₂ := 0) (fd := fd) (fs := fs) (q := shareOf m.src.sh)
      (F := sepL m.extra (item a b c))
      (by rw [show (((c : Thread nD τ), semOf m.ss) : GSem nD τ sig) = cell c m.ss from rfl, duties_dma a b c hss]; exact Finset.mem_singleton_self _)
      (by rw [show (((peer c m.dir : Thread nD τ), semOf m.rs) : GSem nD τ sig) = cell (peer c m.dir) m.rs from rfl, duties_dma a b _ hrs]; exact Finset.mem_singleton_self _)
      () () (amt m.rs) (by rw [semOf_dma hrs]; exact hN) ((amount_dma a b c hss 0).trans hamt) (amount_dma a b _ hrs 0) (O c l) rfl (W := W)
      (by
        rw [show (((c : Thread nD τ), semOf m.ss) : GSem nD τ sig) = cell c m.ss from rfl, payload_dma a b c hss, hpS,
          show m.back = [] from if_pos hl]
        exact .rfl)
      (by
        rw [show (((peer c m.dir : Thread nD τ), semOf m.rs) : GSem nD τ sig) = cell (peer c m.dir) m.rs from rfl, payload_dma a b _ hrs, hpR,
          show m.recv = m.landed :: (m.extra.map (Item.flip m.dir) ++ [m.src.flip m.dir]) from by unfold Msg.recv; rw [if_pos hl],
          sepL_cons, sepL_append, sepL_cons (m.src.flip m.dir), hland, ← hisrc]
        iintro ⟨⟨H₁, H₂⟩, H₃⟩
        isplitl [H₁]; · iexact H₁
        isplitl [H₂]; · iapply hexm; iexact H₂
        isplitl [H₃]
        · iapply (flip_piece m.dir hdir m.src hd0 (hlsh hl) (by rw [hk0]; decide)); iexact H₃
        · iempintro)) $$ [Hsrc Hdst Hex HO Ht₁ Ht₂]
    · isplitr; · iexact Hci₁
      isplitr; · iexact Hci₂
      isplitl [Hsrc]; · iexact Hsrc
      isplitl [Hdst Hex]
      · isplitl [Hdst] <;> iassumption
      isplitl [HO]; · iexact HO
      isplitl [Ht₁]; · iexact Ht₁
      isplitr; · iexact Hre₁
      isplitl [Ht₂]; · iexact Ht₂
      iexact Hre₂
    iintro Hn
    ihave Hk := (hkk iprop(emp)) $$ [Hk]
    · isplitr; · iempintro
      iexact Hk
    ihave Hk := Hk $$ Hn
    icases Hk with ⟨-, HI⟩
    iapply H
    isplitr; · iexact HR
    isplitr; · iexact HL
    iexact HI
  · iapply (Rounds.wp_send_pointsTo_with 𝒱₀ ER (Rd a b) (c : Thread nD τ) none (c' := (peer c m.dir : Thread nD τ))
      (κ₁ := K (c, m.ss)) (κ₂ := K (peer c m.dir, m.rs)) (r₁ := 0) (r₂ := 0) (d₁ := 0) (d₂ := 0) (fd := fd) (fs := fs) (q := shareOf m.src.sh)
      (F := sepL m.extra (item a b c))
      (by rw [show (((c : Thread nD τ), semOf m.ss) : GSem nD τ sig) = cell c m.ss from rfl, duties_dma a b c hss]; exact Finset.mem_singleton_self _)
      (by rw [show (((peer c m.dir : Thread nD τ), semOf m.rs) : GSem nD τ sig) = cell (peer c m.dir) m.rs from rfl, duties_dma a b _ hrs]; exact Finset.mem_singleton_self _)
      () () (amt m.rs) (by rw [semOf_dma hrs]; exact hN) ((amount_dma a b c hss 0).trans hamt) (amount_dma a b _ hrs 0) (O c l) rfl (W := W)
      (by
        rw [show (((c : Thread nD τ), semOf m.ss) : GSem nD τ sig) = cell c m.ss from rfl, payload_dma a b c hss, hpS,
          show m.back = [m.src] from if_neg hl, sepL_cons, ← hisrc, item_piece a b (by rw [hk0]; decide)]
        iintro H
        isplitl [H]; · iexact H
        iempintro)
      (by
        rw [show (((peer c m.dir : Thread nD τ), semOf m.rs) : GSem nD τ sig) = cell (peer c m.dir) m.rs from rfl, payload_dma a b _ hrs, hpR,
          show m.recv = m.landed :: (m.extra.map (Item.flip m.dir) ++ []) from by unfold Msg.recv; rw [if_neg hl],
          sepL_cons, List.append_nil, hland]
        iintro ⟨H₁, H₂⟩
        isplitl [H₁]; · iexact H₁
        iapply hexm; iexact H₂)) $$ [Hsrc Hdst Hex HO Ht₁ Ht₂]
    · isplitr; · iexact Hci₁
      isplitr; · iexact Hci₂
      isplitl [Hsrc]; · iexact Hsrc
      isplitl [Hdst Hex]
      · isplitl [Hdst] <;> iassumption
      isplitl [HO]; · iexact HO
      isplitl [Ht₁]; · iexact Ht₁
      isplitr; · iexact Hre₁
      isplitl [Ht₂]; · iexact Ht₂
      iexact Hre₂
    iintro Hn
    ihave Hk := (hkk iprop(emp)) $$ [Hk]
    · isplitr; · iempintro
      iexact Hk
    ihave Hk := Hk $$ Hn
    icases Hk with ⟨-, HI⟩
    iapply H
    isplitr; · iexact HR
    isplitr; · iexact HL
    iexact HI

end Cert.Prot
end
end
-- ==== Proof.Views.lean ====
/-
# The views

What the kernel's views of its buffers cover and read, and the step rules at those views: one per kind of load, store
and copy in the program.
-/
module

public import proofs.«01_k».proof.Proof.Steps

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

abbrev mA : Memref sig .tc .vmem S1536x768 .f32 := Memref.whole cc0_stg0_0
abbrev mB : Memref sig .tc .vmem S768x1536 .f32 := Memref.whole cc0_stg1_0
abbrev mO : Memref sig .tc .vmem S1536x1536 .bf16 := Memref.whole cc0_stg2_0
abbrev mN : Memref sig .tc .vmem S768x1536 .bf16 := Memref.whole cc0_scratch0
abbrev mR : Memref sig .tc .vmem S2x4x3x96x768 .bf16 := Memref.whole cc0_scratch1
abbrev mX : Memref sig .tc .vmem S2x2x96x768 .bf16 := Memref.whole cc0_scratch2
abbrev mY : Memref sig .tc .vmem S2x2x48x768 .bf16 := Memref.whole cc0_scratch3

/-- `n` rows of one column group. -/
abbrev Sh (n : ℕ) : Shape := ⟨2, ![n, 768]⟩

/-! ## What the views cover -/

theorem rect_box {n r g : ℕ} {off size : Fin 2 → ℕ} {inb} (h : off = ![r, 768 * g]) (hs : size = ![n, 768]) :
    (Rect.unit (s := S1536x1536) off size inb).set = box r n g := by
  subst h hs
  ext i
  rw [Rect.mem_set_unit, box, Finset.mem_filter]
  simp [Fin.forall_fin_two, and_assoc]

theorem rect_rows {n r : ℕ} {off size : Fin 2 → ℕ} {inb} (h : off = ![r, 0]) (hs : size = ![n, 1536]) :
    (Rect.unit (s := S1536x1536) off size inb).set = rows r n := by
  subst h hs
  ext i
  have h1 : (i 1).val < 1536 := (i 1).isLt
  rw [Rect.mem_set_unit, rows, Finset.mem_filter]
  simp [Fin.forall_fin_two, h1]

theorem rect_rsBox {g κ t : ℕ} {off size : Fin 5 → ℕ} {inb} (h : off = ![g, κ, t, 0, 0]) (hs : size = ![1, 1, 1, 96, 768]) :
    (Rect.unit (s := S2x4x3x96x768) off size inb).set = rsBox g κ t := by
  subst h hs
  ext i
  have h3 : (i 3).val < 96 := (i 3).isLt
  have h4 : (i 4).val < 768 := (i 4).isLt
  rw [Rect.mem_set_unit, rsBox, Finset.mem_filter]
  constructor
  · intro h
    have h0 := h 0; have h1 := h 1; have h2 := h 2
    simp at h0 h1 h2
    exact ⟨Finset.mem_univ _, by omega, by omega, by omega⟩
  · rintro ⟨-, h0, h1, h2⟩ x
    fin_cases x <;> simp <;> omega

theorem rect_z1Box {g h : ℕ} {off size : Fin 4 → ℕ} {inb} (ho : off = ![g, h, 0, 0]) (hs : size = ![1, 1, 96, 768]) :
    (Rect.unit (s := S2x2x96x768) off size inb).set = z1Box g h := by
  subst ho hs
  ext i
  have h3 : (i 2).val < 96 := (i 2).isLt
  have h4 : (i 3).val < 768 := (i 3).isLt
  rw [Rect.mem_set_unit, z1Box, Finset.mem_filter]
  constructor
  · intro h
    have h0 := h 0; have h1 := h 1
    simp at h0 h1
    exact ⟨Finset.mem_univ _, by omega, by omega⟩
  · rintro ⟨-, h0, h1⟩ x
    fin_cases x <;> simp <;> omega

theorem rect_z2Box {g h : ℕ} {off size : Fin 4 → ℕ} {inb} (ho : off = ![g, h, 0, 0]) (hs : size = ![1, 1, 48, 768]) :
    (Rect.unit (s := S2x2x48x768) off size inb).set = z2Box g h := by
  subst ho hs
  ext i
  have h3 : (i 2).val < 48 := (i 2).isLt
  have h4 : (i 3).val < 768 := (i 3).isLt
  rw [Rect.mem_set_unit, z2Box, Finset.mem_filter]
  constructor
  · intro h
    have h0 := h 0; have h1 := h 1
    simp at h0 h1
    exact ⟨Finset.mem_univ _, by omega, by omega⟩
  · rintro ⟨-, h0, h1⟩ x
    fin_cases x <;> simp <;> omega

/-! ## Slots without their unit axes -/

theorem sq5 (h : (Sh 96).numel = S1x1x1x96x768.numel) (x : (Sh 96).Idx) :
    ((Shape.reshapeEquiv h x) 0).val = 0 ∧ ((Shape.reshapeEquiv h x) 1).val = 0 ∧ ((Shape.reshapeEquiv h x) 2).val = 0
      ∧ ((Shape.reshapeEquiv h x) 3).val = (x 0).val ∧ ((Shape.reshapeEquiv h x) 4).val = (x 1).val := by
  have h₁ : (⟨2, ![96, 768]⟩ : Shape).numel = (⟨3, Matrix.vecCons 1 ![96, 768]⟩ : Shape).numel := rfl
  have h₂ : (⟨3, Matrix.vecCons 1 ![96, 768]⟩ : Shape).numel = (⟨4, Matrix.vecCons 1 (Matrix.vecCons 1 ![96, 768])⟩ : Shape).numel := rfl
  have h₃ : (⟨4, Matrix.vecCons 1 (Matrix.vecCons 1 ![96, 768])⟩ : Shape).numel
    = (⟨5, Matrix.vecCons 1 (Matrix.vecCons 1 (Matrix.vecCons 1 ![96, 768]))⟩ : Shape).numel := rfl
  have e : Shape.reshapeEquiv h x = Shape.reshapeEquiv h₃ (Shape.reshapeEquiv h₂ (Shape.reshapeEquiv h₁ x)) := by
    rw [Shape.reshapeEquiv_reshapeEquiv, Shape.reshapeEquiv_reshapeEquiv]
  rw [e, Shape.reshapeEquiv_cons_one h₃, Shape.reshapeEquiv_cons_one h₂, Shape.reshapeEquiv_cons_one h₁]
  exact ⟨rfl, rfl, rfl, rfl, rfl⟩

theorem sq4 {n : ℕ} (h : (Sh n).numel = (⟨4, ![1, 1, n, 768]⟩ : Shape).numel) (x : (Sh n).Idx) :
    ((Shape.reshapeEquiv h x) 0).val = 0 ∧ ((Shape.reshapeEquiv h x) 1).val = 0
      ∧ ((Shape.reshapeEquiv h x) 2).val = (x 0).val ∧ ((Shape.reshapeEquiv h x) 3).val = (x 1).val := by
  have h₁ : (⟨2, ![n, 768]⟩ : Shape).numel = (⟨3, Matrix.vecCons 1 ![n, 768]⟩ : Shape).numel := by
    simp [Shape.numel, Fin.prod_univ_succ]
  have h₂ : (⟨3, Matrix.vecCons 1 ![n, 768]⟩ : Shape).numel = (⟨4, Matrix.vecCons 1 (Matrix.vecCons 1 ![n, 768])⟩ : Shape).numel := by
    simp [Shape.numel, Fin.prod_univ_succ]
  have e : Shape.reshapeEquiv h x = Shape.reshapeEquiv h₂ (Shape.reshapeEquiv h₁ x) := by
    rw [Shape.reshapeEquiv_reshapeEquiv]
  rw [e, Shape.reshapeEquiv_cons_one h₂, Shape.reshapeEquiv_cons_one h₁]
  exact ⟨rfl, rfl, rfl, rfl⟩

/-! ## What the views read -/

variable (a : Dev nD → Vec F S1536x768 .f32) (b : Dev nD → Vec F S768x1536 .f32)

/-- Rows of the result buffer from row `r`, of `n` rows and one column group, at a tag. -/
def outB (c : Dev nD) (n h tag r g : ℕ) : (Sh n).Idx → F .bf16 := fun i => outV a b c h tag (r + (i 0).val) (768 * g + (i 1).val)

theorem read_out {c : Dev nD} {n h tag r g : ℕ} {off : Fin 2 → ℕ} {inb} (ho : off = ![r, 768 * g]) :
    (mO.access (Rect.unit (s := S1536x1536) off (Sh n).size inb)).read (Elt F) (outC a b c h tag) = outB a b c n h tag r g := by
  subst ho
  funext i
  show outV a b c h tag (r + 1 * (i 0).val) (768 * g + 1 * (i 1).val) = _
  rw [Nat.one_mul, Nat.one_mul]; rfl

theorem read_slab {c : Dev nD} {tag r : ℕ} {off : Fin 2 → ℕ} {inb} (ho : off = ![r, 0]) :
    (mO.access (Rect.unit (s := S1536x1536) off S384x1536.size inb)).read (Elt F) (outC a b c 0 tag)
      = fun i => outV a b c 0 tag (r + (i 0).val) (i 1).val := by
  subst ho
  funext i
  show outV a b c 0 tag (r + 1 * (i 0).val) (0 + 1 * (i 1).val) = _
  rw [Nat.one_mul, Nat.one_mul, Nat.zero_add]

/-- The slot of the ring buffer, as loaded. -/
def rB (c : Dev nD) (g κ t : ℕ) : S1x1x1x96x768.Idx → F .bf16 := fun i =>
  acc a b (peer c (opp (fwd (κ / 2)))) (κ / 2) t (row c.val (κ / 2) (t + 1) (1 - κ % 2) 2 + (i 3).val) (768 * g + (i 4).val)
/-- The slot of the first exchange's buffer, as loaded. -/
def xB (c : Dev nD) (g h : ℕ) : S1x1x96x768.Idx → F .bf16 := fun i =>
  acc a b (peer c 3) h 3 (row c.val h 3 0 2 + (i 2).val) (768 * g + (i 3).val)
/-- The slot of the second exchange's buffer, as loaded. -/
def yB (c : Dev nD) (g h : ℕ) : S1x1x48x768.Idx → F .bf16 := fun i =>
  xsum a b (peer c 4) h (row c.val h 3 0 0 + (i 2).val) (768 * g + (i 3).val)

theorem read_rs {c : Dev nD} {g κ t : ℕ} {off : Fin 5 → ℕ} {inb} (ho : off = ![g, κ, t, 0, 0]) :
    (mR.access (Rect.unit (s := S2x4x3x96x768) off S1x1x1x96x768.size inb)).read (Elt F) (rsC a b c) = rB a b c g κ t := by
  subst ho
  funext i
  have h0 : (i 0).val = 0 := Nat.lt_one_iff.mp (i 0).isLt
  have h1 : (i 1).val = 0 := Nat.lt_one_iff.mp (i 1).isLt
  have h2 : (i 2).val = 0 := Nat.lt_one_iff.mp (i 2).isLt
  show acc a b (peer c (opp (fwd ((κ + 1 * (i 1).val) / 2)))) ((κ + 1 * (i 1).val) / 2) (t + 1 * (i 2).val)
    (row c.val ((κ + 1 * (i 1).val) / 2) (t + 1 * (i 2).val + 1) (1 - (κ + 1 * (i 1).val) % 2) 2 + (0 + 1 * (i 3).val))
    (768 * (g + 1 * (i 0).val) + (0 + 1 * (i 4).val)) = _
  rw [h0, h1, h2]; simp only [Nat.one_mul, Nat.zero_add, Nat.mul_zero, Nat.add_zero]; rfl

theorem read_z1 {c : Dev nD} {g h : ℕ} {off : Fin 4 → ℕ} {inb} (ho : off = ![g, h, 0, 0]) :
    (mX.access (Rect.unit (s := S2x2x96x768) off S1x1x96x768.size inb)).read (Elt F) (z1C a b c) = xB a b c g h := by
  subst ho
  funext i
  have h0 : (i 0).val = 0 := Nat.lt_one_iff.mp (i 0).isLt
  have h1 : (i 1).val = 0 := Nat.lt_one_iff.mp (i 1).isLt
  show acc a b (peer c 3) (h + 1 * (i 1).val) 3 (row c.val (h + 1 * (i 1).val) 3 0 2 + (0 + 1 * (i 2).val))
    (768 * (g + 1 * (i 0).val) + (0 + 1 * (i 3).val)) = _
  rw [h0, h1]; simp only [Nat.one_mul, Nat.zero_add, Nat.mul_zero, Nat.add_zero]; rfl

theorem read_z2 {c : Dev nD} {g h : ℕ} {off : Fin 4 → ℕ} {inb} (ho : off = ![g, h, 0, 0]) :
    (mY.access (Rect.unit (s := S2x2x48x768) off S1x1x48x768.size inb)).read (Elt F) (z2C a b c) = yB a b c g h := by
  subst ho
  funext i
  have h0 : (i 0).val = 0 := Nat.lt_one_iff.mp (i 0).isLt
  have h1 : (i 1).val = 0 := Nat.lt_one_iff.mp (i 1).isLt
  show xsum a b (peer c 4) (h + 1 * (i 1).val) (row c.val (h + 1 * (i 1).val) 3 0 0 + (0 + 1 * (i 2).val))
    (768 * (g + 1 * (i 0).val) + (0 + 1 * (i 3).val)) = _
  rw [h0, h1]; simp only [Nat.one_mul, Nat.zero_add, Nat.mul_zero, Nat.add_zero]; rfl

/-! ## The arithmetic of the stores -/

/-- The payload of an addition, by its two loads. -/
def addP {n : ℕ} {s : Shape} (v : (Sh n).Idx → F .bf16) (w : s.Idx → F .bf16) (h : (Sh n).ShapeCasts (Sh n)) (h' : s.ShapeCasts (Sh n)) :
    (Sh n).Idx → F .bf16 := addf (shapeCast (Sh n) v h) (shapeCast (Sh n) w h')

theorem addP_apply {n : ℕ} {s : Shape} (v : (Sh n).Idx → F .bf16) (w : s.Idx → F .bf16) (h : (Sh n).ShapeCasts (Sh n)) (h' : s.ShapeCasts (Sh n))
    (i : (Sh n).Idx) : addP v w h h' i = FloatOps.addf (v i) (w (Shape.reshapeEquiv h' i)) := by
  show FloatOps.addf (v (Shape.reshapeEquiv h i)) _ = _
  rw [Shape.reshapeEquiv_self]; rfl

/-- Adding the ring's slot. -/
theorem addR_val (c : Dev nD) (g κ t : ℕ) (hκ : κ < 4) (ht : t < 3) (h h') :
    addP (outB a b c 96 (κ / 2) 1 (row c.val (κ / 2) (t + 1) (1 - κ % 2) 2) g) (rB a b c g κ t) h h'
      = outB a b c 96 (κ / 2) (t + 2) (row c.val (κ / 2) (t + 1) (1 - κ % 2) 2) g := by
  funext i
  rw [addP_apply]
  obtain ⟨-, -, -, h3, h4⟩ := sq5 h' i
  unfold rB outB outV
  rw [h3, h4, if_neg (by decide), if_neg (by decide), if_neg (by decide), if_neg (by omega), if_neg (by omega), if_neg (by omega)]
  rfl

/-- Adding the first exchange's slot. -/
theorem addX_val (c : Dev nD) (g hh : ℕ) (h h') :
    addP (outB a b c 96 hh 4 (row c.val hh 3 0 2) g) (xB a b c g hh) h h' = outB a b c 96 hh 5 (row c.val hh 3 0 2) g := by
  funext i
  rw [addP_apply]
  obtain ⟨-, -, h3, h4⟩ := sq4 h' i
  unfold xB outB outV
  rw [h3, h4, if_neg (by decide), if_neg (by decide), if_neg (by decide), if_neg (by decide), if_neg (by decide), if_pos rfl]
  rfl

/-- Adding the second exchange's slot. -/
theorem addY_val (c : Dev nD) (g hh : ℕ) (h h') :
    addP (outB a b c 48 hh 5 (row c.val hh 3 0 0) g) (yB a b c g hh) h h' = outB a b c 48 hh 6 (row c.val hh 3 0 0) g := by
  funext i
  rw [addP_apply]
  obtain ⟨-, -, h3, h4⟩ := sq4 h' i
  unfold yB outB outV
  rw [h3, h4, if_neg (by decide), if_neg (by decide), if_pos rfl, if_neg (by decide), if_pos rfl]
  rfl

/-- The device that finishes a row of its own eighth is itself. -/
theorem owner_own (c : Dev nD) (h : ℕ) (hh : h < 2) (i : ℕ) (hi : i < 48) :
    owner (row c.val h 3 0 0 + i) = c ∧ (row c.val h 3 0 0 + i) / 192 % 2 = h := by
  have key : ∀ (c : Dev nD) (h : Fin 2) (i : Fin 48), owner (row c.val h.val 3 0 0 + i.val) = c ∧ (row c.val h.val 3 0 0 + i.val) / 192 % 2 = h.val := by
    decide +kernel
  exact key c ⟨h, hh⟩ ⟨i, hi⟩

theorem act_apply (v : Vec F S48x768 .bf16) (i : S48x768.Idx) : k0_pay38 v i = act1 (v i) := by
  have e : ∀ v : Vec F S48x768 .bf16, shapeCast S48x768 v shapeCasts_S48x768_S48x768 = v := fun v => by
    funext i; show v (Shape.reshapeEquiv _ i) = v i; rw [Shape.reshapeEquiv_self]
  unfold act1 k0_pay38
  rw [e, e]
  rfl

/-- The activation. -/
theorem act_val (c : Dev nD) (g h : ℕ) (hh : h < 2) :
    k0_pay38 (outB a b c 48 h 6 (row c.val h 3 0 0) g) = outB a b c 48 h 7 (row c.val h 3 0 0) g := by
  funext i
  rw [act_apply]
  unfold outB outV res
  have hi : (i 0).val < 48 := (i 0).isLt
  rw [if_neg (by decide), if_pos rfl, if_pos rfl, (owner_own c h hh _ hi).1, (owner_own c h hh _ hi).2]

/-- The product of one slab. -/
theorem mm_val (c : Dev nD) (s : ℕ) (i : S384x1536.Idx) :
    k0_pay2 (slabA a c ((c.val % 4 + s) % 4)) (k0_pay1 (b c)) i = outV a b c 0 1 (slabRow c.val s + (i 0).val) (i 1).val := by
  have h0 : (i 0).val < 384 := (i 0).isLt
  have h1 : (i 1).val < 1536 := (i 1).isLt
  unfold outV
  rw [if_neg (by decide), if_neg (by decide), if_neg (by decide)]
  show _ = prod a b c _ _
  unfold prod slabRow
  rw [show (384 * ((c.val % 4 + s) % 4) + (i 0).val) / 384 = (c.val % 4 + s) % 4 by omega]
  refine congrArg _ ((at2_eta (m := 384) (n := 1536) (by decide) (by decide) i).symm.trans ?_)
  unfold at2
  refine congrArg₂ Shape.pair (Fin.ext ?_) (Fin.ext rfl)
  show (i 0).val % 384 = (384 * ((c.val % 4 + s) % 4) + (i 0).val) % 384
  omega

end Cert.Prot
end
end
-- ==== Proof.Rules.lean ====
/-
# The rules of the program's steps

The step rules at the kernel's own views: one per kind of load, store and copy.
-/
module

public import proofs.«01_k».proof.Proof.Views

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {a : Dev nD → Vec F S1536x768 .f32} {b : Dev nD → Vec F S768x1536 .f32}
variable {K : Dev nD × ℕ → ℕ} {c : Dev nD} {α : Type} {l : List Op}

/-- A buffer seen whole covers what it is asked for. -/
theorem setOn_whole (r : Ref sig .tc) (X : Finset r.ty.shape.Idx) : (View.whole r).setOn X = X := by
  unfold View.setOn; exact Finset.map_refl

/-! ## Pieces as memory -/

theorem pieceAt_out {d : Dev nD} {x : Item} (h : x.kind = 0) :
    pieceAt a b d x = pts (locO d) (box (row d.val x.h x.k x.q x.e) (len x.e) x.g) x.tag x.sh (outC a b d x.h x.tag) := by
  cases x; dsimp at h; subst h; rfl

theorem item_own {x : Item} (h : x.kind ≠ 7) (hd : x.dir = 0) : item a b c x = pieceAt a b c x := by
  rw [item_piece a b h]; unfold piece; rw [hd, peer_zero]

theorem item_out {x : Item} (h : x.kind = 0) (hd : x.dir = 0) (ht : x.tag ≠ 0) :
    item a b c x = (locO c ↦[box (row c.val x.h x.k x.q x.e) (len x.e) x.g]{shareOf x.sh} outC a b c x.h x.tag : sProp 𝕄) := by
  rw [item_own (by rw [h]; decide) hd, pieceAt_out h]; exact if_neg ht

/-! ## Loads -/

/-- A load of rows of the result buffer. -/
theorem ld_out {Q : α → sProp 𝕄} {op : Op} (x : Item) {n : ℕ} {off : Dev nD → Fin 2 → ℕ} {inb}
    {hl : mO.view.LoadsAt (Rect.unit (s := S1536x1536) (off c) (Sh n).size inb).toLoadRect}
    {k : ((Sh n).Idx → Elt F .bf16) → Prog (TpuEff nD τ sig (Elt F) Λ₀ .tc) α}
    (hx : x ∈ uses op ++ ins op) (hk : x.kind = 0 ∧ x.dir = 0 ∧ x.tag ≠ 0 ∧ len x.e = n)
    (hoff : ∀ d : Dev nD, off d = ![row d.val x.h x.k x.q x.e, 768 * x.g])
    (H : Tr a b K c (op :: l) (k (outB a b c n x.h x.tag (row c.val x.h x.k x.q x.e) x.g)) Q) :
    Tr a b K c (op :: l) (.op (.load mO (Rect.unit (s := S1536x1536) (off c) (Sh n).size inb).toLoadRect hl) k) Q := by
  obtain ⟨hk, hd, ht, hn⟩ := hk
  refine st_load hx (item_out hk hd ht) ?_ ?_ H
  · rw [show mO.view.setOn (Rect.unit (s := S1536x1536) (off c) (Sh n).size inb).toLoadRect.set
      = (Rect.unit (s := S1536x1536) (off c) (Sh n).size inb).set from setOn_whole _ _, rect_box (hoff c) rfl, hn]
  · exact (View.readAt_rect _ _).trans (read_out a b (hoff c))

/-- The accumulator's load of a ring step. -/
theorem ldR {Q : α → sProp 𝕄} {g κ t : ℕ} {off : Dev nD → Fin 2 → ℕ} {inb}
    {hl : mO.view.LoadsAt (Rect.unit (s := S1536x1536) (off c) (Sh 96).size inb).toLoadRect}
    {k : ((Sh 96).Idx → Elt F .bf16) → Prog (TpuEff nD τ sig (Elt F) Λ₀ .tc) α}
    (H : Tr a b K c (.addR g κ t :: l) (k (outB a b c 96 (κ / 2) 1 (row c.val (κ / 2) (t + 1) (1 - κ % 2) 2) g)) Q)
    (hoff : ∀ d : Dev nD, off d = ![row d.val (κ / 2) (t + 1) (1 - κ % 2) 2, 768 * g] := by decide +kernel) :
    Tr a b K c (.addR g κ t :: l) (.op (.load mO (Rect.unit (s := S1536x1536) (off c) (Sh 96).size inb).toLoadRect hl) k) Q :=
  ld_out (out 0 g (κ / 2) (t + 1) (1 - κ % 2) 2 1 0) (by simp [uses, ins]) ⟨rfl, rfl, Nat.one_ne_zero, rfl⟩ hoff H

/-- The landed slot's load of a ring step. -/
theorem ldRs {Q : α → sProp 𝕄} {g κ t : ℕ} {off : Fin 5 → ℕ} {inb}
    {hl : mR.view.LoadsAt (Rect.unit (s := S2x4x3x96x768) off S1x1x1x96x768.size inb).toLoadRect}
    {k : (S1x1x1x96x768.Idx → Elt F .bf16) → Prog (TpuEff nD τ sig (Elt F) Λ₀ .tc) α}
    (H : Tr a b K c (.addR g κ t :: l) (k (rB a b c g κ t)) Q)
    (hoff : off = ![g, κ, t, 0, 0] := by rfl) :
    Tr a b K c (.addR g κ t :: l) (.op (.load mR (Rect.unit (s := S2x4x3x96x768) off S1x1x1x96x768.size inb).toLoadRect hl) k) Q := by
  refine st_load (x := slotR 0 g κ t 1) (sh := 0) (by simp [uses]) (item_own (of_decide_eq_true rfl) rfl) ?_ ?_ H
  · rw [show mR.view.setOn (Rect.unit (s := S2x4x3x96x768) off S1x1x1x96x768.size inb).toLoadRect.set
      = (Rect.unit (s := S2x4x3x96x768) off S1x1x1x96x768.size inb).set from setOn_whole _ _]
    exact (rect_rsBox hoff rfl).le
  · exact (View.readAt_rect _ _).trans (read_rs a b hoff)

/-- The accumulator's load of the first exchange. -/
theorem ldX {Q : α → sProp 𝕄} {g h : ℕ} {off : Dev nD → Fin 2 → ℕ} {inb}
    {hl : mO.view.LoadsAt (Rect.unit (s := S1536x1536) (off c) (Sh 96).size inb).toLoadRect}
    {k : ((Sh 96).Idx → Elt F .bf16) → Prog (TpuEff nD τ sig (Elt F) Λ₀ .tc) α}
    (H : Tr a b K c (.addX g h :: l) (k (outB a b c 96 h 4 (row c.val h 3 0 2) g)) Q)
    (hoff : ∀ d : Dev nD, off d = ![row d.val h 3 0 2, 768 * g] := by decide +kernel) :
    Tr a b K c (.addX g h :: l) (.op (.load mO (Rect.unit (s := S1536x1536) (off c) (Sh 96).size inb).toLoadRect hl) k) Q :=
  ld_out (out 0 g h 3 0 2 4 0) (by simp [uses, ins]) ⟨rfl, rfl, of_decide_eq_true rfl, rfl⟩ hoff H

/-- The landed slot's load of the first exchange. -/
theorem ldXs {Q : α → sProp 𝕄} {g h : ℕ} {off : Fin 4 → ℕ} {inb}
    {hl : mX.view.LoadsAt (Rect.unit (s := S2x2x96x768) off S1x1x96x768.size inb).toLoadRect}
    {k : (S1x1x96x768.Idx → Elt F .bf16) → Prog (TpuEff nD τ sig (Elt F) Λ₀ .tc) α}
    (H : Tr a b K c (.addX g h :: l) (k (xB a b c g h)) Q)
    (hoff : off = ![g, h, 0, 0] := by rfl) :
    Tr a b K c (.addX g h :: l) (.op (.load mX (Rect.unit (s := S2x2x96x768) off S1x1x96x768.size inb).toLoadRect hl) k) Q := by
  refine st_load (x := slot1 0 g h 1) (sh := 0) (by simp [uses]) (item_own (of_decide_eq_true rfl) rfl) ?_ ?_ H
  · rw [show mX.view.setOn (Rect.unit (s := S2x2x96x768) off S1x1x96x768.size inb).toLoadRect.set
      = (Rect.unit (s := S2x2x96x768) off S1x1x96x768.size inb).set from setOn_whole _ _]
    exact (rect_z1Box hoff rfl).le
  · exact (View.readAt_rect _ _).trans (read_z1 a b hoff)

/-- The accumulator's load of the second exchange. -/
theorem ldY {Q : α → sProp 𝕄} {g h : ℕ} {off : Dev nD → Fin 2 → ℕ} {inb}
    {hl : mO.view.LoadsAt (Rect.unit (s := S1536x1536) (off c) (Sh 48).size inb).toLoadRect}
    {k : ((Sh 48).Idx → Elt F .bf16) → Prog (TpuEff nD τ sig (Elt F) Λ₀ .tc) α}
    (H : Tr a b K c (.addY g h :: l) (k (outB a b c 48 h 5 (row c.val h 3 0 0) g)) Q)
    (hoff : ∀ d : Dev nD, off d = ![row d.val h 3 0 0, 768 * g] := by decide +kernel) :
    Tr a b K c (.addY g h :: l) (.op (.load mO (Rect.unit (s := S1536x1536) (off c) (Sh 48).size inb).toLoadRect hl) k) Q :=
  ld_out (out 0 g h 3 0 0 5 0) (by simp [uses, ins]) ⟨rfl, rfl, of_decide_eq_true rfl, rfl⟩ hoff H

/-- The landed slot's load of the second exchange. -/
theorem ldYs {Q : α → sProp 𝕄} {g h : ℕ} {off : Fin 4 → ℕ} {inb}
    {hl : mY.view.LoadsAt (Rect.unit (s := S2x2x48x768) off S1x1x48x768.size inb).toLoadRect}
    {k : (S1x1x48x768.Idx → Elt F .bf16) → Prog (TpuEff nD τ sig (Elt F) Λ₀ .tc) α}
    (H : Tr a b K c (.addY g h :: l) (k (yB a b c g h)) Q)
    (hoff : off = ![g, h, 0, 0] := by rfl) :
    Tr a b K c (.addY g h :: l) (.op (.load mY (Rect.unit (s := S2x2x48x768) off S1x1x48x768.size inb).toLoadRect hl) k) Q := by
  refine st_load (x := slot2 0 g h 1) (sh := 0) (by simp [uses]) (item_own (of_decide_eq_true rfl) rfl) ?_ ?_ H
  · rw [show mY.view.setOn (Rect.unit (s := S2x2x48x768) off S1x1x48x768.size inb).toLoadRect.set
      = (Rect.unit (s := S2x2x48x768) off S1x1x48x768.size inb).set from setOn_whole _ _]
    exact (rect_z2Box hoff rfl).le
  · exact (View.readAt_rect _ _).trans (read_z2 a b hoff)

/-- The activation's load. -/
theorem ldA {Q : α → sProp 𝕄} {g h : ℕ} {off : Dev nD → Fin 2 → ℕ} {inb}
    {hl : mO.view.LoadsAt (Rect.unit (s := S1536x1536) (off c) (Sh 48).size inb).toLoadRect}
    {k : ((Sh 48).Idx → Elt F .bf16) → Prog (TpuEff nD τ sig (Elt F) Λ₀ .tc) α}
    (H : Tr a b K c (.act g h :: l) (k (outB a b c 48 h 6 (row c.val h 3 0 0) g)) Q)
    (hoff : ∀ d : Dev nD, off d = ![row d.val h 3 0 0, 768 * g] := by decide +kernel) :
    Tr a b K c (.act g h :: l) (.op (.load mO (Rect.unit (s := S1536x1536) (off c) (Sh 48).size inb).toLoadRect hl) k) Q :=
  ld_out (out 0 g h 3 0 0 6 0) (by simp [uses, ins]) ⟨rfl, rfl, of_decide_eq_true rfl, rfl⟩ hoff H

theorem zero2 : (![0, 0] : Fin 2 → Nat) = fun _ => 0 := funext fun i => by fin_cases i <;> rfl

/-- The right operand's load. -/
theorem ldB {Q : α → sProp 𝕄} {inb} {hl : mB.view.LoadsAt (Rect.unit (s := S768x1536) ![0, 0] S768x1536.size inb).toLoadRect}
    {k : (S768x1536.Idx → Elt F .f32) → Prog (TpuEff nD τ sig (Elt F) Λ₀ .tc) α}
    (H : Tr a b K c (.nar :: l) (k (b c)) Q) :
    Tr a b K c (.nar :: l) (.op (.load mB (Rect.unit (s := S768x1536) ![0, 0] S768x1536.size inb).toLoadRect hl) k) Q :=
  st_load (x := opB) (sh := 0) (S := Finset.univ) (f := b c) (by decide) (item_own (of_decide_eq_true rfl) rfl) (Finset.subset_univ _)
    (Memref.readAt_unit_zero (Elt F) cc0_stg1_0 zero2 _ _) H

/-- The narrowed operand's buffer, before it is written. -/
theorem ldN {Q : α → sProp 𝕄} {inb} {hl : mN.view.LoadsAt (Rect.unit (s := S768x1536) ![0, 0] S768x1536.size inb).toLoadRect}
    {k : (S768x1536.Idx → Elt F .bf16) → Prog (TpuEff nD τ sig (Elt F) Λ₀ .tc) α}
    (H : ∀ w, Tr a b K c (.nar :: l) (k w) Q) :
    Tr a b K c (.nar :: l) (.op (.load mN (Rect.unit (s := S768x1536) ![0, 0] S768x1536.size inb).toLoadRect hl) k) Q :=
  st_load_any (x := opN 0) (t := 0) (sh := 0) (S := Finset.univ) (f := k0_pay1 (b c)) (by decide) (item_own (of_decide_eq_true rfl) rfl) (Finset.subset_univ _) H

/-- The left operand's slab. -/
theorem ldM {Q : α → sProp 𝕄} {s : ℕ} {off : Dev nD → Fin 2 → ℕ} {inb} {hl : mA.view.LoadsAt (Rect.unit (s := S1536x768) (off c) S384x768.size inb).toLoadRect}
    {k : (S384x768.Idx → Elt F .f32) → Prog (TpuEff nD τ sig (Elt F) Λ₀ .tc) α}
    (H : Tr a b K c (.mm s :: l) (k (slabA a c ((c.val % 4 + s) % 4))) Q)
    (hoff : ∀ d : Dev nD, off d = ![slabRow d.val s, 0] := by decide +kernel) :
    Tr a b K c (.mm s :: l) (.op (.load mA (Rect.unit (s := S1536x768) (off c) S384x768.size inb).toLoadRect hl) k) Q := by
  refine st_load (x := opA) (sh := 0) (S := Finset.univ) (f := a c) (by simp [uses]) (item_own (of_decide_eq_true rfl) rfl) (Finset.subset_univ _) ?_ H
  refine (View.readAt_rect _ _).trans (funext fun i => ?_)
  show a c ((Rect.unit (s := S1536x768) (off c) S384x768.size inb).emb i) = _
  unfold slabA
  have h0 : (i 0).val < 384 := (i 0).isLt
  have h1 : (i 1).val < 768 := (i 1).isLt
  refine congrArg _ ((at2_eta (m := 1536) (n := 768) (by decide) (by decide) _).symm.trans (congrArg₂ (at2 _ _) ?_ ?_))
  · show off c 0 + 1 * (i 0).val = _
    exact congrArg₂ (· + ·) (congrFun (hoff c) 0) (Nat.one_mul _)
  · show off c 1 + 1 * (i 1).val = _
    exact (congrArg₂ (· + ·) (congrFun (hoff c) 1) (Nat.one_mul _)).trans (Nat.zero_add _)

/-- The narrowed right operand's load. -/
theorem ldMN {Q : α → sProp 𝕄} {s : ℕ} {inb} {hl : mN.view.LoadsAt (Rect.unit (s := S768x1536) ![0, 0] S768x1536.size inb).toLoadRect}
    {k : (S768x1536.Idx → Elt F .bf16) → Prog (TpuEff nD τ sig (Elt F) Λ₀ .tc) α}
    (H : Tr a b K c (.mm s :: l) (k (k0_pay1 (b c))) Q) :
    Tr a b K c (.mm s :: l) (.op (.load mN (Rect.unit (s := S768x1536) ![0, 0] S768x1536.size inb).toLoadRect hl) k) Q :=
  st_load (x := opN 1) (sh := 0) (S := Finset.univ) (f := k0_pay1 (b c)) (by simp [uses]) (item_own (of_decide_eq_true rfl) rfl) (Finset.subset_univ _)
    (Memref.readAt_unit_zero (Elt F) cc0_scratch0 zero2 _ _) H

/-- The slab's rows of the result buffer, before they are written. -/
theorem ldMO {Q : α → sProp 𝕄} {s : ℕ} {off : Dev nD → Fin 2 → ℕ} {inb} {hl : mO.view.LoadsAt (Rect.unit (s := S1536x1536) (off c) S384x1536.size inb).toLoadRect}
    {k : (S384x1536.Idx → Elt F .bf16) → Prog (TpuEff nD τ sig (Elt F) Λ₀ .tc) α}
    (H : ∀ w, Tr a b K c (.mm s :: l) (k w) Q)
    (hoff : ∀ d : Dev nD, off d = ![slabRow d.val s, 0] := by decide +kernel) :
    Tr a b K c (.mm s :: l) (.op (.load mO (Rect.unit (s := S1536x1536) (off c) S384x1536.size inb).toLoadRect hl) k) Q := by
  refine st_load_any (x := slab s 0) (t := 0) (sh := 0) (S := rows (slabRow c.val s) 384) (f := outC a b c 0 0) (by simp [ins])
    (item_own (of_decide_eq_true rfl) rfl) ?_ H
  rw [show mO.view.setOn (Rect.unit (s := S1536x1536) (off c) S384x1536.size inb).toLoadRect.set
    = (Rect.unit (s := S1536x1536) (off c) S384x1536.size inb).set from setOn_whole _ _]
  exact (rect_rows (hoff c) rfl).le

/-! ## Stores -/

/-- The narrowed right operand written. -/
theorem stN {Q : α → sProp 𝕄} {inb} {w : S768x1536.Idx → Elt F .bf16}
    {hst : (mN.access (Rect.unit (s := S768x1536) ![0, 0] S768x1536.size inb)).Stores Finset.univ} {hm}
    {k : PUnit → Prog (TpuEff nD τ sig (Elt F) Λ₀ .tc) α} (H : Tr a b K c l (k ⟨⟩) Q)
    (hw : w = k0_pay1 (b c) := by rfl) :
    Tr a b K c (.nar :: l) (.op (.store mN (Rect.unit (s := S768x1536) ![0, 0] S768x1536.size inb) w Finset.univ hst hm) k) Q := by
  refine st_store (x := opN 0) (y := opN 1) (t := 0) (t' := 1) (f := k0_pay1 (b c)) (f' := k0_pay1 (b c)) (S := Finset.univ) rfl rfl rfl rfl
    (item_own (of_decide_eq_true rfl) rfl) (item_own (of_decide_eq_true rfl) rfl) ?_ ?_ H
  · refine (View.set_slice_whole _ _).trans ?_
    ext i
    rw [Rect.mem_set_unit]
    refine ⟨fun _ => Finset.mem_univ _, fun _ x => ?_⟩
    have := (i x).isLt
    fin_cases x
    · exact ⟨Nat.zero_le _, (Nat.zero_add (S768x1536.size 0)).symm ▸ this⟩
    · exact ⟨Nat.zero_le _, (Nat.zero_add (S768x1536.size 1)).symm ▸ this⟩
  · rw [hw]
    exact ((View.readAt_rect _ _).symm.trans (Memref.readAt_unit_zero (Elt F) cc0_scratch0 zero2 _ _)).symm

/-- A slab of products written. -/
theorem stM {Q : α → sProp 𝕄} {s : ℕ} {off : Dev nD → Fin 2 → ℕ} {inb} {w : S384x1536.Idx → Elt F .bf16}
    {hst : (mO.access (Rect.unit (s := S1536x1536) (off c) S384x1536.size inb)).Stores Finset.univ} {hm}
    {k : PUnit → Prog (TpuEff nD τ sig (Elt F) Λ₀ .tc) α} (H : Tr a b K c l (k ⟨⟩) Q)
    (hw : w = k0_pay2 (slabA a c ((c.val % 4 + s) % 4)) (k0_pay1 (b c)) := by rfl)
    (hoff : ∀ d : Dev nD, off d = ![slabRow d.val s, 0] := by decide +kernel) :
    Tr a b K c (.mm s :: l) (.op (.store mO (Rect.unit (s := S1536x1536) (off c) S384x1536.size inb) w Finset.univ hst hm) k) Q := by
  refine st_store (x := slab s 0) (y := slab s 1) (t := 0) (t' := 1) (f := outC a b c 0 0) (f' := outC a b c 0 1) (S := rows (slabRow c.val s) 384)
    rfl rfl rfl rfl (item_own (of_decide_eq_true rfl) rfl) (item_own (of_decide_eq_true rfl) rfl) ?_ ?_ H
  · exact (View.set_slice_whole _ _).trans (rect_rows (hoff c) rfl)
  · rw [hw, read_slab a b (hoff c)]
    exact funext fun i => mm_val a b c s i

/-- Rows of the result buffer rewritten. -/
theorem st_out {Q : α → sProp 𝕄} {op : Op} {x y : Item} (hq : quiet op = true) (hx : ins op = [x]) (hy : outs op = [y]) {n : ℕ}
    {off : Dev nD → Fin 2 → ℕ} {inb} {w : (Sh n).Idx → Elt F .bf16}
    {hst : (mO.access (Rect.unit (s := S1536x1536) (off c) (Sh n).size inb)).Stores Finset.univ} {hm}
    {k : PUnit → Prog (TpuEff nD τ sig (Elt F) Λ₀ .tc) α} (H : Tr a b K c l (k ⟨⟩) Q)
    (h0 : x.kind = 0 ∧ x.dir = 0 ∧ x.sh = 0 ∧ len x.e = n ∧ y = { x with tag := y.tag })
    (hw : w = outB a b c n x.h y.tag (row c.val x.h x.k x.q x.e) x.g)
    (hoff : ∀ d : Dev nD, off d = ![row d.val x.h x.k x.q x.e, 768 * x.g]) :
    Tr a b K c (op :: l) (.op (.store mO (Rect.unit (s := S1536x1536) (off c) (Sh n).size inb) w Finset.univ hst hm) k) Q := by
  obtain ⟨hk, hd, hs, hn, he⟩ := h0
  refine st_store (x := x) (y := y) (t := x.tag) (t' := y.tag) (f := outC a b c x.h x.tag) (f' := outC a b c x.h y.tag)
    (S := box (row c.val x.h x.k x.q x.e) (len x.e) x.g) hq hx hy rfl ?_ ?_ ?_ ?_ H
  · rw [item_own (by rw [hk]; decide) hd, pieceAt_out hk, hs]
  · have hk' : y.kind = 0 := by rw [he]; exact hk
    rw [item_own (by rw [hk']; decide) (by rw [he]; exact hd), pieceAt_out hk', he, hs]
  · rw [hn]; exact (View.set_slice_whole _ _).trans (rect_box (hoff c) rfl)
  · rw [hw]; exact (read_out a b (hoff c)).symm

/-- A ring step's store. -/
theorem stR {Q : α → sProp 𝕄} {g κ t : ℕ} {off : Dev nD → Fin 2 → ℕ} {inb} {w : (Sh 96).Idx → Elt F .bf16}
    {hst : (mO.access (Rect.unit (s := S1536x1536) (off c) (Sh 96).size inb)).Stores Finset.univ} {hm}
    {k : PUnit → Prog (TpuEff nD τ sig (Elt F) Λ₀ .tc) α} (H : Tr a b K c l (k ⟨⟩) Q)
    (hκ : κ < 4 ∧ t < 3 := by decide)
    (hw : w = addP (outB a b c 96 (κ / 2) 1 (row c.val (κ / 2) (t + 1) (1 - κ % 2) 2) g) (rB a b c g κ t)
      shapeCasts_S96x768_S96x768 shapeCasts_S1x1x1x96x768_S96x768 := by rfl)
    (hoff : ∀ d : Dev nD, off d = ![row d.val (κ / 2) (t + 1) (1 - κ % 2) 2, 768 * g] := by decide +kernel) :
    Tr a b K c (.addR g κ t :: l) (.op (.store mO (Rect.unit (s := S1536x1536) (off c) (Sh 96).size inb) w Finset.univ hst hm) k) Q :=
  st_out (x := out 0 g (κ / 2) (t + 1) (1 - κ % 2) 2 1 0) (y := out 0 g (κ / 2) (t + 1) (1 - κ % 2) 2 (t + 2) 0) rfl rfl rfl H
    ⟨rfl, rfl, rfl, rfl, rfl⟩ (hw.trans (addR_val a b c g κ t hκ.1 hκ.2 _ _)) hoff

/-- The first exchange's store. -/
theorem stX {Q : α → sProp 𝕄} {g h : ℕ} {off : Dev nD → Fin 2 → ℕ} {inb} {w : (Sh 96).Idx → Elt F .bf16}
    {hst : (mO.access (Rect.unit (s := S1536x1536) (off c) (Sh 96).size inb)).Stores Finset.univ} {hm}
    {k : PUnit → Prog (TpuEff nD τ sig (Elt F) Λ₀ .tc) α} (H : Tr a b K c l (k ⟨⟩) Q)
    (hw : w = addP (outB a b c 96 h 4 (row c.val h 3 0 2) g) (xB a b c g h)
      shapeCasts_S96x768_S96x768 shapeCasts_S1x1x96x768_S96x768 := by rfl)
    (hoff : ∀ d : Dev nD, off d = ![row d.val h 3 0 2, 768 * g] := by decide +kernel) :
    Tr a b K c (.addX g h :: l) (.op (.store mO (Rect.unit (s := S1536x1536) (off c) (Sh 96).size inb) w Finset.univ hst hm) k) Q :=
  st_out (x := out 0 g h 3 0 2 4 0) (y := out 0 g h 3 0 2 5 0) rfl rfl rfl H
    ⟨rfl, rfl, rfl, rfl, rfl⟩ (hw.trans (addX_val a b c g h _ _)) hoff

/-- The second exchange's store. -/
theorem stY {Q : α → sProp 𝕄} {g h : ℕ} {off : Dev nD → Fin 2 → ℕ} {inb} {w : (Sh 48).Idx → Elt F .bf16}
    {hst : (mO.access (Rect.unit (s := S1536x1536) (off c) (Sh 48).size inb)).Stores Finset.univ} {hm}
    {k : PUnit → Prog (TpuEff nD τ sig (Elt F) Λ₀ .tc) α} (H : Tr a b K c l (k ⟨⟩) Q)
    (hw : w = addP (outB a b c 48 h 5 (row c.val h 3 0 0) g) (yB a b c g h)
      shapeCasts_S48x768_S48x768 shapeCasts_S1x1x48x768_S48x768 := by rfl)
    (hoff : ∀ d : Dev nD, off d = ![row d.val h 3 0 0, 768 * g] := by decide +kernel) :
    Tr a b K c (.addY g h :: l) (.op (.store mO (Rect.unit (s := S1536x1536) (off c) (Sh 48).size inb) w Finset.univ hst hm) k) Q :=
  st_out (x := out 0 g h 3 0 0 5 0) (y := out 0 g h 3 0 0 6 0) rfl rfl rfl H
    ⟨rfl, rfl, rfl, rfl, rfl⟩ (hw.trans (addY_val a b c g h _ _)) hoff

/-- The activation's store. -/
theorem stA {Q : α → sProp 𝕄} {g h : ℕ} {off : Dev nD → Fin 2 → ℕ} {inb} {w : (Sh 48).Idx → Elt F .bf16}
    {hst : (mO.access (Rect.unit (s := S1536x1536) (off c) (Sh 48).size inb)).Stores Finset.univ} {hm}
    {k : PUnit → Prog (TpuEff nD τ sig (Elt F) Λ₀ .tc) α} (H : Tr a b K c l (k ⟨⟩) Q)
    (hh : h < 2 := by decide)
    (hw : w = k0_pay38 (outB a b c 48 h 6 (row c.val h 3 0 0) g) := by rfl)
    (hoff : ∀ d : Dev nD, off d = ![row d.val h 3 0 0, 768 * g] := by decide +kernel) :
    Tr a b K c (.act g h :: l) (.op (.store mO (Rect.unit (s := S1536x1536) (off c) (Sh 48).size inb) w Finset.univ hst hm) k) Q :=
  st_out (x := out 0 g h 3 0 0 6 0) (y := out 0 g h 3 0 0 7 0) rfl rfl rfl H
    ⟨rfl, rfl, rfl, rfl, rfl⟩ (hw.trans (act_val a b c g h hh)) hoff

end Cert.Prot
end
end
-- ==== Proof.Copies.lean ====
/-
# The rules of the program's copies, waits and cuts
-/
module

public import proofs.«01_k».proof.Proof.Rules

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {a : Dev nD → Vec F S1536x768 .f32} {b : Dev nD → Vec F S768x1536 .f32}
variable {K : Dev nD × ℕ → ℕ} {c : Dev nD} {α : Type} {l : List Op}

/-! ## Pieces as memory -/

theorem pieceAt_rs {d : Dev nD} {x : Item} (h : x.kind = 1) : pieceAt a b d x = pts (locR d) (rsBox x.g x.k x.q) x.tag 0 (rsC a b d) := by
  cases x; dsimp at h; subst h; rfl
theorem pieceAt_z1 {d : Dev nD} {x : Item} (h : x.kind = 2) : pieceAt a b d x = pts (locX d) (z1Box x.g x.h) x.tag 0 (z1C a b d) := by
  cases x; dsimp at h; subst h; rfl
theorem pieceAt_z2 {d : Dev nD} {x : Item} (h : x.kind = 3) : pieceAt a b d x = pts (locY d) (z2Box x.g x.h) x.tag 0 (z2C a b d) := by
  cases x; dsimp at h; subst h; rfl

/-- Rows of the result buffer as a copy's view holds them. -/
theorem src_out {x : Item} {n : ℕ} {off : Fin 2 → ℕ} {inb} {hs} (hk : x.kind = 0 ∧ x.dir = 0 ∧ x.tag ≠ 0 ∧ len x.e = n)
    (hoff : off = ![row c.val x.h x.k x.q x.e, 768 * x.g]) :
    item a b c x = ((mO.slice (Rect.unit (s := S1536x1536) off (Sh n).size inb) hs).view.loc (c : Thread nD τ)
      ↦[(mO.slice (Rect.unit (s := S1536x1536) off (Sh n).size inb) hs).view.set]{shareOf x.sh} outC a b c x.h x.tag : sProp 𝕄) := by
  rw [item_out hk.1 hk.2.1 hk.2.2.1, hk.2.2.2,
    show (mO.slice (Rect.unit (s := S1536x1536) off (Sh n).size inb) hs).view.set = _ from (View.set_slice_whole _ _).trans (rect_box hoff rfl)]

/-! ## Copies -/

/-- A message of the ring sum. -/
theorem sdR {Q : α → sProp 𝕄} {g κ t : ℕ} {n : Dev nD → Dev nD} {off : Dev nD → Fin 2 → ℕ} {o5 : Fin 5 → ℕ} {inb inb' hs hs' hq}
    {sS sR : SemLoc sig} {hsc hsrc hdst hsem}
    {k : PUnit → Prog (TpuEff nD τ sig (Elt F) Λ₀ .tc) α} (H : Tr a b K c l (k ⟨⟩) Q)
    (hκ : κ < 4 ∧ t < 3 := by decide)
    (hsS : sS = semOf (mRS g κ t).ss := by rfl) (hsR : sR = semOf (mRS g κ t).rs := by rfl)
    (ho : o5 = ![g, κ, t, 0, 0] := by rfl)
    (hamt : amt (mRS g κ t).rs = N96 := by rfl)
    (hn : ∀ d : Dev nD, n d = peer d (fwd (κ / 2)) := by decide +kernel)
    (hoff : ∀ d : Dev nD, off d = ![row d.val (κ / 2) t (1 - κ % 2) 2, 768 * g] := by decide +kernel) :
    Tr a b K c (.send (mRS g κ t) :: l) (.op (.enqueueDma (mO.slice (Rect.unit (s := S1536x1536) (off c) S96x768.size inb) hs)
      (.remote (Dev.tc (n c) : Thread nD τ) ((mR.slice (Rect.unit (s := S2x4x3x96x768) o5 S1x1x1x96x768.size inb') hs').squeeze S96x768 hq) sS hsc)
      sR hsrc hdst hsem) k) Q := by
  have hset : ((mR.slice (Rect.unit (s := S2x4x3x96x768) o5 S1x1x1x96x768.size inb') hs').squeeze S96x768 hq).view.set = rsBox g κ t :=
    (Memref.set_view_squeeze _ _).trans ((View.set_slice_whole _ _).trans (rect_rsBox ho rfl))
  have hdir : fwd (κ / 2) = 1 ∨ fwd (κ / 2) = 2 := by unfold fwd; split <;> simp
  refine st_send (m := mRS g κ t) (hn c) hsS hsR (f := rsC a b (peer c (fwd (κ / 2)))) (outC a b c (κ / 2) (t + 1)) (rsC a b (peer c (fwd (κ / 2))))
    (src_out (x := (mRS g κ t).src) ⟨rfl, rfl, Nat.succ_ne_zero _, rfl⟩ (hoff c)) ?_ ?_ (hamt.symm ▸ rfl) ?_ H
  · rw [hset, item_piece a b (of_decide_eq_true rfl)]; unfold piece; rw [pieceAt_rs rfl]; rfl
  · rw [hset]; unfold piece
    rw [show (mRS g κ t).landed.dir = 0 from rfl, peer_zero, pieceAt_rs rfl]; rfl
  · refine (read_out a b (hoff c)).trans (funext fun i => ?_)
    obtain ⟨-, -, -, h3, h4⟩ := sq5 hq.numel_eq i
    have e := congrFun (read_rs a b (c := peer c (fwd (κ / 2))) (inb := inb') ho) (Shape.reshapeEquiv hq.numel_eq i)
    refine Eq.trans ?_ e.symm
    have hrow : ∀ (d : Dev nD) (κ : Fin 4) (t : Fin 3), row (peer d (fwd (κ.val / 2))).val (κ.val / 2) (t.val + 1) (1 - κ.val % 2) 2
      = row d.val (κ.val / 2) t.val (1 - κ.val % 2) 2 := by decide +kernel
    have hrow := hrow c ⟨κ, hκ.1⟩ ⟨t, hκ.2⟩
    dsimp only at hrow
    unfold rB outB outV
    rw [h3, h4, hrow, if_neg (by omega), if_neg (by omega), if_neg (by omega), Nat.add_sub_cancel,
      peer_opp _ _ (hdir.elim Or.inl fun h => Or.inr (Or.inl h))]

/-- A message of the first exchange. -/
theorem sdX {Q : α → sProp 𝕄} {g h : ℕ} {n : Dev nD → Dev nD} {off : Dev nD → Fin 2 → ℕ} {o4 : Fin 4 → ℕ} {inb inb' hs hs' hq}
    {sS sR : SemLoc sig} {hsc hsrc hdst hsem}
    {k : PUnit → Prog (TpuEff nD τ sig (Elt F) Λ₀ .tc) α} (H : Tr a b K c l (k ⟨⟩) Q)
    (hh : h < 2 := by decide)
    (hsS : sS = semOf (mZ1 g h).ss := by rfl) (hsR : sR = semOf (mZ1 g h).rs := by rfl)
    (ho : o4 = ![g, h, 0, 0] := by rfl)
    (hamt : amt (mZ1 g h).rs = N96 := by rfl)
    (hn : ∀ d : Dev nD, n d = peer d 3 := by decide +kernel)
    (hoff : ∀ d : Dev nD, off d = ![row d.val h 3 1 2, 768 * g] := by decide +kernel) :
    Tr a b K c (.send (mZ1 g h) :: l) (.op (.enqueueDma (mO.slice (Rect.unit (s := S1536x1536) (off c) S96x768.size inb) hs)
      (.remote (Dev.tc (n c) : Thread nD τ) ((mX.slice (Rect.unit (s := S2x2x96x768) o4 S1x1x96x768.size inb') hs').squeeze S96x768 hq) sS hsc)
      sR hsrc hdst hsem) k) Q := by
  have hset : ((mX.slice (Rect.unit (s := S2x2x96x768) o4 S1x1x96x768.size inb') hs').squeeze S96x768 hq).view.set = z1Box g h :=
    (Memref.set_view_squeeze _ _).trans ((View.set_slice_whole _ _).trans (rect_z1Box ho rfl))
  refine st_send (m := mZ1 g h) (hn c) hsS hsR (f := z1C a b (peer c 3)) (outC a b c h 4) (z1C a b (peer c 3))
    (src_out (x := (mZ1 g h).src) ⟨rfl, rfl, of_decide_eq_true rfl, rfl⟩ (hoff c)) ?_ ?_ (hamt.symm ▸ rfl) ?_ H
  · rw [hset, item_piece a b (of_decide_eq_true rfl)]; unfold piece; rw [pieceAt_z1 rfl]; rfl
  · rw [hset]; unfold piece
    rw [show (mZ1 g h).landed.dir = 0 from rfl, peer_zero, pieceAt_z1 rfl]; rfl
  · refine (read_out a b (hoff c)).trans (funext fun i => ?_)
    obtain ⟨-, -, h3, h4⟩ := sq4 hq.numel_eq i
    have e := congrFun (read_z1 a b (c := peer c 3) (inb := inb') ho) (Shape.reshapeEquiv hq.numel_eq i)
    refine Eq.trans ?_ e.symm
    have hrow : ∀ (d : Dev nD) (h : Fin 2), row (peer d 3).val h.val 3 0 2 = row d.val h.val 3 1 2 := by decide +kernel
    have hrow := hrow c ⟨h, hh⟩
    dsimp only at hrow
    unfold xB outB outV
    rw [h3, h4, hrow, if_neg (by decide), if_neg (by decide), if_neg (by decide), peer_opp3]

/-- A message of the second exchange. -/
theorem sdY {Q : α → sProp 𝕄} {g h : ℕ} {n : Dev nD → Dev nD} {off : Dev nD → Fin 2 → ℕ} {o4 : Fin 4 → ℕ} {inb inb' hs hs' hq}
    {sS sR : SemLoc sig} {hsc hsrc hdst hsem}
    {k : PUnit → Prog (TpuEff nD τ sig (Elt F) Λ₀ .tc) α} (H : Tr a b K c l (k ⟨⟩) Q)
    (hh : h < 2 := by decide)
    (hsS : sS = semOf (mZ2 g h).ss := by rfl) (hsR : sR = semOf (mZ2 g h).rs := by rfl)
    (ho : o4 = ![g, h, 0, 0] := by rfl)
    (hamt : amt (mZ2 g h).rs = N48 := by rfl)
    (hn : ∀ d : Dev nD, n d = peer d 4 := by decide +kernel)
    (hoff : ∀ d : Dev nD, off d = ![row d.val h 3 0 1, 768 * g] := by decide +kernel) :
    Tr a b K c (.send (mZ2 g h) :: l) (.op (.enqueueDma (mO.slice (Rect.unit (s := S1536x1536) (off c) S48x768.size inb) hs)
      (.remote (Dev.tc (n c) : Thread nD τ) ((mY.slice (Rect.unit (s := S2x2x48x768) o4 S1x1x48x768.size inb') hs').squeeze S48x768 hq) sS hsc)
      sR hsrc hdst hsem) k) Q := by
  have hset : ((mY.slice (Rect.unit (s := S2x2x48x768) o4 S1x1x48x768.size inb') hs').squeeze S48x768 hq).view.set = z2Box g h :=
    (Memref.set_view_squeeze _ _).trans ((View.set_slice_whole _ _).trans (rect_z2Box ho rfl))
  refine st_send (m := mZ2 g h) (hn c) hsS hsR (f := z2C a b (peer c 4)) (outC a b c h 5) (z2C a b (peer c 4))
    (src_out (x := (mZ2 g h).src) ⟨rfl, rfl, of_decide_eq_true rfl, rfl⟩ (hoff c)) ?_ ?_ (hamt.symm ▸ rfl) ?_ H
  · rw [hset, item_piece a b (of_decide_eq_true rfl)]; unfold piece; rw [pieceAt_z2 rfl]; rfl
  · rw [hset]; unfold piece
    rw [show (mZ2 g h).landed.dir = 0 from rfl, peer_zero, pieceAt_z2 rfl]; rfl
  · refine (read_out a b (hoff c)).trans (funext fun i => ?_)
    obtain ⟨-, -, h3, h4⟩ := sq4 hq.numel_eq i
    have e := congrFun (read_z2 a b (c := peer c 4) (inb := inb') ho) (Shape.reshapeEquiv hq.numel_eq i)
    refine Eq.trans ?_ e.symm
    have hrow : ∀ (d : Dev nD) (h : Fin 2), row (peer d 4).val h.val 3 0 0 = row d.val h.val 3 0 1 := by decide +kernel
    have hrow := hrow c ⟨h, hh⟩
    dsimp only at hrow
    unfold yB outB outV
    rw [h3, h4, hrow, if_neg (by decide), if_neg (by decide), if_pos rfl, peer_opp4]

/-- The units of rows of the result buffer. -/
theorem credit_out {r j : ℕ} {o : Fin 2 → ℕ} {inb hs} (hr : (r = 48 ∧ small j = true) ∨ (r = 96 ∧ small j = false)) :
    (mO.slice (Rect.unit (s := S1536x1536) o (Sh r).size inb) hs).view.dmaCredit = amt j := by
  unfold amt
  rcases hr with ⟨rfl, h⟩ | ⟨rfl, h⟩
  · rw [h, if_pos rfl]; unfold N48 View.dmaCredit; rfl
  · rw [h, if_neg Bool.false_ne_true]; unfold N96 View.dmaCredit; rfl

/-- A message that hands finished rows on to the same rows of a neighbour. -/
theorem sdG {Q : α → sProp 𝕄} {m : Msg} {r : ℕ} {n : Dev nD → Dev nD} {off : Dev nD → Fin 2 → ℕ} {inb hs}
    {sS sR : SemLoc sig} {hsc hsrc hdst hsem}
    {k : PUnit → Prog (TpuEff nD τ sig (Elt F) Λ₀ .tc) α} (H : Tr a b K c l (k ⟨⟩) Q)
    (hm : (m.src.kind = 0 ∧ m.src.dir = 0 ∧ m.src.tag = 7 ∧ len m.src.e = r) ∧ m.dst.kind = 0 ∧ m.dst.tag = 0 ∧ m.dst.sh = 0 ∧ m.dst.dir = m.dir
      ∧ m.ntag = 7 ∧ m.dst.g = m.src.g ∧ len m.dst.e = r := by decide)
    (hsS : sS = semOf m.ss := by rfl) (hsR : sR = semOf m.rs := by rfl)
    (hr : (r = 48 ∧ small m.rs = true) ∨ (r = 96 ∧ small m.rs = false) := by decide)
    (hn : ∀ d : Dev nD, n d = peer d m.dir := by decide +kernel)
    (hoff : ∀ d : Dev nD, off d = ![row d.val m.src.h m.src.k m.src.q m.src.e, 768 * m.src.g] := by decide +kernel)
    (hoff' : ∀ d : Dev nD, off d = ![row (peer d m.dir).val m.dst.h m.dst.k m.dst.q m.dst.e, 768 * m.dst.g] := by decide +kernel) :
    Tr a b K c (.send m :: l) (.op (.enqueueDma (mO.slice (Rect.unit (s := S1536x1536) (off c) (Sh r).size inb) hs)
      (.remote (Dev.tc (n c) : Thread nD τ) (mO.slice (Rect.unit (s := S1536x1536) (off c) (Sh r).size inb) hs) sS hsc)
      sR hsrc hdst hsem) k) Q := by
  obtain ⟨hms, hk, ht, hsh, hd, hnt, hg, hl⟩ := hm
  have hset : (mO.slice (Rect.unit (s := S1536x1536) (off c) (Sh r).size inb) hs).view.set
      = box (row (peer c m.dir).val m.dst.h m.dst.k m.dst.q m.dst.e) (len m.dst.e) m.dst.g := by
    rw [hl]; exact (View.set_slice_whole _ _).trans (rect_box (hoff' c) rfl)
  refine st_send (m := m) (hn c) hsS hsR (f := outC a b (peer c m.dir) m.dst.h 0) (outC a b c m.src.h m.src.tag) (outC a b (peer c m.dir) m.dst.h 7)
    (src_out (x := m.src) ⟨hms.1, hms.2.1, by rw [hms.2.2.1]; decide, hms.2.2.2⟩ (hoff c)) ?_ ?_ (credit_out hr) ?_ H
  · rw [hset, item_piece a b (by rw [hk]; decide)]; unfold piece; rw [pieceAt_out hk, ht, hsh, hd]
  · rw [hset]; unfold piece
    have h1 : m.landed.kind = 0 := hk
    have h2 : m.landed.tag = 7 := hnt
    have h3 : m.landed.sh = 0 := hsh
    rw [show m.landed.dir = 0 from rfl, peer_zero, pieceAt_out h1, h2, h3]
    exact if_neg (by decide)
  · rw [hms.2.2.1]; rfl

/-! ## Waits and signals -/

/-- A wait on a copy's cell. -/
theorem wt {Q : α → sProp 𝕄} {j : ℕ} {sp sp' : Space} {s s' : Shape} {e e' : EltTy} {sem : DmaSem sig}
    {src : Memref sig .tc sp' s' e'} {dst : Memref sig .tc sp s e} {hsrc : src.view.WordExact} {hdst : dst.view.WordExact}
    {k : PUnit → Prog (TpuEff nD τ sig (Elt F) Λ₀ .tc) α}
    (H : Tr a b K c l (k ⟨⟩) Q) (hs : SemLoc.dma sem = semOf j := by rfl) (hk : dst.view.dmaCredit = amt j := by rfl) :
    Tr a b K c (.wait j :: l) (.op (.waitDma2 sem src dst hsrc hdst) k) Q := st_wait hs hk H

/-- A wait on the cell of a copy into the result buffer. -/
theorem wtG {Q : α → sProp 𝕄} {j r : ℕ} {sp' : Space} {s' : Shape} {e' : EltTy} {sem : DmaSem sig} {o : Fin 2 → ℕ} {inb hs}
    {src : Memref sig .tc sp' s' e'} {hsrc : src.view.WordExact} {hdst}
    {k : PUnit → Prog (TpuEff nD τ sig (Elt F) Λ₀ .tc) α}
    (H : Tr a b K c l (k ⟨⟩) Q) (hj : SemLoc.dma sem = semOf j := by rfl)
    (hr : (r = 48 ∧ small j = true) ∨ (r = 96 ∧ small j = false) := by decide) :
    Tr a b K c (.wait j :: l) (.op (.waitDma2 sem src (mO.slice (Rect.unit (s := S1536x1536) o (Sh r).size inb) hs) hsrc hdst) k) Q :=
  st_wait hj (credit_out hr) H

/-- The wait on the barrier. -/
theorem wtB {Q : α → sProp 𝕄} {sem : Sem sig} {k' : ℤ} {k : PUnit → Prog (TpuEff nD τ sig (Elt F) Λ₀ .tc) α}
    (H : Tr a b K c l (k ⟨⟩) Q) (hs : sem = barS := by rfl) (hk : k' = 4 := by rfl) :
    Tr a b K c (.wait 0 :: l) (.op (.semWait sem k') k) Q := st_wait_bar hs hk H

/-- A signal to a neighbour. -/
theorem sg {Q : α → sProp 𝕄} {dir : ℕ} {n : Dev nD → Dev nD} {sem : Sem sig} {k' : ℤ} {k : PUnit → Prog (TpuEff nD τ sig (Elt F) Λ₀ .tc) α}
    (H : Tr a b K c l (k ⟨⟩) Q) (hn : ∀ d : Dev nD, n d = peer d dir := by decide +kernel) (hs : sem = barS := by rfl) (hk : k' = 1 := by rfl) :
    Tr a b K c (.sig dir :: l) (.op (.semSignal ((n c, .tc) : Thread nD τ) sem k') k) Q := st_sig (hn c) hs hk H

/-- The running device's own number. -/
theorem dv {Q : α → sProp 𝕄} {k : Dev nD → Prog (TpuEff nD τ sig (Elt F) Λ₀ .tc) α} (H : Tr a b K c l (k c) Q) :
    Tr a b K c l (.op .deviceId k) Q := by
  unfold Tr at H ⊢
  rw [wp_deviceId]
  exact H

/-! ## Pieces cut and joined -/

/-- Elements held as two parts. -/
theorem pts_cut {ℓ : Loc nD τ sig} {S S₁ S₂ : Finset (Idx ℓ)} (hS : S = S₁ ∪ S₂) (hd : Disjoint S₁ S₂) (t sh : ℕ) (f : Buf (Elt F) ℓ) :
    (pts ℓ S t sh f : sProp 𝕄) ⊢ iprop(pts ℓ S₁ t sh f ∗ pts ℓ S₂ t sh f) := by
  subst hS
  unfold pts
  by_cases h : t = 0
  · rw [if_pos h, if_pos h, if_pos h]
    iintro ⟨%f, H⟩
    ihave H := (pointsTo_union hd).1 $$ H
    icases H with ⟨H₁, H₂⟩
    isplitl [H₁]
    · iexists f; iexact H₁
    · iexists f; iexact H₂
  · rw [if_neg h, if_neg h, if_neg h]
    exact (pointsTo_union hd).1

/-- Two parts of known contents held as one. -/
theorem pts_glue {ℓ : Loc nD τ sig} {S S₁ S₂ : Finset (Idx ℓ)} (hS : S = S₁ ∪ S₂) (hd : Disjoint S₁ S₂) {t : ℕ} (ht : t ≠ 0) (sh : ℕ) (f : Buf (Elt F) ℓ) :
    iprop(pts ℓ S₁ t sh f ∗ pts ℓ S₂ t sh f) ⊢ (pts ℓ S t sh f : sProp 𝕄) := by
  subst hS
  unfold pts
  rw [if_neg ht, if_neg ht, if_neg ht]
  exact (pointsTo_union hd).2

/-- Two neighbouring boxes, in either order. -/
theorem box_pair (r n g p : ℕ) : box r (2 * n) g = box (r + n * (p % 2)) n g ∪ box (r + n * ((1 + p) % 2)) n g
    ∧ Disjoint (box (r + n * (p % 2)) n g) (box (r + n * ((1 + p) % 2)) n g) := by
  have hp : p % 2 = 0 ∧ (1 + p) % 2 = 1 ∨ p % 2 = 1 ∧ (1 + p) % 2 = 0 := by omega
  rcases hp with ⟨h, h'⟩ | ⟨h, h'⟩ <;> rw [h, h', Nat.mul_zero, Nat.mul_one] <;> refine ⟨?_, Finset.disjoint_left.mpr fun i h₁ h₂ => ?_⟩
  · ext i; simp only [box, Finset.mem_union, Finset.mem_filter, Finset.mem_univ, true_and]; omega
  · simp only [box, Finset.mem_filter, Finset.mem_univ, true_and] at h₁ h₂; omega
  · ext i; simp only [box, Finset.mem_union, Finset.mem_filter, Finset.mem_univ, true_and]; omega
  · simp only [box, Finset.mem_filter, Finset.mem_univ, true_and] at h₁ h₂; omega

/-- Rows cut into the two column groups, each into two runs. -/
theorem rows_cut (r n : ℕ) : rows r n = box r n 0 ∪ box r n 1 ∧ Disjoint (box r n 0) (box r n 1) := by
  refine ⟨?_, Finset.disjoint_left.mpr fun i h₁ h₂ => ?_⟩
  · ext i
    have : (i 1).val < 1536 := (i 1).isLt
    simp only [box, rows, Finset.mem_union, Finset.mem_filter, Finset.mem_univ, true_and]; omega
  · simp only [box, Finset.mem_filter, Finset.mem_univ, true_and] at h₁ h₂; omega

theorem sepL_one {I : Type} (x : I) (Φ : I → sProp 𝕄) : sepL [x] Φ = Φ x := BI.equiv_iff.mp BI.sep_emp
theorem sepL_two {I : Type} (x y : I) (Φ : I → sProp 𝕄) : sepL [x, y] Φ = iprop(Φ x ∗ Φ y) := by
  rw [sepL_cons, sepL_one]

theorem row_e (c h k q e : ℕ) (he : e ≠ 2) : row c h k q e = row c h k q 2 + 48 * ((e + c / 8) % 2) := by
  unfold row; rw [if_neg he, if_pos rfl]; exact congrArg (· + _) (Nat.add_zero _).symm

/-- The eighths of a quarter. -/
theorem quarter_cut (c : Dev nD) (x : Item) (he : x.e = 2) :
    box (row c.val x.h x.k x.q x.e) (len x.e) x.g = box (row c.val x.h x.k x.q 0) (len 0) x.g ∪ box (row c.val x.h x.k x.q 1) (len 1) x.g
      ∧ Disjoint (box (row c.val x.h x.k x.q 0) (len 0) x.g) (box (row c.val x.h x.k x.q 1) (len 1) x.g) := by
  rw [row_e c.val x.h x.k x.q 0 (by decide), row_e c.val x.h x.k x.q 1 (by decide), he, Nat.zero_add]
  exact box_pair _ 48 x.g (c.val / 8)

/-- A quarter cut into its eighths. -/
theorem gSplit {Q : α → sProp 𝕄} {x : Item} {p : Prog (TpuEff nD τ sig (Elt F) Λ₀ .tc) α} (H : Tr a b K c l p Q)
    (hx : x.kind = 0 ∧ x.e = 2 := by decide) : Tr a b K c (.split x :: l) p Q := by
  refine st_ghost rfl ?_ H
  show sepL [x] _ ⊢ sepL [{ x with e := 0 }, { x with e := 1 }] _
  rw [sepL_one, sepL_two,
    item_piece a b (by rw [hx.1]; decide), item_piece a b (by show x.kind ≠ 7; rw [hx.1]; decide),
    item_piece a b (by show x.kind ≠ 7; rw [hx.1]; decide)]
  unfold piece
  rw [pieceAt_out hx.1, pieceAt_out (show ({ x with e := 0 } : Item).kind = 0 from hx.1), pieceAt_out (show ({ x with e := 1 } : Item).kind = 0 from hx.1)]
  exact pts_cut (quarter_cut (peer c x.dir) x hx.2).1 (quarter_cut (peer c x.dir) x hx.2).2 _ _ _

/-- Two eighths joined. -/
theorem gJoin {Q : α → sProp 𝕄} {x : Item} {p : Prog (TpuEff nD τ sig (Elt F) Λ₀ .tc) α} (H : Tr a b K c l p Q)
    (hx : x.kind = 0 ∧ x.e = 2 ∧ x.tag ≠ 0 := by decide) : Tr a b K c (.join x :: l) p Q := by
  refine st_ghost rfl ?_ H
  show sepL [{ x with e := 0 }, { x with e := 1 }] _ ⊢ sepL [x] _
  rw [sepL_one, sepL_two,
    item_piece a b (x := x) (by rw [hx.1]; decide), item_piece a b (by show x.kind ≠ 7; rw [hx.1]; decide),
    item_piece a b (by show x.kind ≠ 7; rw [hx.1]; decide)]
  unfold piece
  rw [pieceAt_out hx.1, pieceAt_out (show ({ x with e := 0 } : Item).kind = 0 from hx.1), pieceAt_out (show ({ x with e := 1 } : Item).kind = 0 from hx.1)]
  exact pts_glue (quarter_cut (peer c x.dir) x hx.2.1).1 (quarter_cut (peer c x.dir) x hx.2.1).2 hx.2.2 _ _

/-- A share halved. -/
theorem gHalve {Q : α → sProp 𝕄} {x : Item} {p : Prog (TpuEff nD τ sig (Elt F) Λ₀ .tc) α} (H : Tr a b K c l p Q)
    (hx : x.kind = 0 ∧ x.sh = 0 ∧ x.tag ≠ 0 := by decide) : Tr a b K c (.halve x :: l) p Q := by
  refine st_ghost rfl ?_ H
  show sepL [x] _ ⊢ sepL [{ x with sh := 1 }, { x with sh := 2 }] _
  rw [sepL_one, sepL_two,
    item_piece a b (x := x) (by rw [hx.1]; decide), item_piece a b (by show x.kind ≠ 7; rw [hx.1]; decide),
    item_piece a b (by show x.kind ≠ 7; rw [hx.1]; decide)]
  unfold piece
  rw [pieceAt_out hx.1, pieceAt_out (show ({ x with sh := 1 } : Item).kind = 0 from hx.1), pieceAt_out (show ({ x with sh := 2 } : Item).kind = 0 from hx.1), hx.2.1]
  unfold pts
  rw [if_neg hx.2.2, if_neg (show ({ x with sh := 1 } : Item).tag ≠ 0 from hx.2.2), if_neg (show ({ x with sh := 2 } : Item).tag ≠ 0 from hx.2.2)]
  exact (pointsTo_share (PosShare.mem_left_op_right fullShare)).1

/-- A slab cut into its quarters. -/
theorem gCut {Q : α → sProp 𝕄} {s : ℕ} {p : Prog (TpuEff nD τ sig (Elt F) Λ₀ .tc) α} (H : Tr a b K c l p Q)
    (hs : s < 4 := by decide) : Tr a b K c (.cut s :: l) p Q := by
  refine st_ghost rfl ?_ H
  have hb : ∀ h k g : ℕ, (∀ q, row c.val h k q 2 = slabRow c.val s + 192 * h + 96 * ((q + c.val / 4) % 2)) →
      (pts (locO c) (box (slabRow c.val s + 192 * h) 192 g) 1 0 (outC a b c 0 1) : sProp 𝕄)
        ⊢ iprop(item a b c (out 0 g h k 0 2 1 0) ∗ item a b c (out 0 g h k 1 2 1 0)) := by
    intro h k g e
    rw [item_own (of_decide_eq_true rfl) rfl, pieceAt_out rfl, item_own (of_decide_eq_true rfl) rfl, pieceAt_out rfl]
    show _ ⊢ iprop(pts (locO c) (box (row c.val h k 0 2) 96 g) 1 0 (outC a b c 0 1) ∗ pts (locO c) (box (row c.val h k 1 2) 96 g) 1 0 (outC a b c 0 1))
    rw [e 0, e 1, Nat.zero_add]
    exact pts_cut (box_pair _ 96 g (c.val / 4)).1 (box_pair _ 96 g (c.val / 4)).2 _ _ _
  have hg : ∀ g : ℕ, (pts (locO c) (box (slabRow c.val s) 384 g) 1 0 (outC a b c 0 1) : sProp 𝕄)
      ⊢ iprop((item a b c (out 0 g 0 ((4 - s) % 4) 0 2 1 0) ∗ item a b c (out 0 g 0 ((4 - s) % 4) 1 2 1 0))
        ∗ (item a b c (out 0 g 1 (s % 4) 0 2 1 0) ∗ item a b c (out 0 g 1 (s % 4) 1 2 1 0))) := by
    intro g
    refine (pts_cut (box_pair _ 192 g 0).1 (box_pair _ 192 g 0).2 _ _ _).trans (BI.sep_mono (hb 0 _ g fun q => ?_) (hb 1 _ g fun q => ?_))
    · unfold row slabRow; rw [if_pos rfl, if_pos rfl]; omega
    · unfold row slabRow; rw [if_neg (by decide), if_pos rfl]; omega
  show sepL [slab s 1] _ ⊢ sepL (cutItems s) _
  rw [sepL_one, item_own (of_decide_eq_true rfl) rfl]
  unfold cutItems
  rw [sepL_cons, sepL_cons, sepL_cons, sepL_cons, sepL_cons, sepL_cons, sepL_two]
  iintro H
  ihave H := (show pieceAt a b c (slab s 1) ⊢ pts (locO c) (rows (slabRow c.val s) 384) 1 0 (outC a b c 0 1) from .rfl) $$ H
  ihave H := (pts_cut (rows_cut _ _).1 (rows_cut _ _).2 1 0 (outC a b c 0 1)) $$ H
  icases H with ⟨Ha, Hb⟩
  ihave Ha := (hg 0) $$ Ha
  ihave Hb := (hg 1) $$ Hb
  icases Ha with ⟨⟨H1, H2⟩, H3, H4⟩
  icases Hb with ⟨⟨H5, H6⟩, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Prot
end
end
-- ==== Proof.Body1.lean ====
/-
# The body, stretch 1

The ring sums, first stretch. Each part of the printed body runs its own abstract steps: given the rest of the program from the steps that
remain, the part and the rest run from the steps of both.
-/
module

public import proofs.«01_k».proof.Proof.Copies

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {a : Dev nD → Vec F S1536x768 .f32} {b : Dev nD → Vec F S768x1536 .f32}
variable {K : Dev nD × ℕ → ℕ} {c : Dev nD} {α : Type} {l : List Op}

/-- Part 1 of the body: its 3 steps. -/
theorem part1_ok {Q : α → sProp 𝕄} {k} (H : ∀ w1 w2 w3 w4 w5 w6 w7 w8 : BitVec 32, Tr a b K c (l) (k ⟨c, w1, w2, w3, w4, w5, w6, w7, SemArray.scalar (sig.barrier 0 rfl), w8⟩) Q) :
    Tr a b K c (.sig 2 :: .sig 1 :: .sig 3 :: l)
      (k0_part1 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15  >>= k) Q := by
  rw [k0_part1_eq_skeleton]
  unfold k0_part1_skel
  simp only [semSignalWord, semWaitWord, Prog.lift, Prog.bind_op, Prog.bind_ret, Prog.pure_eq_ret]
  exact dv <| sg (n := fun d => ⟨k0_dev1 d, k0_dev1_lt d⟩) <| sg (n := fun d => ⟨k0_dev2 d, k0_dev2_lt d⟩) <| sg (n := fun d => ⟨k0_dev3 d, k0_dev3_lt
    d⟩) <| (H _ _ _ _ _ _ _ _)

/-- Part 2 of the body: its 2 steps. -/
theorem part2_ok {v3 v13 v14 v28 : BitVec 32} {Q : α → sProp 𝕄} {k} (H : ∀ w1 w2 w3 w4 w5 w6 w7 w8 w9 w10 w11 : BitVec 32, Tr a b K c (l) (k ⟨w1, w2, w3, w4, w5, w6, w7, w8, w9, w10, w11⟩) Q) :
    Tr a b K c (.sig 4 :: .nar :: l)
      (k0_part2 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v13 v14 (SemArray.scalar (sig.barrier 0 rfl)) v28 >>= k) Q := by
  rw [k0_part2_eq_skeleton]
  unfold k0_part2_skel
  simp only [semSignalWord, semWaitWord, Prog.lift, Prog.bind_op, Prog.bind_ret, Prog.pure_eq_ret]
  exact sg (n := fun d => ⟨k0_dev4 d, k0_dev4_lt d⟩) <| ldB <| ldN fun _ => stN <| (H _ _ _ _ _ _ _ _ _ _ _)

/-- Part 3 of the body: its 4 steps. -/
theorem part3_ok {v3 v8 v37 : BitVec 32} {Q : α → sProp 𝕄} {k} (H : ∀ w1 w2 : BitVec 32, Tr a b K c (l) (k ⟨w1, w2⟩) Q) :
    Tr a b K c (.mm 0 :: .cut 0 :: .wait 0 :: .send (mRS 0 0 0) :: l)
      (k0_part3 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 (SemArray.scalar (sig.barrier 0 rfl)) v37 >>= k) Q := by
  rw [k0_part3_eq_skeleton]
  unfold k0_part3_skel
  simp only [semSignalWord, semWaitWord, Prog.lift, Prog.bind_op, Prog.bind_ret, Prog.pure_eq_ret]
  exact ldM (off := (k0_off1 ·)) <| ldMN <| ldMO (off := (k0_off2 ·)) fun _ => stM (off := (k0_off2 ·)) <| gCut <| wtB <| sdR (n := fun d => ⟨k0_dev5
    d, k0_dev5_lt d⟩) (off := (k0_off3 · 0#32)) <| (H _ _)

/-- Part 4 of the body: its step. -/
theorem part4_ok {v3 v8 v12 v37 v38 v88 c4_i32_68 : BitVec 32} {Q : α → sProp 𝕄} {k} (H : Tr a b K c (l) (k ⟨⟩) Q) :
    Tr a b K c (.send (mRS 0 2 0) :: l)
      (k0_part4 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v37 v38 v88 c4_i32_68 >>= k) Q := by
  rw [k0_part4_eq_skeleton]
  unfold k0_part4_skel
  simp only [semSignalWord, semWaitWord, Prog.lift, Prog.bind_op, Prog.bind_ret, Prog.pure_eq_ret]
  exact sdR (n := fun d => ⟨k0_dev6 d, k0_dev6_lt d⟩) (off := (k0_off4 · 0#32)) <| H

/-- Part 5 of the body: its 3 steps. -/
theorem part5_ok {v3 v12 v38 : BitVec 32} {Q : α → sProp 𝕄} {k} (H : Tr a b K c (.mm 3 :: l) (k (k0_pay3 (slabA a c ((c.val % 4 + 3) % 4)) (k0_pay1 (b c)))) Q) :
    Tr a b K c (.send (mRS 0 1 0) :: .send (mRS 0 3 0) :: .mm 3 :: l)
      (k0_part5 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 >>= k) Q := by
  rw [k0_part5_eq_skeleton]
  unfold k0_part5_skel
  simp only [semSignalWord, semWaitWord, Prog.lift, Prog.bind_op, Prog.bind_ret, Prog.pure_eq_ret]
  exact sdR (n := fun d => ⟨k0_dev7 d, k0_dev7_lt d⟩) (off := (k0_off5 · 0#32)) <| sdR (n := fun d => ⟨k0_dev8 d, k0_dev8_lt d⟩) (off := (k0_off6 ·
    0#32)) <| ldM (off := (k0_off7 ·)) <| ldMN <| H

/-- Part 6 of the body: its 5 steps. -/
theorem part6_ok {v3 : BitVec 32} {Q : α → sProp 𝕄} {k} (H : Tr a b K c (l) (k ⟨⟩) Q) :
    Tr a b K c (.mm 3 :: .cut 3 :: .mm 1 :: .cut 1 :: .mm 2 :: l)
      (k0_part6 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 (k0_pay3 (slabA a c ((c.val % 4 + 3) % 4)) (k0_pay1 (b c))) >>= k) Q := by
  rw [k0_part6_eq_skeleton]
  unfold k0_part6_skel
  simp only [semSignalWord, semWaitWord, Prog.lift, Prog.bind_op, Prog.bind_ret, Prog.pure_eq_ret]
  exact ldMO (off := (k0_off8 ·)) fun _ => stM (off := (k0_off8 ·)) <| gCut <| ldM (off := (k0_off9 · 1#32)) <| ldMN <| ldMO (off := (k0_off10 ·
    1#32)) fun _ => stM (off := (k0_off10 · 1#32)) <| gCut <| ldM (off := (k0_off9 · 2#32)) <| ldMN <| ldMO (off := (k0_off10 · 2#32)) fun _ => stM
    (off := (k0_off10 · 2#32)) <| H

/-- Part 7 of the body: its 4 steps. -/
theorem part7_ok {v3 v8 v37 : BitVec 32} {Q : α → sProp 𝕄} {k} (H : ∀ w1 : BitVec 32, Tr a b K c (l) (k w1) Q) :
    Tr a b K c (.cut 2 :: .wait 3 :: .wait 27 :: .addR 0 0 0 :: l)
      (k0_part7 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 >>= k) Q := by
  rw [k0_part7_eq_skeleton]
  unfold k0_part7_skel
  simp only [semSignalWord, semWaitWord, Prog.lift, Prog.bind_op, Prog.bind_ret, Prog.pure_eq_ret]
  exact gCut <| wt <| wt <| ldR (off := (k0_off11 · 0#32)) <| ldRs <| ldR (off := (k0_off11 · 0#32)) <| stR (off := (k0_off11 · 0#32)) <| (H _)

/-- Part 8 of the body: its 2 steps. -/
theorem part8_ok {v3 v8 v37 c1_i32_189 : BitVec 32} {Q : α → sProp 𝕄} {k} (H : Tr a b K c (l) (k ⟨⟩) Q) :
    Tr a b K c (.send (mRS 0 0 1) :: .wait 9 :: l)
      (k0_part8 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 c1_i32_189 >>= k) Q := by
  rw [k0_part8_eq_skeleton]
  unfold k0_part8_skel
  simp only [semSignalWord, semWaitWord, Prog.lift, Prog.bind_op, Prog.bind_ret, Prog.pure_eq_ret]
  exact sdR (n := fun d => ⟨k0_dev9 d, k0_dev9_lt d⟩) (off := (k0_off3 · 1#32)) <| wt <| H

/-- Part 9 of the body: its 2 steps. -/
theorem part9_ok {v3 v12 v37 : BitVec 32} {Q : α → sProp 𝕄} {k} (H : Tr a b K c (l) (k ⟨⟩) Q) :
    Tr a b K c (.wait 33 :: .addR 0 2 0 :: l)
      (k0_part9 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v37 >>= k) Q := by
  rw [k0_part9_eq_skeleton]
  unfold k0_part9_skel
  simp only [semSignalWord, semWaitWord, Prog.lift, Prog.bind_op, Prog.bind_ret, Prog.pure_eq_ret]
  exact wt <| ldR (off := (k0_off12 · 0#32)) <| ldRs <| ldR (off := (k0_off12 · 0#32)) <| stR (off := (k0_off12 · 0#32)) <| H

/-- Part 10 of the body: its 3 steps. -/
theorem part10_ok {v3 v8 v12 : BitVec 32} {Q : α → sProp 𝕄} {k} (H : ∀ w1 : BitVec 32, Tr a b K c (l) (k w1) Q) :
    Tr a b K c (.send (mRS 0 2 1) :: .wait 6 :: .wait 30 :: l)
      (k0_part10 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 >>= k) Q := by
  rw [k0_part10_eq_skeleton]
  unfold k0_part10_skel
  simp only [semSignalWord, semWaitWord, Prog.lift, Prog.bind_op, Prog.bind_ret, Prog.pure_eq_ret]
  exact sdR (n := fun d => ⟨k0_dev10 d, k0_dev10_lt d⟩) (off := (k0_off4 · 1#32)) <| wt <| wt <| (H _)

/-- Part 11 of the body: its 2 steps. -/
theorem part11_ok {v3 v8 v38 v266 : BitVec 32} {Q : α → sProp 𝕄} {k} (H : Tr a b K c (l) (k ⟨⟩) Q) :
    Tr a b K c (.addR 0 1 0 :: .send (mRS 0 1 1) :: l)
      (k0_part11 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v38 v266 >>= k) Q := by
  rw [k0_part11_eq_skeleton]
  unfold k0_part11_skel
  simp only [semSignalWord, semWaitWord, Prog.lift, Prog.bind_op, Prog.bind_ret, Prog.pure_eq_ret]
  exact ldR (off := (k0_off13 · 0#32)) <| ldRs <| ldR (off := (k0_off13 · 0#32)) <| stR (off := (k0_off13 · 0#32)) <| sdR (n := fun d => ⟨k0_dev11 d,
    k0_dev11_lt d⟩) (off := (k0_off5 · 1#32)) <| H

/-- Part 12 of the body: its 3 steps. -/
theorem part12_ok {v3 v12 v38 : BitVec 32} {Q : α → sProp 𝕄} {k} (H : ∀ w1 : BitVec 32, Tr a b K c (.addR 0 3 0 :: l) (k ⟨w1, k0_pay9 (outB a b c 96 1 1 (row c.val 1 1 0 2) 0)⟩) Q) :
    Tr a b K c (.wait 12 :: .wait 36 :: .addR 0 3 0 :: l)
      (k0_part12 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 >>= k) Q := by
  rw [k0_part12_eq_skeleton]
  unfold k0_part12_skel
  simp only [semSignalWord, semWaitWord, Prog.lift, Prog.bind_op, Prog.bind_ret, Prog.pure_eq_ret]
  exact wt <| wt <| ldR (off := (k0_off14 · 0#32)) <| (H _)

/-- Part 13 of the body: its 2 steps. -/
theorem part13_ok {v3 v12 v37 v38 v312 : BitVec 32} {Q : α → sProp 𝕄} {k} (H : Tr a b K c (l) (k ⟨⟩) Q) :
    Tr a b K c (.addR 0 3 0 :: .send (mRS 0 3 1) :: l)
      (k0_part13 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v37 v38 v312 (k0_pay9 (outB a b c 96 1 1 (row c.val 1 1 0 2) 0)) >>= k) Q := by
  rw [k0_part13_eq_skeleton]
  unfold k0_part13_skel
  simp only [semSignalWord, semWaitWord, Prog.lift, Prog.bind_op, Prog.bind_ret, Prog.pure_eq_ret]
  exact ldRs <| ldR (off := (k0_off14 · 0#32)) <| stR (off := (k0_off14 · 0#32)) <| sdR (n := fun d => ⟨k0_dev12 d, k0_dev12_lt d⟩) (off := (k0_off6 ·
    1#32)) <| H

/-- Part 14 of the body: its 2 steps. -/
theorem part14_ok {v3 v8 v12 v37 v38 : BitVec 32} {Q : α → sProp 𝕄} {k} (H : Tr a b K c (l) (k ⟨⟩) Q) :
    Tr a b K c (.send (mRS 1 0 0) :: .send (mRS 1 2 0) :: l)
      (k0_part14 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v37 v38 >>= k) Q := by
  rw [k0_part14_eq_skeleton]
  unfold k0_part14_skel
  simp only [semSignalWord, semWaitWord, Prog.lift, Prog.bind_op, Prog.bind_ret, Prog.pure_eq_ret]
  exact sdR (n := fun d => ⟨k0_dev13 d, k0_dev13_lt d⟩) (off := (k0_off15 · 0#32)) <| sdR (n := fun d => ⟨k0_dev14 d, k0_dev14_lt d⟩) (off :=
    (k0_off16 · 0#32)) <| H

/-- Part 15 of the body: its 2 steps. -/
theorem part15_ok {v3 v8 v12 v38 : BitVec 32} {Q : α → sProp 𝕄} {k} (H : Tr a b K c (l) (k ⟨⟩) Q) :
    Tr a b K c (.send (mRS 1 1 0) :: .send (mRS 1 3 0) :: l)
      (k0_part15 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v38 >>= k) Q := by
  rw [k0_part15_eq_skeleton]
  unfold k0_part15_skel
  simp only [semSignalWord, semWaitWord, Prog.lift, Prog.bind_op, Prog.bind_ret, Prog.pure_eq_ret]
  exact sdR (n := fun d => ⟨k0_dev15 d, k0_dev15_lt d⟩) (off := (k0_off17 · 0#32)) <| sdR (n := fun d => ⟨k0_dev16 d, k0_dev16_lt d⟩) (off :=
    (k0_off18 · 0#32)) <| H

/-- Part 16 of the body: its 3 steps. -/
theorem part16_ok {v3 v8 v37 : BitVec 32} {Q : α → sProp 𝕄} {k} (H : ∀ w1 : BitVec 32, Tr a b K c (.addR 0 0 1 :: l) (k ⟨w1, k0_pay11 (outB a b c 96 0 1 (row c.val 0 2 1 2) 0)⟩) Q) :
    Tr a b K c (.wait 4 :: .wait 28 :: .addR 0 0 1 :: l)
      (k0_part16 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 >>= k) Q := by
  rw [k0_part16_eq_skeleton]
  unfold k0_part16_skel
  simp only [semSignalWord, semWaitWord, Prog.lift, Prog.bind_op, Prog.bind_ret, Prog.pure_eq_ret]
  exact wt <| wt <| ldR (off := (k0_off11 · 1#32)) <| (H _)

/-- Part 17 of the body: its 2 steps. -/
theorem part17_ok {v3 v8 v37 v411 : BitVec 32} {Q : α → sProp 𝕄} {k} (H : Tr a b K c (l) (k ⟨⟩) Q) :
    Tr a b K c (.addR 0 0 1 :: .send (mRS 0 0 2) :: l)
      (k0_part17 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 v411 (k0_pay11 (outB a b c 96 0 1 (row c.val 0 2 1 2) 0)) >>= k) Q := by
  rw [k0_part17_eq_skeleton]
  unfold k0_part17_skel
  simp only [semSignalWord, semWaitWord, Prog.lift, Prog.bind_op, Prog.bind_ret, Prog.pure_eq_ret]
  exact ldRs <| ldR (off := (k0_off11 · 1#32)) <| stR (off := (k0_off11 · 1#32)) <| sdR (n := fun d => ⟨k0_dev17 d, k0_dev17_lt d⟩) (off := (k0_off3 ·
    2#32)) <| H

/-- Part 18 of the body: its 3 steps. -/
theorem part18_ok {v3 v12 v37 : BitVec 32} {Q : α → sProp 𝕄} {k} (H : Tr a b K c (l) (k ⟨⟩) Q) :
    Tr a b K c (.wait 10 :: .wait 34 :: .addR 0 2 1 :: l)
      (k0_part18 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v37 >>= k) Q := by
  rw [k0_part18_eq_skeleton]
  unfold k0_part18_skel
  simp only [semSignalWord, semWaitWord, Prog.lift, Prog.bind_op, Prog.bind_ret, Prog.pure_eq_ret]
  exact wt <| wt <| ldR (off := (k0_off12 · 1#32)) <| ldRs <| ldR (off := (k0_off12 · 1#32)) <| stR (off := (k0_off12 · 1#32)) <| H

/-- Part 19 of the body: its 2 steps. -/
theorem part19_ok {v8 v12 : BitVec 32} {Q : α → sProp 𝕄} {k} (H : Tr a b K c (l) (k ⟨⟩) Q) :
    Tr a b K c (.send (mRS 0 2 2) :: .wait 7 :: l)
      (k0_part19 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v12 >>= k) Q := by
  rw [k0_part19_eq_skeleton]
  unfold k0_part19_skel
  simp only [semSignalWord, semWaitWord, Prog.lift, Prog.bind_op, Prog.bind_ret, Prog.pure_eq_ret]
  exact sdR (n := fun d => ⟨k0_dev18 d, k0_dev18_lt d⟩) (off := (k0_off4 · 2#32)) <| wt <| H

/-- Part 20 of the body: its 2 steps. -/
theorem part20_ok {v3 v8 v38 : BitVec 32} {Q : α → sProp 𝕄} {k} (H : Tr a b K c (l) (k ⟨⟩) Q) :
    Tr a b K c (.wait 31 :: .addR 0 1 1 :: l)
      (k0_part20 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v38 >>= k) Q := by
  rw [k0_part20_eq_skeleton]
  unfold k0_part20_skel
  simp only [semSignalWord, semWaitWord, Prog.lift, Prog.bind_op, Prog.bind_ret, Prog.pure_eq_ret]
  exact wt <| ldR (off := (k0_off13 · 1#32)) <| ldRs <| ldR (off := (k0_off13 · 1#32)) <| stR (off := (k0_off13 · 1#32)) <| H

/-- Part 21 of the body: its 3 steps. -/
theorem part21_ok {v3 v12 v38 : BitVec 32} {Q : α → sProp 𝕄} {k} (H : ∀ w1 : BitVec 32, Tr a b K c (l) (k w1) Q) :
    Tr a b K c (.send (mRS 0 1 2) :: .wait 13 :: .wait 37 :: l)
      (k0_part21 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 >>= k) Q := by
  rw [k0_part21_eq_skeleton]
  unfold k0_part21_skel
  simp only [semSignalWord, semWaitWord, Prog.lift, Prog.bind_op, Prog.bind_ret, Prog.pure_eq_ret]
  exact sdR (n := fun d => ⟨k0_dev19 d, k0_dev19_lt d⟩) (off := (k0_off5 · 2#32)) <| wt <| wt <| (H _)

/-- Part 22 of the body: its 2 steps. -/
theorem part22_ok {v3 v12 v38 v534 : BitVec 32} {Q : α → sProp 𝕄} {k} (H : Tr a b K c (l) (k ⟨⟩) Q) :
    Tr a b K c (.addR 0 3 1 :: .send (mRS 0 3 2) :: l)
      (k0_part22 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 v534 >>= k) Q := by
  rw [k0_part22_eq_skeleton]
  unfold k0_part22_skel
  simp only [semSignalWord, semWaitWord, Prog.lift, Prog.bind_op, Prog.bind_ret, Prog.pure_eq_ret]
  exact ldR (off := (k0_off14 · 1#32)) <| ldRs <| ldR (off := (k0_off14 · 1#32)) <| stR (off := (k0_off14 · 1#32)) <| sdR (n := fun d => ⟨k0_dev20 d,
    k0_dev20_lt d⟩) (off := (k0_off6 · 2#32)) <| H

/-- Part 23 of the body: its 3 steps. -/
theorem part23_ok {v3 v8 v37 : BitVec 32} {Q : α → sProp 𝕄} {k} (H : ∀ w1 : BitVec 32, Tr a b K c (l) (k w1) Q) :
    Tr a b K c (.wait 15 :: .wait 39 :: .addR 1 0 0 :: l)
      (k0_part23 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 >>= k) Q := by
  rw [k0_part23_eq_skeleton]
  unfold k0_part23_skel
  simp only [semSignalWord, semWaitWord, Prog.lift, Prog.bind_op, Prog.bind_ret, Prog.pure_eq_ret]
  exact wt <| wt <| ldR (off := (k0_off19 · 0#32)) <| ldRs <| ldR (off := (k0_off19 · 0#32)) <| stR (off := (k0_off19 · 0#32)) <| (H _)

/-- Part 24 of the body: its 2 steps. -/
theorem part24_ok {v3 v8 v37 c1_i32_722 : BitVec 32} {Q : α → sProp 𝕄} {k} (H : Tr a b K c (l) (k ⟨⟩) Q) :
    Tr a b K c (.send (mRS 1 0 1) :: .wait 21 :: l)
      (k0_part24 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 c1_i32_722 >>= k) Q := by
  rw [k0_part24_eq_skeleton]
  unfold k0_part24_skel
  simp only [semSignalWord, semWaitWord, Prog.lift, Prog.bind_op, Prog.bind_ret, Prog.pure_eq_ret]
  exact sdR (n := fun d => ⟨k0_dev21 d, k0_dev21_lt d⟩) (off := (k0_off15 · 1#32)) <| wt <| H

/-- Part 25 of the body: its 2 steps. -/
theorem part25_ok {v3 v12 v37 : BitVec 32} {Q : α → sProp 𝕄} {k} (H : Tr a b K c (l) (k ⟨⟩) Q) :
    Tr a b K c (.wait 45 :: .addR 1 2 0 :: l)
      (k0_part25 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v37 >>= k) Q := by
  rw [k0_part25_eq_skeleton]
  unfold k0_part25_skel
  simp only [semSignalWord, semWaitWord, Prog.lift, Prog.bind_op, Prog.bind_ret, Prog.pure_eq_ret]
  exact wt <| ldR (off := (k0_off20 · 0#32)) <| ldRs <| ldR (off := (k0_off20 · 0#32)) <| stR (off := (k0_off20 · 0#32)) <| H

end Cert.Prot
end
end
-- ==== Proof.Body2.lean ====
/-
# The body, stretch 2

The ring sums and exchanges, second stretch. Each part of the printed body runs its own abstract steps: given the rest of the program from the steps that
remain, the part and the rest run from the steps of both.
-/
module

public import proofs.«01_k».proof.Proof.Copies

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {a : Dev nD → Vec F S1536x768 .f32} {b : Dev nD → Vec F S768x1536 .f32}
variable {K : Dev nD × ℕ → ℕ} {c : Dev nD} {α : Type} {l : List Op}

/-- Part 26 of the body: its 3 steps. -/
theorem part26_ok {v3 v8 v12 : BitVec 32} {Q : α → sProp 𝕄} {k} (H : ∀ w1 : BitVec 32, Tr a b K c (l) (k w1) Q) :
    Tr a b K c (.send (mRS 1 2 1) :: .wait 18 :: .wait 42 :: l)
      (k0_part26 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 >>= k) Q := by
  rw [k0_part26_eq_skeleton]
  unfold k0_part26_skel
  simp only [semSignalWord, semWaitWord, Prog.lift, Prog.bind_op, Prog.bind_ret, Prog.pure_eq_ret]
  exact sdR (n := fun d => ⟨k0_dev22 d, k0_dev22_lt d⟩) (off := (k0_off16 · 1#32)) <| wt <| wt <| (H _)

/-- Part 27 of the body: its 2 steps. -/
theorem part27_ok {v3 v8 v38 v652 : BitVec 32} {Q : α → sProp 𝕄} {k} (H : Tr a b K c (l) (k ⟨⟩) Q) :
    Tr a b K c (.addR 1 1 0 :: .send (mRS 1 1 1) :: l)
      (k0_part27 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v38 v652 >>= k) Q := by
  rw [k0_part27_eq_skeleton]
  unfold k0_part27_skel
  simp only [semSignalWord, semWaitWord, Prog.lift, Prog.bind_op, Prog.bind_ret, Prog.pure_eq_ret]
  exact ldR (off := (k0_off21 · 0#32)) <| ldRs <| ldR (off := (k0_off21 · 0#32)) <| stR (off := (k0_off21 · 0#32)) <| sdR (n := fun d => ⟨k0_dev23 d,
    k0_dev23_lt d⟩) (off := (k0_off17 · 1#32)) <| H

/-- Part 28 of the body: its 3 steps. -/
theorem part28_ok {v3 v12 v38 : BitVec 32} {Q : α → sProp 𝕄} {k} (H : ∀ w1 : BitVec 32, Tr a b K c (.addR 1 3 0 :: l) (k ⟨w1, k0_pay19 (outB a b c 96 1 1 (row c.val 1 1 0 2) 1)⟩) Q) :
    Tr a b K c (.wait 24 :: .wait 48 :: .addR 1 3 0 :: l)
      (k0_part28 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 >>= k) Q := by
  rw [k0_part28_eq_skeleton]
  unfold k0_part28_skel
  simp only [semSignalWord, semWaitWord, Prog.lift, Prog.bind_op, Prog.bind_ret, Prog.pure_eq_ret]
  exact wt <| wt <| ldR (off := (k0_off22 · 0#32)) <| (H _)

/-- Part 29 of the body: its 3 steps. -/
theorem part29_ok {v3 v12 v38 v698 : BitVec 32} {Q : α → sProp 𝕄} {k} (H : Tr a b K c (l) (k ⟨⟩) Q) :
    Tr a b K c (.addR 1 3 0 :: .send (mRS 1 3 1) :: .wait 5 :: l)
      (k0_part29 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 v698 (k0_pay19 (outB a b c 96 1 1 (row c.val 1 1 0 2) 1)) >>= k) Q := by
  rw [k0_part29_eq_skeleton]
  unfold k0_part29_skel
  simp only [semSignalWord, semWaitWord, Prog.lift, Prog.bind_op, Prog.bind_ret, Prog.pure_eq_ret]
  exact ldRs <| ldR (off := (k0_off22 · 0#32)) <| stR (off := (k0_off22 · 0#32)) <| sdR (n := fun d => ⟨k0_dev24 d, k0_dev24_lt d⟩) (off := (k0_off18
    · 1#32)) <| wt <| H

/-- Part 30 of the body: its 2 steps. -/
theorem part30_ok {v3 v8 v37 : BitVec 32} {Q : α → sProp 𝕄} {k} (H : Tr a b K c (l) (k ⟨⟩) Q) :
    Tr a b K c (.wait 29 :: .addR 0 0 2 :: l)
      (k0_part30 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 >>= k) Q := by
  rw [k0_part30_eq_skeleton]
  unfold k0_part30_skel
  simp only [semSignalWord, semWaitWord, Prog.lift, Prog.bind_op, Prog.bind_ret, Prog.pure_eq_ret]
  exact wt <| ldR (off := (k0_off11 · 2#32)) <| ldRs <| ldR (off := (k0_off11 · 2#32)) <| stR (off := (k0_off11 · 2#32)) <| H

/-- Part 31 of the body: its 3 steps. -/
theorem part31_ok {v3 v12 v37 v44 : BitVec 32} {Q : α → sProp 𝕄} {k} (H : Tr a b K c (l) (k ⟨⟩) Q) :
    Tr a b K c (.wait 11 :: .wait 35 :: .addR 0 2 2 :: l)
      (k0_part31 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v37 v44 >>= k) Q := by
  rw [k0_part31_eq_skeleton]
  unfold k0_part31_skel
  simp only [semSignalWord, semWaitWord, Prog.lift, Prog.bind_op, Prog.bind_ret, Prog.pure_eq_ret]
  exact wt <| wt <| ldR (off := (k0_off12 · 2#32)) <| ldRs <| ldR (off := (k0_off12 · 2#32)) <| stR (off := (k0_off12 · 2#32)) <| H

/-- Part 32 of the body: its 2 steps. -/
theorem part32_ok {v17 v37 v46 : BitVec 32} {Q : α → sProp 𝕄} {k} (H : Tr a b K c (l) (k ⟨⟩) Q) :
    Tr a b K c (.send (mZ1 0 0) :: .send (mZ1 0 1) :: l)
      (k0_part32 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v17 v37 v46 >>= k) Q := by
  rw [k0_part32_eq_skeleton]
  unfold k0_part32_skel
  simp only [semSignalWord, semWaitWord, Prog.lift, Prog.bind_op, Prog.bind_ret, Prog.pure_eq_ret]
  exact sdX (n := fun d => ⟨k0_dev25 d, k0_dev25_lt d⟩) (off := (k0_off23 ·)) <| sdX (n := fun d => ⟨k0_dev26 d, k0_dev26_lt d⟩) (off := (k0_off24 ·))
    <| H

/-- Part 33 of the body: its 3 steps. -/
theorem part33_ok {v3 v8 v38 : BitVec 32} {Q : α → sProp 𝕄} {k} (H : Tr a b K c (l) (k ⟨⟩) Q) :
    Tr a b K c (.wait 8 :: .wait 32 :: .addR 0 1 2 :: l)
      (k0_part33 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v38 >>= k) Q := by
  rw [k0_part33_eq_skeleton]
  unfold k0_part33_skel
  simp only [semSignalWord, semWaitWord, Prog.lift, Prog.bind_op, Prog.bind_ret, Prog.pure_eq_ret]
  exact wt <| wt <| ldR (off := (k0_off13 · 2#32)) <| ldRs <| ldR (off := (k0_off13 · 2#32)) <| stR (off := (k0_off13 · 2#32)) <| H

/-- Part 34 of the body: its 3 steps. -/
theorem part34_ok {v3 v12 v38 : BitVec 32} {Q : α → sProp 𝕄} {k} (H : Tr a b K c (.addR 0 3 2 :: l) (k (k0_pay24 (outB a b c 96 1 1 (row c.val 1 3 0 2) 0) (rB a b c 0 3 2))) Q) :
    Tr a b K c (.wait 14 :: .wait 38 :: .addR 0 3 2 :: l)
      (k0_part34 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 >>= k) Q := by
  rw [k0_part34_eq_skeleton]
  unfold k0_part34_skel
  simp only [semSignalWord, semWaitWord, Prog.lift, Prog.bind_op, Prog.bind_ret, Prog.pure_eq_ret]
  exact wt <| wt <| ldR (off := (k0_off14 · 2#32)) <| ldRs <| ldR (off := (k0_off14 · 2#32)) <| H

/-- Part 35 of the body: its 4 steps. -/
theorem part35_ok {v3 v8 v37 : BitVec 32} {Q : α → sProp 𝕄} {k} (H : ∀ w1 : BitVec 32, Tr a b K c (.addR 1 0 1 :: l) (k ⟨w1, k0_pay25 (outB a b c 96 0 1 (row c.val 0 2 1 2) 1)⟩) Q) :
    Tr a b K c (.addR 0 3 2 :: .wait 16 :: .wait 40 :: .addR 1 0 1 :: l)
      (k0_part35 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 (k0_pay24 (outB a b c 96 1 1 (row c.val 1 3 0 2) 0) (rB a b c 0 3 2)) >>= k) Q := by
  rw [k0_part35_eq_skeleton]
  unfold k0_part35_skel
  simp only [semSignalWord, semWaitWord, Prog.lift, Prog.bind_op, Prog.bind_ret, Prog.pure_eq_ret]
  exact stR (off := (k0_off14 · 2#32)) <| wt <| wt <| ldR (off := (k0_off19 · 1#32)) <| (H _)

/-- Part 36 of the body: its 2 steps. -/
theorem part36_ok {v3 v8 v37 v865 : BitVec 32} {Q : α → sProp 𝕄} {k} (H : Tr a b K c (l) (k ⟨⟩) Q) :
    Tr a b K c (.addR 1 0 1 :: .send (mRS 1 0 2) :: l)
      (k0_part36 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v37 v865 (k0_pay25 (outB a b c 96 0 1 (row c.val 0 2 1 2) 1)) >>= k) Q := by
  rw [k0_part36_eq_skeleton]
  unfold k0_part36_skel
  simp only [semSignalWord, semWaitWord, Prog.lift, Prog.bind_op, Prog.bind_ret, Prog.pure_eq_ret]
  exact ldRs <| ldR (off := (k0_off19 · 1#32)) <| stR (off := (k0_off19 · 1#32)) <| sdR (n := fun d => ⟨k0_dev27 d, k0_dev27_lt d⟩) (off := (k0_off15
    · 2#32)) <| H

/-- Part 37 of the body: its 3 steps. -/
theorem part37_ok {v3 v12 v37 : BitVec 32} {Q : α → sProp 𝕄} {k} (H : ∀ w1 : BitVec 32, Tr a b K c (l) (k w1) Q) :
    Tr a b K c (.wait 22 :: .wait 46 :: .addR 1 2 1 :: l)
      (k0_part37 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v37 >>= k) Q := by
  rw [k0_part37_eq_skeleton]
  unfold k0_part37_skel
  simp only [semSignalWord, semWaitWord, Prog.lift, Prog.bind_op, Prog.bind_ret, Prog.pure_eq_ret]
  exact wt <| wt <| ldR (off := (k0_off20 · 1#32)) <| ldRs <| ldR (off := (k0_off20 · 1#32)) <| stR (off := (k0_off20 · 1#32)) <| (H _)

/-- Part 38 of the body: its 2 steps. -/
theorem part38_ok {v8 v12 v37 v917 : BitVec 32} {Q : α → sProp 𝕄} {k} (H : Tr a b K c (l) (k ⟨⟩) Q) :
    Tr a b K c (.send (mRS 1 2 2) :: .wait 19 :: l)
      (k0_part38 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v12 v37 v917 >>= k) Q := by
  rw [k0_part38_eq_skeleton]
  unfold k0_part38_skel
  simp only [semSignalWord, semWaitWord, Prog.lift, Prog.bind_op, Prog.bind_ret, Prog.pure_eq_ret]
  exact sdR (n := fun d => ⟨k0_dev28 d, k0_dev28_lt d⟩) (off := (k0_off16 · 2#32)) <| wt <| H

/-- Part 39 of the body: its 2 steps. -/
theorem part39_ok {v3 v8 v38 : BitVec 32} {Q : α → sProp 𝕄} {k} (H : ∀ w1 w2 : BitVec 32, Tr a b K c (l) (k ⟨w1, w2⟩) Q) :
    Tr a b K c (.wait 43 :: .addR 1 1 1 :: l)
      (k0_part39 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v38 >>= k) Q := by
  rw [k0_part39_eq_skeleton]
  unfold k0_part39_skel
  simp only [semSignalWord, semWaitWord, Prog.lift, Prog.bind_op, Prog.bind_ret, Prog.pure_eq_ret]
  exact wt <| ldR (off := (k0_off21 · 1#32)) <| ldRs <| ldR (off := (k0_off21 · 1#32)) <| stR (off := (k0_off21 · 1#32)) <| (H _ _)

/-- Part 40 of the body: its 3 steps. -/
theorem part40_ok {v3 v12 v962 c0_i32_1265 : BitVec 32} {Q : α → sProp 𝕄} {k} (H : ∀ w1 w2 : BitVec 32, Tr a b K c (l) (k ⟨w1, w2⟩) Q) :
    Tr a b K c (.send (mRS 1 1 2) :: .wait 25 :: .wait 49 :: l)
      (k0_part40 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v962 c0_i32_1265 >>= k) Q := by
  rw [k0_part40_eq_skeleton]
  unfold k0_part40_skel
  simp only [semSignalWord, semWaitWord, Prog.lift, Prog.bind_op, Prog.bind_ret, Prog.pure_eq_ret]
  exact sdR (n := fun d => ⟨k0_dev29 d, k0_dev29_lt d⟩) (off := (k0_off17 · 2#32)) <| wt <| wt <| (H _ _)

/-- Part 41 of the body: its 2 steps. -/
theorem part41_ok {v3 v12 v38 v985 c384_i32_1299 : BitVec 32} {Q : α → sProp 𝕄} {k} (H : Tr a b K c (l) (k ⟨⟩) Q) :
    Tr a b K c (.addR 1 3 1 :: .send (mRS 1 3 2) :: l)
      (k0_part41 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 v985 c384_i32_1299 >>= k) Q := by
  rw [k0_part41_eq_skeleton]
  unfold k0_part41_skel
  simp only [semSignalWord, semWaitWord, Prog.lift, Prog.bind_op, Prog.bind_ret, Prog.pure_eq_ret]
  exact ldR (off := (k0_off22 · 1#32)) <| ldRs <| ldR (off := (k0_off22 · 1#32)) <| stR (off := (k0_off22 · 1#32)) <| sdR (n := fun d => ⟨k0_dev30 d,
    k0_dev30_lt d⟩) (off := (k0_off18 · 2#32)) <| H

/-- Part 42 of the body: its 4 steps. -/
theorem part42_ok {v17 v47 : BitVec 32} {Q : α → sProp 𝕄} {k} (H : Tr a b K c (l) (k ⟨⟩) Q) :
    Tr a b K c (.wait 51 :: .wait 55 :: .addX 0 0 :: .wait 52 :: l)
      (k0_part42 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v17 v47 >>= k) Q := by
  rw [k0_part42_eq_skeleton]
  unfold k0_part42_skel
  simp only [semSignalWord, semWaitWord, Prog.lift, Prog.bind_op, Prog.bind_ret, Prog.pure_eq_ret]
  exact wt <| wt <| ldX (off := (k0_off25 ·)) <| ldXs <| ldX (off := (k0_off25 ·)) <| stX (off := (k0_off25 ·)) <| wt <| H

/-- Part 43 of the body: its 2 steps. -/
theorem part43_ok {v14 v17 v20 v47 v48 : BitVec 32} {Q : α → sProp 𝕄} {k} (H : Tr a b K c (l) (k ⟨⟩) Q) :
    Tr a b K c (.wait 56 :: .addX 0 1 :: l)
      (k0_part43 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v14 v17 v20 v47 v48 >>= k) Q := by
  rw [k0_part43_eq_skeleton]
  unfold k0_part43_skel
  simp only [semSignalWord, semWaitWord, Prog.lift, Prog.bind_op, Prog.bind_ret, Prog.pure_eq_ret]
  exact wt <| ldX (off := (k0_off26 ·)) <| ldXs <| ldX (off := (k0_off26 ·)) <| stX (off := (k0_off26 ·)) <| H

/-- Part 44 of the body: its 5 steps. -/
theorem part44_ok {v8 v20 : BitVec 32} {Q : α → sProp 𝕄} {k} (H : Tr a b K c (l) (k ⟨⟩) Q) :
    Tr a b K c (.split (out 0 0 0 3 0 2 5 0) :: .split (out 0 0 1 3 0 2 5 0) :: .send (mZ2 0 0) :: .send (mZ2 0 1) :: .wait 17 :: l)
      (k0_part44 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v20 >>= k) Q := by
  rw [k0_part44_eq_skeleton]
  unfold k0_part44_skel
  simp only [semSignalWord, semWaitWord, Prog.lift, Prog.bind_op, Prog.bind_ret, Prog.pure_eq_ret]
  exact gSplit <| gSplit <| sdY (n := fun d => ⟨k0_dev31 d, k0_dev31_lt d⟩) (off := (k0_off27 ·)) <| sdY (n := fun d => ⟨k0_dev32 d, k0_dev32_lt d⟩)
    (off := (k0_off28 ·)) <| wt <| H

/-- Part 45 of the body: its 3 steps. -/
theorem part45_ok {v3 v37 : BitVec 32} {Q : α → sProp 𝕄} {k} (H : Tr a b K c (l) (k ⟨⟩) Q) :
    Tr a b K c (.wait 41 :: .addR 1 0 2 :: .wait 23 :: l)
      (k0_part45 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v37 >>= k) Q := by
  rw [k0_part45_eq_skeleton]
  unfold k0_part45_skel
  simp only [semSignalWord, semWaitWord, Prog.lift, Prog.bind_op, Prog.bind_ret, Prog.pure_eq_ret]
  exact wt <| ldR (off := (k0_off19 · 2#32)) <| ldRs <| ldR (off := (k0_off19 · 2#32)) <| stR (off := (k0_off19 · 2#32)) <| wt <| H

/-- Part 46 of the body: its 2 steps. -/
theorem part46_ok {v3 v12 v17 v37 v44 v46 : BitVec 32} {Q : α → sProp 𝕄} {k} (H : Tr a b K c (l) (k ⟨⟩) Q) :
    Tr a b K c (.wait 47 :: .addR 1 2 2 :: l)
      (k0_part46 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v17 v37 v44 v46 >>= k) Q := by
  rw [k0_part46_eq_skeleton]
  unfold k0_part46_skel
  simp only [semSignalWord, semWaitWord, Prog.lift, Prog.bind_op, Prog.bind_ret, Prog.pure_eq_ret]
  exact wt <| ldR (off := (k0_off20 · 2#32)) <| ldRs <| ldR (off := (k0_off20 · 2#32)) <| stR (off := (k0_off20 · 2#32)) <| H

/-- Part 47 of the body: its 3 steps. -/
theorem part47_ok {v8 v17 : BitVec 32} {Q : α → sProp 𝕄} {k} (H : Tr a b K c (l) (k ⟨⟩) Q) :
    Tr a b K c (.send (mZ1 1 0) :: .send (mZ1 1 1) :: .wait 20 :: l)
      (k0_part47 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v17 >>= k) Q := by
  rw [k0_part47_eq_skeleton]
  unfold k0_part47_skel
  simp only [semSignalWord, semWaitWord, Prog.lift, Prog.bind_op, Prog.bind_ret, Prog.pure_eq_ret]
  exact sdX (n := fun d => ⟨k0_dev33 d, k0_dev33_lt d⟩) (off := (k0_off29 ·)) <| sdX (n := fun d => ⟨k0_dev34 d, k0_dev34_lt d⟩) (off := (k0_off30 ·))
    <| wt <| H

/-- Part 48 of the body: its 3 steps. -/
theorem part48_ok {v3 v38 : BitVec 32} {Q : α → sProp 𝕄} {k} (H : Tr a b K c (l) (k ⟨⟩) Q) :
    Tr a b K c (.wait 44 :: .addR 1 1 2 :: .wait 26 :: l)
      (k0_part48 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v38 >>= k) Q := by
  rw [k0_part48_eq_skeleton]
  unfold k0_part48_skel
  simp only [semSignalWord, semWaitWord, Prog.lift, Prog.bind_op, Prog.bind_ret, Prog.pure_eq_ret]
  exact wt <| ldR (off := (k0_off21 · 2#32)) <| ldRs <| ldR (off := (k0_off21 · 2#32)) <| stR (off := (k0_off21 · 2#32)) <| wt <| H

/-- Part 49 of the body: its 2 steps. -/
theorem part49_ok {v3 v12 v38 : BitVec 32} {Q : α → sProp 𝕄} {k} (H : Tr a b K c (l) (k ⟨⟩) Q) :
    Tr a b K c (.wait 50 :: .addR 1 3 2 :: l)
      (k0_part49 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v38 >>= k) Q := by
  rw [k0_part49_eq_skeleton]
  unfold k0_part49_skel
  simp only [semSignalWord, semWaitWord, Prog.lift, Prog.bind_op, Prog.bind_ret, Prog.pure_eq_ret]
  exact wt <| ldR (off := (k0_off22 · 2#32)) <| ldRs <| ldR (off := (k0_off22 · 2#32)) <| stR (off := (k0_off22 · 2#32)) <| H

/-- Part 50 of the body: its 4 steps. -/
theorem part50_ok {v20 v50 : BitVec 32} {Q : α → sProp 𝕄} {k} (H : ∀ w1 w2 : BitVec 32, Tr a b K c (l) (k ⟨w1, w2⟩) Q) :
    Tr a b K c (.wait 59 :: .wait 63 :: .addY 0 0 :: .wait 60 :: l)
      (k0_part50 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v20 v50 >>= k) Q := by
  rw [k0_part50_eq_skeleton]
  unfold k0_part50_skel
  simp only [semSignalWord, semWaitWord, Prog.lift, Prog.bind_op, Prog.bind_ret, Prog.pure_eq_ret]
  exact wt <| wt <| ldY (off := (k0_off31 ·)) <| ldYs <| ldY (off := (k0_off31 ·)) <| stY (off := (k0_off31 ·)) <| wt <| (H _ _)

end Cert.Prot
end
end
-- ==== Proof.Body3.lean ====
/-
# The body, stretch 3

The exchanges and the gathering, third stretch. Each part of the printed body runs its own abstract steps: given the rest of the program from the steps that
remain, the part and the rest run from the steps of both.
-/
module

public import proofs.«01_k».proof.Proof.Copies

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {a : Dev nD → Vec F S1536x768 .f32} {b : Dev nD → Vec F S768x1536 .f32}
variable {K : Dev nD × ℕ → ℕ} {c : Dev nD} {α : Type} {l : List Op}

/-- Part 51 of the body: its 4 steps. -/
theorem part51_ok {v50 v52 v1226 c0_i32_1630 : BitVec 32} {Q : α → sProp 𝕄} {k} (H : Tr a b K c (.act 0 1 :: l) (k (k0_pay39 (outB a b c 48 1 6 (row c.val 1 3 0 0) 0))) Q) :
    Tr a b K c (.wait 64 :: .addY 0 1 :: .act 0 0 :: .act 0 1 :: l)
      (k0_part51 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v50 v52 v1226 c0_i32_1630 >>= k) Q := by
  rw [k0_part51_eq_skeleton]
  unfold k0_part51_skel
  simp only [semSignalWord, semWaitWord, Prog.lift, Prog.bind_op, Prog.bind_ret, Prog.pure_eq_ret]
  exact wt <| ldY (off := (k0_off32 ·)) <| ldYs <| ldY (off := (k0_off32 ·)) <| stY (off := (k0_off32 ·)) <| ldA (off := (k0_off31 ·)) <| ldA (off :=
    (k0_off31 ·)) <| stA (off := (k0_off31 ·)) <| ldA (off := (k0_off32 ·)) <| ldA (off := (k0_off32 ·)) <| H

/-- Part 52 of the body: its 5 steps. -/
theorem part52_ok {v3 v8 v12 v55 : BitVec 32} {Q : α → sProp 𝕄} {k} (H : Tr a b K c (l) (k ⟨⟩) Q) :
    Tr a b K c (.act 0 1 :: .halve (out 0 0 0 3 0 0 7 0) :: .halve (out 0 0 1 3 0 0 7 0) :: .split (out 1 0 0 0 0 2 0 0) :: .send (mAG 0 0 0) :: l)
      (k0_part52 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v55 (k0_pay39 (outB a b c 48 1 6 (row c.val 1 3 0 0) 0)) >>= k) Q := by
  rw [k0_part52_eq_skeleton]
  unfold k0_part52_skel
  simp only [semSignalWord, semWaitWord, Prog.lift, Prog.bind_op, Prog.bind_ret, Prog.pure_eq_ret]
  exact stA (off := (k0_off32 ·)) <| gHalve <| gHalve <| gSplit <| sdG (n := fun d => ⟨k0_dev35 d, k0_dev35_lt d⟩) (off := (k0_off33 · 0#32)) <| H

/-- Part 53 of the body: its 5 steps. -/
theorem part53_ok {v20 : BitVec 32} {Q : α → sProp 𝕄} {k} (H : Tr a b K c (l) (k ⟨⟩) Q) :
    Tr a b K c (.split (out 2 0 1 0 0 2 0 0) :: .send (mAG 0 3 0) :: .send (mG2 0 0) :: .send (mG2 0 1) :: .wait 53 :: l)
      (k0_part53 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v20 >>= k) Q := by
  rw [k0_part53_eq_skeleton]
  unfold k0_part53_skel
  simp only [semSignalWord, semWaitWord, Prog.lift, Prog.bind_op, Prog.bind_ret, Prog.pure_eq_ret]
  exact gSplit <| sdG (n := fun d => ⟨k0_dev36 d, k0_dev36_lt d⟩) (off := (k0_off34 · 0#32)) <| sdG (n := fun d => ⟨k0_dev37 d, k0_dev37_lt d⟩) (off
    := (k0_off35 ·)) <| sdG (n := fun d => ⟨k0_dev38 d, k0_dev38_lt d⟩) (off := (k0_off36 ·)) <| wt <| H

/-- Part 54 of the body: its 3 steps. -/
theorem part54_ok {v17 v47 : BitVec 32} {Q : α → sProp 𝕄} {k} (H : Tr a b K c (l) (k ⟨⟩) Q) :
    Tr a b K c (.wait 57 :: .addX 1 0 :: .wait 54 :: l)
      (k0_part54 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v17 v47 >>= k) Q := by
  rw [k0_part54_eq_skeleton]
  unfold k0_part54_skel
  simp only [semSignalWord, semWaitWord, Prog.lift, Prog.bind_op, Prog.bind_ret, Prog.pure_eq_ret]
  exact wt <| ldX (off := (k0_off37 ·)) <| ldXs <| ldX (off := (k0_off37 ·)) <| stX (off := (k0_off37 ·)) <| wt <| H

/-- Part 55 of the body: its 5 steps. -/
theorem part55_ok {v14 v20 v47 v48 : BitVec 32} {Q : α → sProp 𝕄} {k} (H : Tr a b K c (l) (k ⟨⟩) Q) :
    Tr a b K c (.wait 58 :: .addX 1 1 :: .split (out 0 1 0 3 0 2 5 0) :: .split (out 0 1 1 3 0 2 5 0) :: .send (mZ2 1 0) :: l)
      (k0_part55 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v14 v20 v47 v48 >>= k) Q := by
  rw [k0_part55_eq_skeleton]
  unfold k0_part55_skel
  simp only [semSignalWord, semWaitWord, Prog.lift, Prog.bind_op, Prog.bind_ret, Prog.pure_eq_ret]
  exact wt <| ldX (off := (k0_off38 ·)) <| ldXs <| ldX (off := (k0_off38 ·)) <| stX (off := (k0_off38 ·)) <| gSplit <| gSplit <| sdY (n := fun d =>
    ⟨k0_dev39 d, k0_dev39_lt d⟩) (off := (k0_off39 ·)) <| H

/-- Part 56 of the body: its 4 steps. -/
theorem part56_ok {v20 : BitVec 32} {Q : α → sProp 𝕄} {k} (H : Tr a b K c (l) (k ⟨⟩) Q) :
    Tr a b K c (.send (mZ2 1 1) :: .wait 67 :: .wait 71 :: .wait 68 :: l)
      (k0_part56 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v20 >>= k) Q := by
  rw [k0_part56_eq_skeleton]
  unfold k0_part56_skel
  simp only [semSignalWord, semWaitWord, Prog.lift, Prog.bind_op, Prog.bind_ret, Prog.pure_eq_ret]
  exact sdY (n := fun d => ⟨k0_dev40 d, k0_dev40_lt d⟩) (off := (k0_off40 ·)) <| wtG <| wtG <| wtG <| H

/-- Part 57 of the body: its 7 steps. -/
theorem part57_ok {v3 v8 v17 v59 : BitVec 32} {Q : α → sProp 𝕄} {k} (H : ∀ w1 : BitVec 32, Tr a b K c (l) (k w1) Q) :
    Tr a b K c (.wait 72 :: .halve (out 0 0 0 3 0 1 7 0) :: .join (out 0 0 0 3 0 2 7 2) :: .halve (out 0 0 1 3 0 1 7 0) :: .join (out 0 0 1 3 0 2 7 2) :: .send (mG1 0
      0) :: .send (mG1 0 1) :: l)
      (k0_part57 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v17 v59 >>= k) Q := by
  rw [k0_part57_eq_skeleton]
  unfold k0_part57_skel
  simp only [semSignalWord, semWaitWord, Prog.lift, Prog.bind_op, Prog.bind_ret, Prog.pure_eq_ret]
  exact wtG <| gHalve <| gJoin <| gHalve <| gJoin <| sdG (n := fun d => ⟨k0_dev41 d, k0_dev41_lt d⟩) (off := (k0_off41 ·)) <| sdG (n := fun d =>
    ⟨k0_dev42 d, k0_dev42_lt d⟩) (off := (k0_off42 ·)) <| (H _)

/-- Part 58 of the body: its 3 steps. -/
theorem part58_ok {v3 v12 v59 v1420 : BitVec 32} {Q : α → sProp 𝕄} {k} (H : Tr a b K c (l) (k ⟨⟩) Q) :
    Tr a b K c (.send (mAG 0 1 0) :: .send (mAG 0 4 0) :: .wait 83 :: l)
      (k0_part58 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v59 v1420 >>= k) Q := by
  rw [k0_part58_eq_skeleton]
  unfold k0_part58_skel
  simp only [semSignalWord, semWaitWord, Prog.lift, Prog.bind_op, Prog.bind_ret, Prog.pure_eq_ret]
  exact sdG (n := fun d => ⟨k0_dev43 d, k0_dev43_lt d⟩) (off := (k0_off43 · 0#32)) <| sdG (n := fun d => ⟨k0_dev44 d, k0_dev44_lt d⟩) (off :=
    (k0_off44 · 0#32)) <| wtG <| H

/-- Part 59 of the body: its 4 steps. -/
theorem part59_ok {v3 v8 v55 : BitVec 32} {Q : α → sProp 𝕄} {k} (H : Tr a b K c (l) (k ⟨⟩) Q) :
    Tr a b K c (.wait 119 :: .split (out 1 0 0 1 0 2 0 0) :: .send (mAG 0 0 1) :: .wait 92 :: l)
      (k0_part59 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v55 >>= k) Q := by
  rw [k0_part59_eq_skeleton]
  unfold k0_part59_skel
  simp only [semSignalWord, semWaitWord, Prog.lift, Prog.bind_op, Prog.bind_ret, Prog.pure_eq_ret]
  exact wtG <| gSplit <| sdG (n := fun d => ⟨k0_dev45 d, k0_dev45_lt d⟩) (off := (k0_off33 · 1#32)) <| wtG <| H

/-- Part 60 of the body: its 3 steps. -/
theorem part60_ok {v3 v12 v55 : BitVec 32} {Q : α → sProp 𝕄} {k} (H : Tr a b K c (l) (k ⟨⟩) Q) :
    Tr a b K c (.wait 128 :: .split (out 2 0 1 1 0 2 0 0) :: .send (mAG 0 3 1) :: l)
      (k0_part60 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v55 >>= k) Q := by
  rw [k0_part60_eq_skeleton]
  unfold k0_part60_skel
  simp only [semSignalWord, semWaitWord, Prog.lift, Prog.bind_op, Prog.bind_ret, Prog.pure_eq_ret]
  exact wtG <| gSplit <| sdG (n := fun d => ⟨k0_dev46 d, k0_dev46_lt d⟩) (off := (k0_off34 · 1#32)) <| H

/-- Part 61 of the body: its 3 steps. -/
theorem part61_ok {v3 v8 v59 : BitVec 32} {Q : α → sProp 𝕄} {k} (H : Tr a b K c (l) (k ⟨⟩) Q) :
    Tr a b K c (.wait 86 :: .wait 122 :: .send (mAG 0 1 1) :: l)
      (k0_part61 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v59 >>= k) Q := by
  rw [k0_part61_eq_skeleton]
  unfold k0_part61_skel
  simp only [semSignalWord, semWaitWord, Prog.lift, Prog.bind_op, Prog.bind_ret, Prog.pure_eq_ret]
  exact wtG <| wtG <| sdG (n := fun d => ⟨k0_dev47 d, k0_dev47_lt d⟩) (off := (k0_off43 · 1#32)) <| H

/-- Part 62 of the body: its 3 steps. -/
theorem part62_ok {v3 v12 v59 : BitVec 32} {Q : α → sProp 𝕄} {k} (H : Tr a b K c (l) (k ⟨⟩) Q) :
    Tr a b K c (.wait 95 :: .wait 131 :: .send (mAG 0 4 1) :: l)
      (k0_part62 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v59 >>= k) Q := by
  rw [k0_part62_eq_skeleton]
  unfold k0_part62_skel
  simp only [semSignalWord, semWaitWord, Prog.lift, Prog.bind_op, Prog.bind_ret, Prog.pure_eq_ret]
  exact wtG <| wtG <| sdG (n := fun d => ⟨k0_dev48 d, k0_dev48_lt d⟩) (off := (k0_off44 · 1#32)) <| H

/-- Part 63 of the body: its 4 steps. -/
theorem part63_ok {v3 v8 v55 : BitVec 32} {Q : α → sProp 𝕄} {k} (H : Tr a b K c (l) (k ⟨⟩) Q) :
    Tr a b K c (.wait 84 :: .wait 120 :: .split (out 1 0 0 2 0 2 0 0) :: .send (mAG 0 0 2) :: l)
      (k0_part63 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v55 >>= k) Q := by
  rw [k0_part63_eq_skeleton]
  unfold k0_part63_skel
  simp only [semSignalWord, semWaitWord, Prog.lift, Prog.bind_op, Prog.bind_ret, Prog.pure_eq_ret]
  exact wtG <| wtG <| gSplit <| sdG (n := fun d => ⟨k0_dev49 d, k0_dev49_lt d⟩) (off := (k0_off33 · 2#32)) <| H

/-- Part 64 of the body: its 2 steps. -/
theorem part64_ok {v3 v12 v55 : BitVec 32} {Q : α → sProp 𝕄} {k} (H : Tr a b K c (l) (k ⟨⟩) Q) :
    Tr a b K c (.wait 93 :: .wait 129 :: l)
      (k0_part64 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v55 >>= k) Q := by
  rw [k0_part64_eq_skeleton]
  unfold k0_part64_skel
  simp only [semSignalWord, semWaitWord, Prog.lift, Prog.bind_op, Prog.bind_ret, Prog.pure_eq_ret]
  exact wtG <| wtG <| H

/-- Part 65 of the body: its 5 steps. -/
theorem part65_ok {v20 v50 : BitVec 32} {Q : α → sProp 𝕄} {k} (H : Tr a b K c (l) (k ⟨⟩) Q) :
    Tr a b K c (.split (out 2 0 1 2 0 2 0 0) :: .send (mAG 0 3 2) :: .wait 61 :: .wait 65 :: .addY 1 0 :: l)
      (k0_part65 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v20 v50 >>= k) Q := by
  rw [k0_part65_eq_skeleton]
  unfold k0_part65_skel
  simp only [semSignalWord, semWaitWord, Prog.lift, Prog.bind_op, Prog.bind_ret, Prog.pure_eq_ret]
  exact gSplit <| sdG (n := fun d => ⟨k0_dev50 d, k0_dev50_lt d⟩) (off := (k0_off34 · 2#32)) <| wt <| wt <| ldY (off := (k0_off45 ·)) <| ldYs <| ldY
    (off := (k0_off45 ·)) <| stY (off := (k0_off45 ·)) <| H

/-- Part 66 of the body: its 4 steps. -/
theorem part66_ok {v20 v50 v52 : BitVec 32} {Q : α → sProp 𝕄} {k} (H : Tr a b K c (l) (k ⟨⟩) Q) :
    Tr a b K c (.wait 62 :: .wait 66 :: .addY 1 1 :: .act 1 0 :: l)
      (k0_part66 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v20 v50 v52 >>= k) Q := by
  rw [k0_part66_eq_skeleton]
  unfold k0_part66_skel
  simp only [semSignalWord, semWaitWord, Prog.lift, Prog.bind_op, Prog.bind_ret, Prog.pure_eq_ret]
  exact wt <| wt <| ldY (off := (k0_off46 ·)) <| ldYs <| ldY (off := (k0_off46 ·)) <| stY (off := (k0_off46 ·)) <| ldA (off := (k0_off45 ·)) <| ldA
    (off := (k0_off45 ·)) <| stA (off := (k0_off45 ·)) <| H

/-- Part 67 of the body: its 5 steps. -/
theorem part67_ok {v3 v8 v52 v55 : BitVec 32} {Q : α → sProp 𝕄} {k} (H : ∀ w1 w2 : BitVec 32, Tr a b K c (l) (k ⟨w1, w2⟩) Q) :
    Tr a b K c (.act 1 1 :: .halve (out 0 1 0 3 0 0 7 0) :: .halve (out 0 1 1 3 0 0 7 0) :: .split (out 1 1 0 0 0 2 0 0) :: .send (mAG 1 0 0) :: l)
      (k0_part67 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v52 v55 >>= k) Q := by
  rw [k0_part67_eq_skeleton]
  unfold k0_part67_skel
  simp only [semSignalWord, semWaitWord, Prog.lift, Prog.bind_op, Prog.bind_ret, Prog.pure_eq_ret]
  exact ldA (off := (k0_off46 ·)) <| ldA (off := (k0_off46 ·)) <| stA (off := (k0_off46 ·)) <| gHalve <| gHalve <| gSplit <| sdG (n := fun d =>
    ⟨k0_dev51 d, k0_dev51_lt d⟩) (off := (k0_off47 · 0#32)) <| (H _ _)

/-- Part 68 of the body: its 4 steps. -/
theorem part68_ok {v12 v20 v55 v1678 c192_i32_2147 : BitVec 32} {Q : α → sProp 𝕄} {k} (H : Tr a b K c (l) (k ⟨⟩) Q) :
    Tr a b K c (.split (out 2 1 1 0 0 2 0 0) :: .send (mAG 1 3 0) :: .send (mG2 1 0) :: .send (mG2 1 1) :: l)
      (k0_part68 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v12 v20 v55 v1678 c192_i32_2147 >>= k) Q := by
  rw [k0_part68_eq_skeleton]
  unfold k0_part68_skel
  simp only [semSignalWord, semWaitWord, Prog.lift, Prog.bind_op, Prog.bind_ret, Prog.pure_eq_ret]
  exact gSplit <| sdG (n := fun d => ⟨k0_dev52 d, k0_dev52_lt d⟩) (off := (k0_off48 · 0#32)) <| sdG (n := fun d => ⟨k0_dev53 d, k0_dev53_lt d⟩) (off
    := (k0_off49 ·)) <| sdG (n := fun d => ⟨k0_dev54 d, k0_dev54_lt d⟩) (off := (k0_off50 ·)) <| H

/-- Part 69 of the body: its 4 steps. -/
theorem part69_ok {v3 v17 : BitVec 32} {Q : α → sProp 𝕄} {k} (H : ∀ w1 w2 : BitVec 32, Tr a b K c (l) (k ⟨w1, w2⟩) Q) :
    Tr a b K c (.wait 75 :: .wait 79 :: .wait 76 :: .wait 80 :: l)
      (k0_part69 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v17 >>= k) Q := by
  rw [k0_part69_eq_skeleton]
  unfold k0_part69_skel
  simp only [semSignalWord, semWaitWord, Prog.lift, Prog.bind_op, Prog.bind_ret, Prog.pure_eq_ret]
  exact wtG <| wtG <| wtG <| wtG <| (H _ _)

/-- Part 70 of the body: its 2 steps. -/
theorem part70_ok {v3 v8 v12 v61 v1729 c0_i32_2209 : BitVec 32} {Q : α → sProp 𝕄} {k} (H : Tr a b K c (l) (k ⟨⟩) Q) :
    Tr a b K c (.send (mAG 0 2 0) :: .send (mAG 0 5 0) :: l)
      (k0_part70 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v61 v1729 c0_i32_2209 >>= k) Q := by
  rw [k0_part70_eq_skeleton]
  unfold k0_part70_skel
  simp only [semSignalWord, semWaitWord, Prog.lift, Prog.bind_op, Prog.bind_ret, Prog.pure_eq_ret]
  exact sdG (n := fun d => ⟨k0_dev55 d, k0_dev55_lt d⟩) (off := (k0_off51 · 0#32)) <| sdG (n := fun d => ⟨k0_dev56 d, k0_dev56_lt d⟩) (off :=
    (k0_off52 · 0#32)) <| H

/-- Part 71 of the body: its 3 steps. -/
theorem part71_ok {v3 v8 v59 : BitVec 32} {Q : α → sProp 𝕄} {k} (H : Tr a b K c (l) (k ⟨⟩) Q) :
    Tr a b K c (.wait 87 :: .wait 123 :: .send (mAG 0 1 2) :: l)
      (k0_part71 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v59 >>= k) Q := by
  rw [k0_part71_eq_skeleton]
  unfold k0_part71_skel
  simp only [semSignalWord, semWaitWord, Prog.lift, Prog.bind_op, Prog.bind_ret, Prog.pure_eq_ret]
  exact wtG <| wtG <| sdG (n := fun d => ⟨k0_dev57 d, k0_dev57_lt d⟩) (off := (k0_off43 · 2#32)) <| H

/-- Part 72 of the body: its 3 steps. -/
theorem part72_ok {v3 v12 v59 : BitVec 32} {Q : α → sProp 𝕄} {k} (H : Tr a b K c (l) (k ⟨⟩) Q) :
    Tr a b K c (.wait 96 :: .wait 132 :: .send (mAG 0 4 2) :: l)
      (k0_part72 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v59 >>= k) Q := by
  rw [k0_part72_eq_skeleton]
  unfold k0_part72_skel
  simp only [semSignalWord, semWaitWord, Prog.lift, Prog.bind_op, Prog.bind_ret, Prog.pure_eq_ret]
  exact wtG <| wtG <| sdG (n := fun d => ⟨k0_dev58 d, k0_dev58_lt d⟩) (off := (k0_off44 · 2#32)) <| H

/-- Part 73 of the body: its 3 steps. -/
theorem part73_ok {v8 v12 : BitVec 32} {Q : α → sProp 𝕄} {k} (H : Tr a b K c (l) (k ⟨⟩) Q) :
    Tr a b K c (.wait 85 :: .wait 121 :: .wait 94 :: l)
      (k0_part73 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v12 >>= k) Q := by
  rw [k0_part73_eq_skeleton]
  unfold k0_part73_skel
  simp only [semSignalWord, semWaitWord, Prog.lift, Prog.bind_op, Prog.bind_ret, Prog.pure_eq_ret]
  exact wtG <| wtG <| wtG <| H

/-- Part 74 of the body: its 3 steps. -/
theorem part74_ok {v3 v8 v61 : BitVec 32} {Q : α → sProp 𝕄} {k} (H : Tr a b K c (l) (k ⟨⟩) Q) :
    Tr a b K c (.wait 130 :: .wait 89 :: .wait 125 :: l)
      (k0_part74 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v61 >>= k) Q := by
  rw [k0_part74_eq_skeleton]
  unfold k0_part74_skel
  simp only [semSignalWord, semWaitWord, Prog.lift, Prog.bind_op, Prog.bind_ret, Prog.pure_eq_ret]
  exact wtG <| wtG <| wtG <| H

/-- Part 75 of the body: its 3 steps. -/
theorem part75_ok {v3 v12 v61 : BitVec 32} {Q : α → sProp 𝕄} {k} (H : Tr a b K c (l) (k ⟨⟩) Q) :
    Tr a b K c (.send (mAG 0 2 1) :: .wait 98 :: .wait 134 :: l)
      (k0_part75 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v61 >>= k) Q := by
  rw [k0_part75_eq_skeleton]
  unfold k0_part75_skel
  simp only [semSignalWord, semWaitWord, Prog.lift, Prog.bind_op, Prog.bind_ret, Prog.pure_eq_ret]
  exact sdG (n := fun d => ⟨k0_dev59 d, k0_dev59_lt d⟩) (off := (k0_off51 · 1#32)) <| wtG <| wtG <| H

end Cert.Prot
end
end
-- ==== Proof.Body4.lean ====
/-
# The body, stretch 4

The gathering, last stretch. Each part of the printed body runs its own abstract steps: given the rest of the program from the steps that
remain, the part and the rest run from the steps of both.
-/
module

public import proofs.«01_k».proof.Proof.Copies

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {a : Dev nD → Vec F S1536x768 .f32} {b : Dev nD → Vec F S768x1536 .f32}
variable {K : Dev nD × ℕ → ℕ} {c : Dev nD} {α : Type} {l : List Op}

/-- Part 76 of the body: its 4 steps. -/
theorem part76_ok {v8 v12 : BitVec 32} {Q : α → sProp 𝕄} {k} (H : ∀ w1 : BitVec 32, Tr a b K c (l) (k w1) Q) :
    Tr a b K c (.send (mAG 0 5 1) :: .wait 88 :: .wait 124 :: .wait 97 :: l)
      (k0_part76 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v12 >>= k) Q := by
  rw [k0_part76_eq_skeleton]
  unfold k0_part76_skel
  simp only [semSignalWord, semWaitWord, Prog.lift, Prog.bind_op, Prog.bind_ret, Prog.pure_eq_ret]
  exact sdG (n := fun d => ⟨k0_dev60 d, k0_dev60_lt d⟩) (off := (k0_off52 · 1#32)) <| wtG <| wtG <| wtG <| (H _)

/-- Part 77 of the body: its 3 steps. -/
theorem part77_ok {v3 v8 v61 v1889 : BitVec 32} {Q : α → sProp 𝕄} {k} (H : ∀ w1 : BitVec 32, Tr a b K c (l) (k w1) Q) :
    Tr a b K c (.wait 133 :: .wait 90 :: .wait 126 :: l)
      (k0_part77 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v61 v1889 >>= k) Q := by
  rw [k0_part77_eq_skeleton]
  unfold k0_part77_skel
  simp only [semSignalWord, semWaitWord, Prog.lift, Prog.bind_op, Prog.bind_ret, Prog.pure_eq_ret]
  exact wtG <| wtG <| wtG <| (H _)

/-- Part 78 of the body: its 3 steps. -/
theorem part78_ok {v3 v8 v12 v61 c1_i32_2482 : BitVec 32} {Q : α → sProp 𝕄} {k} (H : Tr a b K c (l) (k ⟨⟩) Q) :
    Tr a b K c (.send (mAG 0 2 2) :: .wait 99 :: .wait 135 :: l)
      (k0_part78 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v61 c1_i32_2482 >>= k) Q := by
  rw [k0_part78_eq_skeleton]
  unfold k0_part78_skel
  simp only [semSignalWord, semWaitWord, Prog.lift, Prog.bind_op, Prog.bind_ret, Prog.pure_eq_ret]
  exact sdG (n := fun d => ⟨k0_dev61 d, k0_dev61_lt d⟩) (off := (k0_off51 · 2#32)) <| wtG <| wtG <| H

/-- Part 79 of the body: its 4 steps. -/
theorem part79_ok {v8 v12 : BitVec 32} {Q : α → sProp 𝕄} {k} (H : Tr a b K c (l) (k ⟨⟩) Q) :
    Tr a b K c (.send (mAG 0 5 2) :: .wait 91 :: .wait 127 :: .wait 100 :: l)
      (k0_part79 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v12 >>= k) Q := by
  rw [k0_part79_eq_skeleton]
  unfold k0_part79_skel
  simp only [semSignalWord, semWaitWord, Prog.lift, Prog.bind_op, Prog.bind_ret, Prog.pure_eq_ret]
  exact sdG (n := fun d => ⟨k0_dev62 d, k0_dev62_lt d⟩) (off := (k0_off52 · 2#32)) <| wtG <| wtG <| wtG <| H

/-- Part 80 of the body: its 4 steps. -/
theorem part80_ok {v12 v20 : BitVec 32} {Q : α → sProp 𝕄} {k} (H : Tr a b K c (l) (k ⟨⟩) Q) :
    Tr a b K c (.wait 136 :: .wait 69 :: .wait 73 :: .wait 70 :: l)
      (k0_part80 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v12 v20 >>= k) Q := by
  rw [k0_part80_eq_skeleton]
  unfold k0_part80_skel
  simp only [semSignalWord, semWaitWord, Prog.lift, Prog.bind_op, Prog.bind_ret, Prog.pure_eq_ret]
  exact wtG <| wtG <| wtG <| wtG <| H

/-- Part 81 of the body: its 7 steps. -/
theorem part81_ok {v3 v17 v20 v59 : BitVec 32} {Q : α → sProp 𝕄} {k} (H : Tr a b K c (l) (k ⟨⟩) Q) :
    Tr a b K c (.wait 74 :: .halve (out 0 1 0 3 0 1 7 0) :: .join (out 0 1 0 3 0 2 7 2) :: .halve (out 0 1 1 3 0 1 7 0) :: .join (out 0 1 1 3 0 2 7 2) :: .send (mG1 1
      0) :: .send (mG1 1 1) :: l)
      (k0_part81 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v17 v20 v59 >>= k) Q := by
  rw [k0_part81_eq_skeleton]
  unfold k0_part81_skel
  simp only [semSignalWord, semWaitWord, Prog.lift, Prog.bind_op, Prog.bind_ret, Prog.pure_eq_ret]
  exact wtG <| gHalve <| gJoin <| gHalve <| gJoin <| sdG (n := fun d => ⟨k0_dev63 d, k0_dev63_lt d⟩) (off := (k0_off53 ·)) <| sdG (n := fun d =>
    ⟨k0_dev64 d, k0_dev64_lt d⟩) (off := (k0_off54 ·)) <| H

/-- Part 82 of the body: its 2 steps. -/
theorem part82_ok {v3 v8 v12 v59 : BitVec 32} {Q : α → sProp 𝕄} {k} (H : Tr a b K c (l) (k ⟨⟩) Q) :
    Tr a b K c (.send (mAG 1 1 0) :: .send (mAG 1 4 0) :: l)
      (k0_part82 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v59 >>= k) Q := by
  rw [k0_part82_eq_skeleton]
  unfold k0_part82_skel
  simp only [semSignalWord, semWaitWord, Prog.lift, Prog.bind_op, Prog.bind_ret, Prog.pure_eq_ret]
  exact sdG (n := fun d => ⟨k0_dev65 d, k0_dev65_lt d⟩) (off := (k0_off55 · 0#32)) <| sdG (n := fun d => ⟨k0_dev66 d, k0_dev66_lt d⟩) (off :=
    (k0_off56 · 0#32)) <| H

/-- Part 83 of the body: its 4 steps. -/
theorem part83_ok {v3 v8 v55 : BitVec 32} {Q : α → sProp 𝕄} {k} (H : Tr a b K c (l) (k ⟨⟩) Q) :
    Tr a b K c (.wait 101 :: .wait 137 :: .split (out 1 1 0 1 0 2 0 0) :: .send (mAG 1 0 1) :: l)
      (k0_part83 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v55 >>= k) Q := by
  rw [k0_part83_eq_skeleton]
  unfold k0_part83_skel
  simp only [semSignalWord, semWaitWord, Prog.lift, Prog.bind_op, Prog.bind_ret, Prog.pure_eq_ret]
  exact wtG <| wtG <| gSplit <| sdG (n := fun d => ⟨k0_dev67 d, k0_dev67_lt d⟩) (off := (k0_off47 · 1#32)) <| H

/-- Part 84 of the body: its 4 steps. -/
theorem part84_ok {v3 v12 v55 : BitVec 32} {Q : α → sProp 𝕄} {k} (H : Tr a b K c (l) (k ⟨⟩) Q) :
    Tr a b K c (.wait 110 :: .wait 146 :: .split (out 2 1 1 1 0 2 0 0) :: .send (mAG 1 3 1) :: l)
      (k0_part84 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v55 >>= k) Q := by
  rw [k0_part84_eq_skeleton]
  unfold k0_part84_skel
  simp only [semSignalWord, semWaitWord, Prog.lift, Prog.bind_op, Prog.bind_ret, Prog.pure_eq_ret]
  exact wtG <| wtG <| gSplit <| sdG (n := fun d => ⟨k0_dev68 d, k0_dev68_lt d⟩) (off := (k0_off48 · 1#32)) <| H

/-- Part 85 of the body: its 3 steps. -/
theorem part85_ok {v3 v8 v59 : BitVec 32} {Q : α → sProp 𝕄} {k} (H : Tr a b K c (l) (k ⟨⟩) Q) :
    Tr a b K c (.wait 104 :: .wait 140 :: .send (mAG 1 1 1) :: l)
      (k0_part85 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v59 >>= k) Q := by
  rw [k0_part85_eq_skeleton]
  unfold k0_part85_skel
  simp only [semSignalWord, semWaitWord, Prog.lift, Prog.bind_op, Prog.bind_ret, Prog.pure_eq_ret]
  exact wtG <| wtG <| sdG (n := fun d => ⟨k0_dev69 d, k0_dev69_lt d⟩) (off := (k0_off55 · 1#32)) <| H

/-- Part 86 of the body: its 2 steps. -/
theorem part86_ok {v3 v12 v59 : BitVec 32} {Q : α → sProp 𝕄} {k} (H : Tr a b K c (l) (k ⟨⟩) Q) :
    Tr a b K c (.wait 113 :: .wait 149 :: l)
      (k0_part86 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v59 >>= k) Q := by
  rw [k0_part86_eq_skeleton]
  unfold k0_part86_skel
  simp only [semSignalWord, semWaitWord, Prog.lift, Prog.bind_op, Prog.bind_ret, Prog.pure_eq_ret]
  exact wtG <| wtG <| H

/-- Part 87 of the body: its 3 steps. -/
theorem part87_ok {v3 v8 v55 : BitVec 32} {Q : α → sProp 𝕄} {k} (H : Tr a b K c (l) (k ⟨⟩) Q) :
    Tr a b K c (.send (mAG 1 4 1) :: .wait 102 :: .wait 138 :: l)
      (k0_part87 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v55 >>= k) Q := by
  rw [k0_part87_eq_skeleton]
  unfold k0_part87_skel
  simp only [semSignalWord, semWaitWord, Prog.lift, Prog.bind_op, Prog.bind_ret, Prog.pure_eq_ret]
  exact sdG (n := fun d => ⟨k0_dev70 d, k0_dev70_lt d⟩) (off := (k0_off56 · 1#32)) <| wtG <| wtG <| H

/-- Part 88 of the body: its 4 steps. -/
theorem part88_ok {v3 v12 v55 : BitVec 32} {Q : α → sProp 𝕄} {k} (H : Tr a b K c (l) (k ⟨⟩) Q) :
    Tr a b K c (.split (out 1 1 0 2 0 2 0 0) :: .send (mAG 1 0 2) :: .wait 111 :: .wait 147 :: l)
      (k0_part88 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v55 >>= k) Q := by
  rw [k0_part88_eq_skeleton]
  unfold k0_part88_skel
  simp only [semSignalWord, semWaitWord, Prog.lift, Prog.bind_op, Prog.bind_ret, Prog.pure_eq_ret]
  exact gSplit <| sdG (n := fun d => ⟨k0_dev71 d, k0_dev71_lt d⟩) (off := (k0_off47 · 2#32)) <| wtG <| wtG <| H

/-- Part 89 of the body: its 5 steps. -/
theorem part89_ok {v17 : BitVec 32} {Q : α → sProp 𝕄} {k} (H : Tr a b K c (l) (k ⟨⟩) Q) :
    Tr a b K c (.split (out 2 1 1 2 0 2 0 0) :: .send (mAG 1 3 2) :: .wait 77 :: .wait 81 :: .wait 78 :: l)
      (k0_part89 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v17 >>= k) Q := by
  rw [k0_part89_eq_skeleton]
  unfold k0_part89_skel
  simp only [semSignalWord, semWaitWord, Prog.lift, Prog.bind_op, Prog.bind_ret, Prog.pure_eq_ret]
  exact gSplit <| sdG (n := fun d => ⟨k0_dev72 d, k0_dev72_lt d⟩) (off := (k0_off48 · 2#32)) <| wtG <| wtG <| wtG <| H

/-- Part 90 of the body: its 2 steps. -/
theorem part90_ok {v3 v8 v12 v61 : BitVec 32} {Q : α → sProp 𝕄} {k} (H : Tr a b K c (l) (k ⟨⟩) Q) :
    Tr a b K c (.wait 82 :: .send (mAG 1 2 0) :: l)
      (k0_part90 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v61 >>= k) Q := by
  rw [k0_part90_eq_skeleton]
  unfold k0_part90_skel
  simp only [semSignalWord, semWaitWord, Prog.lift, Prog.bind_op, Prog.bind_ret, Prog.pure_eq_ret]
  exact wtG <| sdG (n := fun d => ⟨k0_dev73 d, k0_dev73_lt d⟩) (off := (k0_off57 · 0#32)) <| H

/-- Part 91 of the body: its 3 steps. -/
theorem part91_ok {v3 v8 v59 : BitVec 32} {Q : α → sProp 𝕄} {k} (H : Tr a b K c (l) (k ⟨⟩) Q) :
    Tr a b K c (.send (mAG 1 5 0) :: .wait 105 :: .wait 141 :: l)
      (k0_part91 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v59 >>= k) Q := by
  rw [k0_part91_eq_skeleton]
  unfold k0_part91_skel
  simp only [semSignalWord, semWaitWord, Prog.lift, Prog.bind_op, Prog.bind_ret, Prog.pure_eq_ret]
  exact sdG (n := fun d => ⟨k0_dev74 d, k0_dev74_lt d⟩) (off := (k0_off58 · 0#32)) <| wtG <| wtG <| H

/-- Part 92 of the body: its 3 steps. -/
theorem part92_ok {v3 v12 v59 : BitVec 32} {Q : α → sProp 𝕄} {k} (H : ∀ w1 : BitVec 32, Tr a b K c (l) (k w1) Q) :
    Tr a b K c (.send (mAG 1 1 2) :: .wait 114 :: .wait 150 :: l)
      (k0_part92 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v12 v59 >>= k) Q := by
  rw [k0_part92_eq_skeleton]
  unfold k0_part92_skel
  simp only [semSignalWord, semWaitWord, Prog.lift, Prog.bind_op, Prog.bind_ret, Prog.pure_eq_ret]
  exact sdG (n := fun d => ⟨k0_dev75 d, k0_dev75_lt d⟩) (off := (k0_off55 · 2#32)) <| wtG <| wtG <| (H _)

/-- Part 93 of the body: its 4 steps. -/
theorem part93_ok {v8 v2273 : BitVec 32} {Q : α → sProp 𝕄} {k} (H : Tr a b K c (l) (k ⟨⟩) Q) :
    Tr a b K c (.send (mAG 1 4 2) :: .wait 103 :: .wait 139 :: .wait 112 :: l)
      (k0_part93 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v2273 >>= k) Q := by
  rw [k0_part93_eq_skeleton]
  unfold k0_part93_skel
  simp only [semSignalWord, semWaitWord, Prog.lift, Prog.bind_op, Prog.bind_ret, Prog.pure_eq_ret]
  exact sdG (n := fun d => ⟨k0_dev76 d, k0_dev76_lt d⟩) (off := (k0_off56 · 2#32)) <| wtG <| wtG <| wtG <| H

/-- Part 94 of the body: its 3 steps. -/
theorem part94_ok {v3 v8 v12 v61 : BitVec 32} {Q : α → sProp 𝕄} {k} (H : Tr a b K c (l) (k ⟨⟩) Q) :
    Tr a b K c (.wait 148 :: .wait 107 :: .wait 143 :: l)
      (k0_part94 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v61 >>= k) Q := by
  rw [k0_part94_eq_skeleton]
  unfold k0_part94_skel
  simp only [semSignalWord, semWaitWord, Prog.lift, Prog.bind_op, Prog.bind_ret, Prog.pure_eq_ret]
  exact wtG <| wtG <| wtG <| H

/-- Part 95 of the body: its 3 steps. -/
theorem part95_ok {v3 v8 v12 v61 : BitVec 32} {Q : α → sProp 𝕄} {k} (H : Tr a b K c (l) (k ⟨⟩) Q) :
    Tr a b K c (.send (mAG 1 2 1) :: .wait 116 :: .wait 152 :: l)
      (k0_part95 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v61 >>= k) Q := by
  rw [k0_part95_eq_skeleton]
  unfold k0_part95_skel
  simp only [semSignalWord, semWaitWord, Prog.lift, Prog.bind_op, Prog.bind_ret, Prog.pure_eq_ret]
  exact sdG (n := fun d => ⟨k0_dev77 d, k0_dev77_lt d⟩) (off := (k0_off57 · 1#32)) <| wtG <| wtG <| H

/-- Part 96 of the body: its 3 steps. -/
theorem part96_ok {v8 v12 : BitVec 32} {Q : α → sProp 𝕄} {k} (H : Tr a b K c (l) (k ⟨⟩) Q) :
    Tr a b K c (.send (mAG 1 5 1) :: .wait 106 :: .wait 142 :: l)
      (k0_part96 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v12 >>= k) Q := by
  rw [k0_part96_eq_skeleton]
  unfold k0_part96_skel
  simp only [semSignalWord, semWaitWord, Prog.lift, Prog.bind_op, Prog.bind_ret, Prog.pure_eq_ret]
  exact sdG (n := fun d => ⟨k0_dev78 d, k0_dev78_lt d⟩) (off := (k0_off58 · 1#32)) <| wtG <| wtG <| H

/-- Part 97 of the body: its 4 steps. -/
theorem part97_ok {v3 v8 v12 : BitVec 32} {Q : α → sProp 𝕄} {k} (H : ∀ w1 : BitVec 32, Tr a b K c (l) (k w1) Q) :
    Tr a b K c (.wait 115 :: .wait 151 :: .wait 108 :: .wait 144 :: l)
      (k0_part97 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 >>= k) Q := by
  rw [k0_part97_eq_skeleton]
  unfold k0_part97_skel
  simp only [semSignalWord, semWaitWord, Prog.lift, Prog.bind_op, Prog.bind_ret, Prog.pure_eq_ret]
  exact wtG <| wtG <| wtG <| wtG <| (H _)

/-- Part 98 of the body: its 3 steps. -/
theorem part98_ok {v3 v8 v12 v61 v2384 : BitVec 32} {Q : α → sProp 𝕄} {k} (H : ∀ w1 w2 : BitVec 32, Tr a b K c (l) (k ⟨w1, w2⟩) Q) :
    Tr a b K c (.send (mAG 1 2 2) :: .wait 117 :: .wait 153 :: l)
      (k0_part98 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v3 v8 v12 v61 v2384 >>= k) Q := by
  rw [k0_part98_eq_skeleton]
  unfold k0_part98_skel
  simp only [semSignalWord, semWaitWord, Prog.lift, Prog.bind_op, Prog.bind_ret, Prog.pure_eq_ret]
  exact sdG (n := fun d => ⟨k0_dev79 d, k0_dev79_lt d⟩) (off := (k0_off57 · 2#32)) <| wtG <| wtG <| (H _ _)

/-- Part 99 of the body: its 3 steps. -/
theorem part99_ok {v8 v12 v61 v2407 c4_i32_3181 : BitVec 32} {Q : α → sProp 𝕄} {k} (H : Tr a b K c (l) (k ⟨⟩) Q) :
    Tr a b K c (.send (mAG 1 5 2) :: .wait 109 :: .wait 145 :: l)
      (k0_part99 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c v8 v12 v61 v2407 c4_i32_3181 >>= k) Q := by
  rw [k0_part99_eq_skeleton]
  unfold k0_part99_skel
  simp only [semSignalWord, semWaitWord, Prog.lift, Prog.bind_op, Prog.bind_ret, Prog.pure_eq_ret]
  exact sdG (n := fun d => ⟨k0_dev80 d, k0_dev80_lt d⟩) (off := (k0_off58 · 2#32)) <| wtG <| wtG <| H

end Cert.Prot
end
end
-- ==== Proof.Body.lean ====
/-
# The whole body

The parts run one after the other: from the invariant over all the abstract steps the body ends with none left.
-/
module

public import proofs.«01_k».proof.Proof.Body1
public import proofs.«01_k».proof.Proof.Body2
public import proofs.«01_k».proof.Proof.Body3
public import proofs.«01_k».proof.Proof.Body4

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {a : Dev nD → Vec F S1536x768 .f32} {b : Dev nD → Vec F S768x1536 .f32}
variable {K : Dev nD × ℕ → ℕ} {c : Dev nD} {α : Type} {l : List Op}

/-- Binding twice is binding to a bind. -/
theorem asc {Q : α → sProp 𝕄} {β γ : Type} {p : Prog (TpuEff nD τ sig (Elt F) Λ₀ .tc) β} {f : β → Prog (TpuEff nD τ sig (Elt F) Λ₀ .tc) γ}
    {k : γ → Prog (TpuEff nD τ sig (Elt F) Λ₀ .tc) α} (H : Tr a b K c l (p >>= fun x => f x >>= k) Q) : Tr a b K c l ((p >>= f) >>= k) Q := by
  rw [Prog.bind_assoc]; exact H

/-- The steps of the body's first half. -/
def opsFst : List Op :=
  [.sig 2, .sig 1, .sig 3, .sig 4, .nar, .mm 0, .cut 0, .wait 0, .send (mRS 0 0 0), .send (mRS 0 2 0), .send (mRS 0 1 0), .send
    (mRS 0 3 0), .mm 3, .cut 3, .mm 1, .cut 1, .mm 2, .cut 2, .wait 3, .wait 27, .addR 0 0 0, .send (mRS 0 0 1), .wait 9,
    .wait 33, .addR 0 2 0, .send (mRS 0 2 1), .wait 6, .wait 30, .addR 0 1 0, .send (mRS 0 1 1), .wait 12, .wait 36, .addR 0 3 0,
    .send (mRS 0 3 1), .send (mRS 1 0 0), .send (mRS 1 2 0), .send (mRS 1 1 0), .send (mRS 1 3 0), .wait 4, .wait 28, .addR 0 0 1,
    .send (mRS 0 0 2), .wait 10, .wait 34, .addR 0 2 1, .send (mRS 0 2 2), .wait 7, .wait 31, .addR 0 1 1, .send (mRS 0 1 2), .wait
    13, .wait 37, .addR 0 3 1, .send (mRS 0 3 2), .wait 15, .wait 39, .addR 1 0 0, .send (mRS 1 0 1), .wait 21, .wait 45, .addR 1
    2 0, .send (mRS 1 2 1), .wait 18, .wait 42, .addR 1 1 0, .send (mRS 1 1 1), .wait 24, .wait 48, .addR 1 3 0, .send (mRS 1 3 1)
   , .wait 5, .wait 29, .addR 0 0 2, .wait 11, .wait 35, .addR 0 2 2, .send (mZ1 0 0), .send (mZ1 0 1), .wait 8, .wait 32, .addR
    0 1 2, .wait 14, .wait 38, .addR 0 3 2, .wait 16, .wait 40, .addR 1 0 1, .send (mRS 1 0 2), .wait 22, .wait 46, .addR 1 2 1,
    .send (mRS 1 2 2), .wait 19, .wait 43, .addR 1 1 1, .send (mRS 1 1 2), .wait 25, .wait 49, .addR 1 3 1, .send (mRS 1 3 2), .wait
    51, .wait 55, .addX 0 0, .wait 52, .wait 56, .addX 0 1, .split (out 0 0 0 3 0 2 5 0), .split (out 0 0 1 3 0 2 5 0), .send (mZ2 0
    0), .send (mZ2 0 1), .wait 17, .wait 41, .addR 1 0 2, .wait 23, .wait 47, .addR 1 2 2, .send (mZ1 1 0), .send (mZ1 1 1), .wait
    20, .wait 44, .addR 1 1 2, .wait 26, .wait 50, .addR 1 3 2, .wait 59, .wait 63, .addY 0 0, .wait 60, .wait 64, .addY 0 1,
    .act 0 0, .act 0 1, .halve (out 0 0 0 3 0 0 7 0), .halve (out 0 0 1 3 0 0 7 0), .split (out 1 0 0 0 0 2 0 0), .send (mAG 0 0 0),
    .split (out 2 0 1 0 0 2 0 0), .send (mAG 0 3 0), .send (mG2 0 0), .send (mG2 0 1), .wait 53, .wait 57, .addX 1 0, .wait 54, .wait
    58, .addX 1 1, .split (out 0 1 0 3 0 2 5 0), .split (out 0 1 1 3 0 2 5 0), .send (mZ2 1 0), .send (mZ2 1 1), .wait 67, .wait 71,
    .wait 68, .wait 72, .halve (out 0 0 0 3 0 1 7 0), .join (out 0 0 0 3 0 2 7 2), .halve (out 0 0 1 3 0 1 7 0), .join (out 0 0 1 3 0 2 7 2)
   , .send (mG1 0 0), .send (mG1 0 1), .send (mAG 0 1 0), .send (mAG 0 4 0), .wait 83, .wait 119, .split (out 1 0 0 1 0 2 0 0), .send
    (mAG 0 0 1), .wait 92, .wait 128, .split (out 2 0 1 1 0 2 0 0), .send (mAG 0 3 1)]
/-- The steps of its second half. -/
def opsSnd : List Op :=
  [.wait 86, .wait 122, .send (mAG 0 1 1), .wait 95, .wait 131, .send (mAG 0 4 1), .wait 84, .wait 120, .split (out 1 0 0 2 0 2 0 0),
    .send (mAG 0 0 2), .wait 93, .wait 129, .split (out 2 0 1 2 0 2 0 0), .send (mAG 0 3 2), .wait 61, .wait 65, .addY 1 0, .wait 62
   , .wait 66, .addY 1 1, .act 1 0, .act 1 1, .halve (out 0 1 0 3 0 0 7 0), .halve (out 0 1 1 3 0 0 7 0), .split (out 1 1 0 0 0 2 0 0)
   , .send (mAG 1 0 0), .split (out 2 1 1 0 0 2 0 0), .send (mAG 1 3 0), .send (mG2 1 0), .send (mG2 1 1), .wait 75, .wait 79, .wait
    76, .wait 80, .send (mAG 0 2 0), .send (mAG 0 5 0), .wait 87, .wait 123, .send (mAG 0 1 2), .wait 96, .wait 132, .send (mAG 0 4
    2), .wait 85, .wait 121, .wait 94, .wait 130, .wait 89, .wait 125, .send (mAG 0 2 1), .wait 98, .wait 134, .send (mAG 0 5 1)
   , .wait 88, .wait 124, .wait 97, .wait 133, .wait 90, .wait 126, .send (mAG 0 2 2), .wait 99, .wait 135, .send (mAG 0 5 2),
    .wait 91, .wait 127, .wait 100, .wait 136, .wait 69, .wait 73, .wait 70, .wait 74, .halve (out 0 1 0 3 0 1 7 0), .join (out 0 1
    0 3 0 2 7 2), .halve (out 0 1 1 3 0 1 7 0), .join (out 0 1 1 3 0 2 7 2), .send (mG1 1 0), .send (mG1 1 1), .send (mAG 1 1 0), .send
    (mAG 1 4 0), .wait 101, .wait 137, .split (out 1 1 0 1 0 2 0 0), .send (mAG 1 0 1), .wait 110, .wait 146, .split (out 2 1 1 1 0 2 0
    0), .send (mAG 1 3 1), .wait 104, .wait 140, .send (mAG 1 1 1), .wait 113, .wait 149, .send (mAG 1 4 1), .wait 102, .wait 138,
    .split (out 1 1 0 2 0 2 0 0), .send (mAG 1 0 2), .wait 111, .wait 147, .split (out 2 1 1 2 0 2 0 0), .send (mAG 1 3 2), .wait 77,
    .wait 81, .wait 78, .wait 82, .send (mAG 1 2 0), .send (mAG 1 5 0), .wait 105, .wait 141, .send (mAG 1 1 2), .wait 114, .wait
    150, .send (mAG 1 4 2), .wait 103, .wait 139, .wait 112, .wait 148, .wait 107, .wait 143, .send (mAG 1 2 1), .wait 116, .wait
    152, .send (mAG 1 5 1), .wait 106, .wait 142, .wait 115, .wait 151, .wait 108, .wait 144, .send (mAG 1 2 2), .wait 117, .wait
    153, .send (mAG 1 5 2), .wait 109, .wait 145, .wait 118, .wait 154]

/-- The two halves are the whole list. -/
theorem ops_halves : ops = opsFst ++ opsSnd := by decide +kernel

set_option maxRecDepth 65536 in
/-- The first half of the body. -/
theorem part100_ok {Q : α → sProp 𝕄} {k} (H : ∀ w1 w2 w3 w4 w5 w6 w7 w8 w9 w10 : BitVec 32, Tr a b K c l (k ⟨c, w1, w2, w3, w4, w5, w6, w7, w8, w9, w10⟩) Q) :
    Tr a b K c (opsFst ++ l) (k0_part100 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 >>= k) Q := by
  rw [k0_part100_eq_skeleton]
  unfold k0_part100_skel
  show Tr a b K c (.sig 2 :: .sig 1 :: .sig 3 :: .sig 4 :: .nar :: .mm 0 :: .cut 0 :: .wait 0 :: .send (mRS 0 0 0) :: .send (mRS 0 2 0) :: .send (mRS 0 1 0) :: .send
    (mRS 0 3 0) :: .mm 3 :: .cut 3 :: .mm 1 :: .cut 1 :: .mm 2 :: .cut 2 :: .wait 3 :: .wait 27 :: .addR 0 0 0 :: .send (mRS 0 0 1) :: .wait 9 ::
    .wait 33 :: .addR 0 2 0 :: .send (mRS 0 2 1) :: .wait 6 :: .wait 30 :: .addR 0 1 0 :: .send (mRS 0 1 1) :: .wait 12 :: .wait 36 :: .addR 0 3 0 ::
    .send (mRS 0 3 1) :: .send (mRS 1 0 0) :: .send (mRS 1 2 0) :: .send (mRS 1 1 0) :: .send (mRS 1 3 0) :: .wait 4 :: .wait 28 :: .addR 0 0 1 ::
    .send (mRS 0 0 2) :: .wait 10 :: .wait 34 :: .addR 0 2 1 :: .send (mRS 0 2 2) :: .wait 7 :: .wait 31 :: .addR 0 1 1 :: .send (mRS 0 1 2) :: .wait
    13 :: .wait 37 :: .addR 0 3 1 :: .send (mRS 0 3 2) :: .wait 15 :: .wait 39 :: .addR 1 0 0 :: .send (mRS 1 0 1) :: .wait 21 :: .wait 45 :: .addR 1
    2 0 :: .send (mRS 1 2 1) :: .wait 18 :: .wait 42 :: .addR 1 1 0 :: .send (mRS 1 1 1) :: .wait 24 :: .wait 48 :: .addR 1 3 0 :: .send (mRS 1 3 1)
    :: .wait 5 :: .wait 29 :: .addR 0 0 2 :: .wait 11 :: .wait 35 :: .addR 0 2 2 :: .send (mZ1 0 0) :: .send (mZ1 0 1) :: .wait 8 :: .wait 32 :: .addR
    0 1 2 :: .wait 14 :: .wait 38 :: .addR 0 3 2 :: .wait 16 :: .wait 40 :: .addR 1 0 1 :: .send (mRS 1 0 2) :: .wait 22 :: .wait 46 :: .addR 1 2 1 ::
    .send (mRS 1 2 2) :: .wait 19 :: .wait 43 :: .addR 1 1 1 :: .send (mRS 1 1 2) :: .wait 25 :: .wait 49 :: .addR 1 3 1 :: .send (mRS 1 3 2) :: .wait
    51 :: .wait 55 :: .addX 0 0 :: .wait 52 :: .wait 56 :: .addX 0 1 :: .split (out 0 0 0 3 0 2 5 0) :: .split (out 0 0 1 3 0 2 5 0) :: .send (mZ2 0
    0) :: .send (mZ2 0 1) :: .wait 17 :: .wait 41 :: .addR 1 0 2 :: .wait 23 :: .wait 47 :: .addR 1 2 2 :: .send (mZ1 1 0) :: .send (mZ1 1 1) :: .wait
    20 :: .wait 44 :: .addR 1 1 2 :: .wait 26 :: .wait 50 :: .addR 1 3 2 :: .wait 59 :: .wait 63 :: .addY 0 0 :: .wait 60 :: .wait 64 :: .addY 0 1 ::
    .act 0 0 :: .act 0 1 :: .halve (out 0 0 0 3 0 0 7 0) :: .halve (out 0 0 1 3 0 0 7 0) :: .split (out 1 0 0 0 0 2 0 0) :: .send (mAG 0 0 0) ::
    .split (out 2 0 1 0 0 2 0 0) :: .send (mAG 0 3 0) :: .send (mG2 0 0) :: .send (mG2 0 1) :: .wait 53 :: .wait 57 :: .addX 1 0 :: .wait 54 :: .wait
    58 :: .addX 1 1 :: .split (out 0 1 0 3 0 2 5 0) :: .split (out 0 1 1 3 0 2 5 0) :: .send (mZ2 1 0) :: .send (mZ2 1 1) :: .wait 67 :: .wait 71 ::
    .wait 68 :: .wait 72 :: .halve (out 0 0 0 3 0 1 7 0) :: .join (out 0 0 0 3 0 2 7 2) :: .halve (out 0 0 1 3 0 1 7 0) :: .join (out 0 0 1 3 0 2 7 2)
    :: .send (mG1 0 0) :: .send (mG1 0 1) :: .send (mAG 0 1 0) :: .send (mAG 0 4 0) :: .wait 83 :: .wait 119 :: .split (out 1 0 0 1 0 2 0 0) :: .send
    (mAG 0 0 1) :: .wait 92 :: .wait 128 :: .split (out 2 0 1 1 0 2 0 0) :: .send (mAG 0 3 1) :: l) _ Q
  exact asc <| part1_ok fun _ _ _ _ _ _ _ _ => asc <| part2_ok fun _ _ _ _ _ _ _ _ _ _ _ => asc <| part3_ok fun _ _ => asc <| part4_ok <| asc <|
    part5_ok <| asc <| part6_ok <| asc <| part7_ok fun _ => asc <| part8_ok <| asc <| part9_ok <| asc <| part10_ok fun _ => asc <| part11_ok <| asc <|
    part12_ok fun _ => asc <| part13_ok <| asc <| part14_ok <| asc <| part15_ok <| asc <| part16_ok fun _ => asc <| part17_ok <| asc <| part18_ok <|
    asc <| part19_ok <| asc <| part20_ok <| asc <| part21_ok fun _ => asc <| part22_ok <| asc <| part23_ok fun _ => asc <| part24_ok <| asc <|
    part25_ok <| asc <| part26_ok fun _ => asc <| part27_ok <| asc <| part28_ok fun _ => asc <| part29_ok <| asc <| part30_ok <| asc <| part31_ok <|
    asc <| part32_ok <| asc <| part33_ok <| asc <| part34_ok <| asc <| part35_ok fun _ => asc <| part36_ok <| asc <| part37_ok fun _ => asc <|
    part38_ok <| asc <| part39_ok fun _ _ => asc <| part40_ok fun _ _ => asc <| part41_ok <| asc <| part42_ok <| asc <| part43_ok <| asc <| part44_ok
    <| asc <| part45_ok <| asc <| part46_ok <| asc <| part47_ok <| asc <| part48_ok <| asc <| part49_ok <| asc <| part50_ok fun _ _ => asc <|
    part51_ok <| asc <| part52_ok <| asc <| part53_ok <| asc <| part54_ok <| asc <| part55_ok <| asc <| part56_ok <| asc <| part57_ok fun _ => asc <|
    part58_ok <| asc <| part59_ok <| asc <| part60_ok <| H _ _ _ _ _ _ _ _ _ _

set_option maxRecDepth 65536 in
/-- The second half, but for the last wait. -/
theorem part101_ok {w1 w2 w3 w4 w5 w6 w7 w8 w9 w10 : BitVec 32} {Q : α → sProp 𝕄} {k} (H : ∀ w1 w2 : BitVec 32, Tr a b K c (.wait 154 :: l) (k ⟨w1, w2⟩) Q) :
    Tr a b K c (opsSnd ++ l) (k0_part101 (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15 c w1 w2 w3 w4 w5 w6 w7 w8 w9 w10 >>= k) Q := by
  rw [k0_part101_eq_skeleton]
  unfold k0_part101_skel
  show Tr a b K c (.wait 86 :: .wait 122 :: .send (mAG 0 1 1) :: .wait 95 :: .wait 131 :: .send (mAG 0 4 1) :: .wait 84 :: .wait 120 :: .split (out 1 0 0 2 0 2 0 0) ::
    .send (mAG 0 0 2) :: .wait 93 :: .wait 129 :: .split (out 2 0 1 2 0 2 0 0) :: .send (mAG 0 3 2) :: .wait 61 :: .wait 65 :: .addY 1 0 :: .wait 62
    :: .wait 66 :: .addY 1 1 :: .act 1 0 :: .act 1 1 :: .halve (out 0 1 0 3 0 0 7 0) :: .halve (out 0 1 1 3 0 0 7 0) :: .split (out 1 1 0 0 0 2 0 0)
    :: .send (mAG 1 0 0) :: .split (out 2 1 1 0 0 2 0 0) :: .send (mAG 1 3 0) :: .send (mG2 1 0) :: .send (mG2 1 1) :: .wait 75 :: .wait 79 :: .wait
    76 :: .wait 80 :: .send (mAG 0 2 0) :: .send (mAG 0 5 0) :: .wait 87 :: .wait 123 :: .send (mAG 0 1 2) :: .wait 96 :: .wait 132 :: .send (mAG 0 4
    2) :: .wait 85 :: .wait 121 :: .wait 94 :: .wait 130 :: .wait 89 :: .wait 125 :: .send (mAG 0 2 1) :: .wait 98 :: .wait 134 :: .send (mAG 0 5 1)
    :: .wait 88 :: .wait 124 :: .wait 97 :: .wait 133 :: .wait 90 :: .wait 126 :: .send (mAG 0 2 2) :: .wait 99 :: .wait 135 :: .send (mAG 0 5 2) ::
    .wait 91 :: .wait 127 :: .wait 100 :: .wait 136 :: .wait 69 :: .wait 73 :: .wait 70 :: .wait 74 :: .halve (out 0 1 0 3 0 1 7 0) :: .join (out 0 1
    0 3 0 2 7 2) :: .halve (out 0 1 1 3 0 1 7 0) :: .join (out 0 1 1 3 0 2 7 2) :: .send (mG1 1 0) :: .send (mG1 1 1) :: .send (mAG 1 1 0) :: .send
    (mAG 1 4 0) :: .wait 101 :: .wait 137 :: .split (out 1 1 0 1 0 2 0 0) :: .send (mAG 1 0 1) :: .wait 110 :: .wait 146 :: .split (out 2 1 1 1 0 2 0
    0) :: .send (mAG 1 3 1) :: .wait 104 :: .wait 140 :: .send (mAG 1 1 1) :: .wait 113 :: .wait 149 :: .send (mAG 1 4 1) :: .wait 102 :: .wait 138 ::
    .split (out 1 1 0 2 0 2 0 0) :: .send (mAG 1 0 2) :: .wait 111 :: .wait 147 :: .split (out 2 1 1 2 0 2 0 0) :: .send (mAG 1 3 2) :: .wait 77 ::
    .wait 81 :: .wait 78 :: .wait 82 :: .send (mAG 1 2 0) :: .send (mAG 1 5 0) :: .wait 105 :: .wait 141 :: .send (mAG 1 1 2) :: .wait 114 :: .wait
    150 :: .send (mAG 1 4 2) :: .wait 103 :: .wait 139 :: .wait 112 :: .wait 148 :: .wait 107 :: .wait 143 :: .send (mAG 1 2 1) :: .wait 116 :: .wait
    152 :: .send (mAG 1 5 1) :: .wait 106 :: .wait 142 :: .wait 115 :: .wait 151 :: .wait 108 :: .wait 144 :: .send (mAG 1 2 2) :: .wait 117 :: .wait
    153 :: .send (mAG 1 5 2) :: .wait 109 :: .wait 145 :: .wait 118 :: .wait 154 :: l) _ Q
  exact asc <| part61_ok <| asc <| part62_ok <| asc <| part63_ok <| asc <| part64_ok <| asc <| part65_ok <| asc <| part66_ok <| asc <| part67_ok fun _
    _ => asc <| part68_ok <| asc <| part69_ok fun _ _ => asc <| part70_ok <| asc <| part71_ok <| asc <| part72_ok <| asc <| part73_ok <| asc <|
    part74_ok <| asc <| part75_ok <| asc <| part76_ok fun _ => asc <| part77_ok fun _ => asc <| part78_ok <| asc <| part79_ok <| asc <| part80_ok <|
    asc <| part81_ok <| asc <| part82_ok <| asc <| part83_ok <| asc <| part84_ok <| asc <| part85_ok <| asc <| part86_ok <| asc <| part87_ok <| asc <|
    part88_ok <| asc <| part89_ok <| asc <| part90_ok <| asc <| part91_ok <| asc <| part92_ok fun _ => asc <| part93_ok <| asc <| part94_ok <| asc <|
    part95_ok <| asc <| part96_ok <| asc <| part97_ok fun _ => asc <| part98_ok fun _ _ => asc <| part99_ok <| wtG <| H _ _

set_option maxRecDepth 65536 in
/-- The body. -/
theorem body_ok {Q : PUnit → sProp 𝕄} (H : Tr a b K c [] (.ret ⟨⟩) Q) :
    Tr a b K c ops (cc0_body (F := F) mA (Memref.isWhole_whole _) mB (Memref.isWhole_whole _) mO (Memref.isWhole_whole _) mN (Memref.isWhole_whole _) mR (Memref.isWhole_whole _) mX (Memref.isWhole_whole _) mY (Memref.isWhole_whole _)
      cc0_scratch4 cc0_scratch5 cc0_scratch6 cc0_scratch7 cc0_scratch8 cc0_scratch9 cc0_scratch10 cc0_scratch11 cc0_scratch12 cc0_scratch13 cc0_scratch14 cc0_scratch15) Q := by
  rw [ops_halves, cc0_body_eq_skeleton]
  unfold cc0_body_skel
  exact part100_ok fun _ _ _ _ _ _ _ _ _ _ => (List.append_nil opsSnd) ▸ part101_ok fun _ _ => wtG H

end Cert.Prot
end
end
-- ==== Proof.Memory.lean ====
/-
# The buffers, whole at the start and at the end

What the program is given — whole buffers — is cut into the pieces a device starts with; the pieces it ends with
are joined into whole buffers again.
-/
module

public import proofs.«01_k».proof.Proof.Copies

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .f32) (b : Dev nD → Vec F S768x1536 .f32) (c : Dev nD)

/-! ## Lists of pieces -/

/-- A conjunction over the members of a list without repeats. -/
theorem sepL_toFinset {I : Type} [DecidableEq I] {l : List I} (hl : l.Nodup) (Φ : I → sProp 𝕄) : bigSep l.toFinset Φ = sepL l Φ := by
  induction l with
  | nil => rw [List.toFinset_nil, bigSep_empty]; rfl
  | cons i l ih =>
    rw [List.toFinset_cons, show bigSep (insert i l.toFinset) Φ = iprop(Φ i ∗ bigSep l.toFinset Φ) from bigSep_insert (by rw [List.mem_toFinset]; exact (List.nodup_cons.mp hl).1), ih (List.nodup_cons.mp hl).2, sepL_cons]

theorem sepL_flatMap {I J : Type} (l : List I) (f : I → List J) (Φ : J → sProp 𝕄) :
    sepL (l.flatMap f) Φ = sepL l (fun i => sepL (f i) Φ) := by
  induction l with
  | nil => rfl
  | cons i l ih => rw [List.flatMap_cons, sepL_append, ih, sepL_cons]

/-- A whole buffer is its parts, when the parts are disjoint and cover it. -/
theorem whole_parts {ℓ : Loc nD τ sig} {I : Type} [DecidableEq I] {l : List I} (hl : l.Nodup) (S : I → Finset (Idx ℓ))
    (hd : ∀ i ∈ l, ∀ j ∈ l, ∀ x, x ∈ S i → x ∈ S j → i = j) (hc : ∀ x, ∃ i ∈ l, x ∈ S i) (f : Buf (Elt F) ℓ) :
    (ℓ ↦{fullShare} f : sProp 𝕄) = sepL l (fun i => (ℓ ↦[S i]{fullShare} f : sProp 𝕄)) := by
  rw [← sepL_toFinset hl, ← pointsTo_biUnion l.toFinset S fun i hi j hj hij => Finset.disjoint_left.mpr fun x hx hx' =>
    hij (hd i (List.mem_toFinset.mp hi) j (List.mem_toFinset.mp hj) x hx hx')]
  rw [show l.toFinset.biUnion S = Finset.univ from Finset.eq_univ_iff_forall.mpr fun x =>
    Finset.mem_biUnion.mpr ((hc x).imp fun i h => ⟨List.mem_toFinset.mpr h.1, h.2⟩)]

/-- The parts of a buffer at any contents. -/
theorem any_parts {ℓ : Loc nD τ sig} {I : Type} [DecidableEq I] {l : List I} (hl : l.Nodup) (S : I → Finset (Idx ℓ))
    (hd : ∀ i ∈ l, ∀ j ∈ l, ∀ x, x ∈ S i → x ∈ S j → i = j) (hc : ∀ x, ∃ i ∈ l, x ∈ S i) (g : I → Buf (Elt F) ℓ) :
    iprop(∃ f : Buf (Elt F) ℓ, ℓ ↦{fullShare} f) ⊢ (sepL l (fun i => pts ℓ (S i) 0 0 (g i)) : sProp 𝕄) := by
  iintro ⟨%f, H⟩
  ihave H := (Entails.of_eq (whole_parts hl S hd hc f)) $$ H
  iapply (sepL_mono (Φ := fun i => (ℓ ↦[S i]{fullShare} f : sProp 𝕄)) (Ψ := fun i => pts ℓ (S i) 0 0 (g i)) fun i _ => by
    unfold pts; rw [if_pos rfl]
    iintro H; iexists f; iexact H)
  iexact H

/-- The parts of a buffer at one contents. -/
theorem known_parts {ℓ : Loc nD τ sig} {I : Type} [DecidableEq I] {l : List I} (hl : l.Nodup) (S : I → Finset (Idx ℓ))
    (hd : ∀ i ∈ l, ∀ j ∈ l, ∀ x, x ∈ S i → x ∈ S j → i = j) (hc : ∀ x, ∃ i ∈ l, x ∈ S i) {t : ℕ} (ht : t ≠ 0) (f : Buf (Elt F) ℓ) :
    (sepL l (fun i => pts ℓ (S i) t 0 f) : sProp 𝕄) = (ℓ ↦{fullShare} f) := by
  rw [whole_parts hl S hd hc f]
  exact sepL_congr fun i _ => by unfold pts; rw [if_neg ht]; rfl

/-! ## The places of the pieces -/

/-- The slots of the ring buffer. -/
def gkt : List (ℕ × ℕ × ℕ) := (List.range 2).flatMap fun g => (List.range 4).flatMap fun κ => (List.range 3).map fun t => (g, κ, t)
/-- The slots of an exchange's buffer. -/
def gh : List (ℕ × ℕ) := (List.range 2).flatMap fun g => (List.range 2).map fun h => (g, h)
/-- The chunks of the result. -/
def ghk : List (ℕ × ℕ × ℕ) := (List.range 2).flatMap fun g => (List.range 2).flatMap fun h => (List.range 4).map fun k => (g, h, k)

theorem gkt_nodup : gkt.Nodup := by decide +kernel
theorem gh_nodup : gh.Nodup := by decide +kernel
theorem ghk_nodup : ghk.Nodup := by decide +kernel
theorem mem_gkt {g κ t : ℕ} (hg : g < 2) (hκ : κ < 4) (ht : t < 3) : (g, κ, t) ∈ gkt :=
  List.mem_flatMap.mpr ⟨g, List.mem_range.mpr hg, List.mem_flatMap.mpr ⟨κ, List.mem_range.mpr hκ, List.mem_map.mpr ⟨t, List.mem_range.mpr ht, rfl⟩⟩⟩
theorem mem_gh {g h : ℕ} (hg : g < 2) (hh : h < 2) : (g, h) ∈ gh :=
  List.mem_flatMap.mpr ⟨g, List.mem_range.mpr hg, List.mem_map.mpr ⟨h, List.mem_range.mpr hh, rfl⟩⟩
theorem mem_ghk {g h k : ℕ} : (g, h, k) ∈ ghk ↔ g < 2 ∧ h < 2 ∧ k < 4 := by
  unfold ghk
  simp only [List.mem_flatMap, List.mem_map, List.mem_range, Prod.mk.injEq]
  constructor
  · rintro ⟨g', hg, h', hh, k', hk, rfl, rfl, rfl⟩; exact ⟨hg, hh, hk⟩
  · rintro ⟨hg, hh, hk⟩; exact ⟨g, hg, h, hh, k, hk, rfl, rfl, rfl⟩

/-- The first row of half `h` of the chunk at distance `k`. -/
def halfRow (c h k : ℕ) : ℕ := 384 * (if h = 0 then (c % 4 + 4 - k % 4) % 4 else (c % 4 + k) % 4) + 192 * h

theorem row_half (c h k q : ℕ) : row c h k q 2 = halfRow c h k + 96 * ((q + c / 4) % 2) := rfl

theorem mem_rows {r n : ℕ} {i : S1536x1536.Idx} : i ∈ rows r n ↔ r ≤ (i 0).val ∧ (i 0).val < r + n := by
  unfold rows; rw [Finset.mem_filter]; exact and_iff_right (Finset.mem_univ i)
theorem mem_box {r n g : ℕ} {i : S1536x1536.Idx} :
    i ∈ box r n g ↔ r ≤ (i 0).val ∧ (i 0).val < r + n ∧ 768 * g ≤ (i 1).val ∧ (i 1).val < 768 * g + 768 := by
  unfold box; rw [Finset.mem_filter]; exact and_iff_right (Finset.mem_univ i)

theorem rs_disj : ∀ i ∈ gkt, ∀ j ∈ gkt, ∀ x, x ∈ rsBox i.1 i.2.1 i.2.2 → x ∈ rsBox j.1 j.2.1 j.2.2 → i = j := by
  rintro ⟨g, κ, t⟩ - ⟨g', κ', t'⟩ - x h h'
  simp only [rsBox, Finset.mem_filter, Finset.mem_univ, true_and] at h h'
  obtain ⟨rfl, rfl, rfl⟩ := h
  obtain ⟨rfl, rfl, rfl⟩ := h'
  rfl
theorem rs_cover (x : S2x4x3x96x768.Idx) : ∃ i ∈ gkt, x ∈ rsBox i.1 i.2.1 i.2.2 :=
  ⟨((x 0).val, (x 1).val, (x 2).val), mem_gkt (x 0).isLt (x 1).isLt (x 2).isLt, by
    simp only [rsBox, Finset.mem_filter, Finset.mem_univ, true_and, and_self]⟩
theorem z1_disj : ∀ i ∈ gh, ∀ j ∈ gh, ∀ x, x ∈ z1Box i.1 i.2 → x ∈ z1Box j.1 j.2 → i = j := by
  rintro ⟨g, κ⟩ - ⟨g', κ'⟩ - x h h'
  simp only [z1Box, Finset.mem_filter, Finset.mem_univ, true_and] at h h'
  obtain ⟨rfl, rfl⟩ := h
  obtain ⟨rfl, rfl⟩ := h'
  rfl
theorem z1_cover (x : S2x2x96x768.Idx) : ∃ i ∈ gh, x ∈ z1Box i.1 i.2 :=
  ⟨((x 0).val, (x 1).val), mem_gh (x 0).isLt (x 1).isLt, by simp only [z1Box, Finset.mem_filter, Finset.mem_univ, true_and, and_self]⟩
theorem z2_disj : ∀ i ∈ gh, ∀ j ∈ gh, ∀ x, x ∈ z2Box i.1 i.2 → x ∈ z2Box j.1 j.2 → i = j := by
  rintro ⟨g, κ⟩ - ⟨g', κ'⟩ - x h h'
  simp only [z2Box, Finset.mem_filter, Finset.mem_univ, true_and] at h h'
  obtain ⟨rfl, rfl⟩ := h
  obtain ⟨rfl, rfl⟩ := h'
  rfl
theorem z2_cover (x : S2x2x48x768.Idx) : ∃ i ∈ gh, x ∈ z2Box i.1 i.2 :=
  ⟨((x 0).val, (x 1).val), mem_gh (x 0).isLt (x 1).isLt, by simp only [z2Box, Finset.mem_filter, Finset.mem_univ, true_and, and_self]⟩
theorem slab_disj (c : ℕ) : ∀ i ∈ List.range 4, ∀ j ∈ List.range 4, ∀ x, x ∈ rows (slabRow c i) 384 → x ∈ rows (slabRow c j) 384 → i = j := by
  intro i hi j hj x h h'
  have hi := List.mem_range.mp hi
  have hj := List.mem_range.mp hj
  rw [mem_rows] at h h'
  unfold slabRow at h h'
  omega
theorem slab_cover (c : ℕ) (x : S1536x1536.Idx) : ∃ i ∈ List.range 4, x ∈ rows (slabRow c i) 384 := by
  have hx : (x 0).val < 1536 := (x 0).isLt
  refine ⟨((x 0).val / 384 + 4 - c % 4) % 4, List.mem_range.mpr (Nat.mod_lt _ (by decide)), ?_⟩
  rw [mem_rows]
  unfold slabRow
  omega
theorem half_disj (c : ℕ) : ∀ i ∈ ghk, ∀ j ∈ ghk, ∀ x, x ∈ box (halfRow c i.2.1 i.2.2) 192 i.1 → x ∈ box (halfRow c j.2.1 j.2.2) 192 j.1 → i = j := by
  rintro ⟨g, h, k⟩ hi ⟨g', h', k'⟩ hj x hx hx'
  obtain ⟨hg, hh, hk⟩ := mem_ghk.mp hi
  obtain ⟨hg', hh', hk'⟩ := mem_ghk.mp hj
  rw [mem_box] at hx hx'
  unfold halfRow at hx hx'
  dsimp only at hx hx'
  have e₁ : g = g' := by omega
  have e₂ : h = h' := by
    revert hx hx'; split <;> split <;> omega
  subst e₁ e₂
  have e₃ : k = k' := by
    revert hx hx'; split <;> omega
  subst e₃
  rfl
theorem half_cover (c : ℕ) (x : S1536x1536.Idx) : ∃ i ∈ ghk, x ∈ box (halfRow c i.2.1 i.2.2) 192 i.1 := by
  have hx : (x 0).val < 1536 := (x 0).isLt
  have hx' : (x 1).val < 1536 := (x 1).isLt
  have h2 : (x 0).val / 192 % 2 = 0 ∨ (x 0).val / 192 % 2 = 1 := by omega
  rcases h2 with h2 | h2
  · refine ⟨((x 1).val / 768, 0, (c % 4 + 4 - (x 0).val / 384) % 4), mem_ghk.mpr ⟨by omega, by decide, Nat.mod_lt _ (by decide)⟩, ?_⟩
    rw [mem_box]
    unfold halfRow
    dsimp only
    rw [if_pos rfl]
    omega
  · refine ⟨((x 1).val / 768, 1, ((x 0).val / 384 + 4 - c % 4) % 4), mem_ghk.mpr ⟨by omega, by decide, Nat.mod_lt _ (by decide)⟩, ?_⟩
    rw [mem_box]
    unfold halfRow
    dsimp only
    rw [if_neg (by decide)]
    omega

/-! ## The start -/

theorem start_perm : ([opA, opB, opN 0] ++ (List.range 4).map (fun s => slab s 0) ++ gkt.map (fun i => slotR 0 i.1 i.2.1 i.2.2 0)
    ++ gh.map (fun i => slot1 0 i.1 i.2 0) ++ gh.map (fun i => slot2 0 i.1 i.2 0)).Perm start := by decide +kernel

/-- The buffers a device is given are the pieces it starts with. -/
theorem memStart :
    iprop((locA c ↦{fullShare} a c) ∗ (locB c ↦{fullShare} b c) ∗ (∃ f : Buf (Elt F) (locO c), locO c ↦{fullShare} f)
      ∗ (∃ f : Buf (Elt F) (locN c), locN c ↦{fullShare} f) ∗ (∃ f : Buf (Elt F) (locR c), locR c ↦{fullShare} f)
      ∗ (∃ f : Buf (Elt F) (locX c), locX c ↦{fullShare} f) ∗ (∃ f : Buf (Elt F) (locY c), locY c ↦{fullShare} f))
    ⊢ (sepL start (item a b c) : sProp 𝕄) := by
  rw [← sepL_perm start_perm, sepL_append, sepL_append, sepL_append, sepL_append, sepL_map, sepL_map, sepL_map, sepL_map,
    sepL_cons, sepL_cons, sepL_one]
  iintro ⟨HA, HB, HO, HN, HR, HX, HY⟩
  ihave HO := (any_parts (ℓ := locO c) (List.nodup_range (n := 4)) (fun s => rows (slabRow c.val s) 384) (slab_disj c.val) (slab_cover c.val) (fun _ => outC a b c 0 0)) $$ HO
  ihave HR := (any_parts (ℓ := locR c) gkt_nodup (fun i => rsBox i.1 i.2.1 i.2.2) rs_disj rs_cover (fun _ => rsC a b c)) $$ HR
  ihave HX := (any_parts (ℓ := locX c) gh_nodup (fun i => z1Box i.1 i.2) z1_disj z1_cover (fun _ => z1C a b c)) $$ HX
  ihave HY := (any_parts (ℓ := locY c) gh_nodup (fun i => z2Box i.1 i.2) z2_disj z2_cover (fun _ => z2C a b c)) $$ HY
  isplitl [HA HB HN HO HR HX]
  · isplitl [HA HB HN HO HR]
    · isplitl [HA HB HN HO]
      · isplitl [HA HB HN]
        · isplitl [HA]
          · iapply (show (locA c ↦{fullShare} a c : sProp 𝕄) ⊢ item a b c opA from Entails.of_eq (by
              rw [item_own (of_decide_eq_true rfl) rfl]; rfl))
            iexact HA
          isplitl [HB]
          · iapply (show (locB c ↦{fullShare} b c : sProp 𝕄) ⊢ item a b c opB from Entails.of_eq (by
              rw [item_own (of_decide_eq_true rfl) rfl]; rfl))
            iexact HB
          · iapply (show iprop(∃ f : Buf (Elt F) (locN c), locN c ↦{fullShare} f) ⊢ item a b c (opN 0) from Entails.of_eq (by
              rw [item_own (of_decide_eq_true rfl) rfl]; rfl))
            iexact HN
        · iapply (show sepL (List.range 4) (fun s => pts (locO c) (rows (slabRow c.val s) 384) 0 0 (outC a b c 0 0))
            ⊢ sepL (List.range 4) (fun s => item a b c (slab s 0)) from Entails.of_eq (sepL_congr fun s _ => by
              rw [item_own (show (8 : ℕ) ≠ 7 by decide) rfl]; rfl))
          iexact HO
      · iapply (show sepL gkt (fun i => pts (locR c) (rsBox i.1 i.2.1 i.2.2) 0 0 (rsC a b c))
          ⊢ sepL gkt (fun i => item a b c (slotR 0 i.1 i.2.1 i.2.2 0)) from Entails.of_eq (sepL_congr fun s _ => by
            rw [item_own (show (1 : ℕ) ≠ 7 by decide) rfl]; rfl))
        iexact HR
    · iapply (show sepL gh (fun i => pts (locX c) (z1Box i.1 i.2) 0 0 (z1C a b c))
        ⊢ sepL gh (fun i => item a b c (slot1 0 i.1 i.2 0)) from Entails.of_eq (sepL_congr fun s _ => by
          rw [item_own (show (2 : ℕ) ≠ 7 by decide) rfl]; rfl))
      iexact HX
  · iapply (show sepL gh (fun i => pts (locY c) (z2Box i.1 i.2) 0 0 (z2C a b c))
      ⊢ sepL gh (fun i => item a b c (slot2 0 i.1 i.2 0)) from Entails.of_eq (sepL_congr fun s _ => by
        rw [item_own (show (3 : ℕ) ≠ 7 by decide) rfl]; rfl))
    iexact HY

/-! ## The end -/

/-- The pieces that make up half a chunk at the end. -/
def halfItems (g h k : ℕ) : List Item :=
  out 0 g h k 1 2 7 0 :: if k = 3 then [out 0 g h k 0 2 7 2, out 0 g h k 0 0 7 1, out 0 g h k 0 1 7 1] else [out 0 g h k 0 0 7 0, out 0 g h k 0 1 7 0]

theorem end_perm : ((run ops start).getD []).Perm
    ([opA, opB, opN 1] ++ ghk.flatMap (fun i => halfItems i.1 i.2.1 i.2.2) ++ gkt.map (fun i => slotR 0 i.1 i.2.1 i.2.2 1)
      ++ gh.map (fun i => slot1 0 i.1 i.2 1) ++ gh.map (fun i => slot2 0 i.1 i.2 1)) := by decide +kernel

/-- What device `c` holds in the result buffer at the end. -/
def outEnd : Buf (Elt F) (locO c) := outC a b c 0 7

/-- Rows of the result at the end. -/
theorem item_end (g h k q e sh : ℕ) :
    item a b c (out 0 g h k q e 7 sh) = (pts (locO c) (box (row c.val h k q e) (len e) g) 7 sh (outEnd a b c) : sProp 𝕄) := by
  rw [item_own (show (0 : ℕ) ≠ 7 by decide) rfl]; rfl

/-- Two eighths are a quarter. -/
theorem eighths_end (g h k q sh : ℕ) :
    iprop(item a b c (out 0 g h k q 0 7 sh) ∗ item a b c (out 0 g h k q 1 7 sh)) ⊢ (item a b c (out 0 g h k q 2 7 sh) : sProp 𝕄) := by
  rw [item_end, item_end, item_end]
  have hx := quarter_cut c (out 0 g h k q 2 7 sh) rfl
  exact pts_glue hx.1 hx.2 (by decide) _ _

/-- Half a chunk of the result joined. -/
theorem half_end (g h k : ℕ) :
    sepL (halfItems g h k) (item a b c) ⊢ (pts (locO c) (box (halfRow c.val h k) 192 g) 7 0 (outEnd a b c) : sProp 𝕄) := by
  have hq : iprop(item a b c (out 0 g h k 1 2 7 0) ∗ item a b c (out 0 g h k 0 2 7 0))
      ⊢ (pts (locO c) (box (halfRow c.val h k) 192 g) 7 0 (outEnd a b c) : sProp 𝕄) := by
    have hb := box_pair (halfRow c.val h k) 96 g (c.val / 4)
    rw [item_end, item_end, row_half, row_half, Nat.zero_add, sep_comm_eq]
    exact pts_glue hb.1 hb.2 (by decide) _ _
  unfold halfItems
  rw [sepL_cons]
  refine (sep_mono_right ?_).trans hq
  by_cases hk : k = 3
  · rw [if_pos hk, sepL_cons, sepL_two]
    refine (sep_mono_right (eighths_end a b c g h k 0 1)).trans ?_
    rw [item_end, item_end, item_end, sep_comm_eq]
    exact (pointsTo_share (PosShare.mem_left_op_right fullShare)).2
  · rw [if_neg hk, sepL_two]
    exact eighths_end a b c g h k 0 0

/-- The pieces a device ends with are its buffers, the result buffer holding the result. -/
theorem memEnd :
    sepL ((run ops start).getD []) (item a b c) ⊢
    iprop((locA c ↦{fullShare} a c) ∗ (locB c ↦{fullShare} b c) ∗ (locO c ↦{fullShare} outEnd a b c)
      ∗ (∃ f : Buf (Elt F) (locN c), locN c ↦{fullShare} f) ∗ (∃ f : Buf (Elt F) (locR c), locR c ↦{fullShare} f)
      ∗ (∃ f : Buf (Elt F) (locX c), locX c ↦{fullShare} f) ∗ (∃ f : Buf (Elt F) (locY c), locY c ↦{fullShare} f) : sProp 𝕄) := by
  rw [sepL_perm end_perm, sepL_append, sepL_append, sepL_append, sepL_append, sepL_map, sepL_map, sepL_map, sepL_flatMap,
    sepL_cons, sepL_cons, sepL_one]
  iintro ⟨⟨⟨⟨⟨HA, HB, HN⟩, HO⟩, HR⟩, HX⟩, HY⟩
  isplitl [HA]
  · iapply (show item a b c opA ⊢ (locA c ↦{fullShare} a c : sProp 𝕄) from Entails.of_eq (by
      rw [item_own (of_decide_eq_true rfl) rfl]; rfl))
    iexact HA
  isplitl [HB]
  · iapply (show item a b c opB ⊢ (locB c ↦{fullShare} b c : sProp 𝕄) from Entails.of_eq (by
      rw [item_own (of_decide_eq_true rfl) rfl]; rfl))
    iexact HB
  isplitl [HO]
  · iapply (Entails.of_eq (known_parts (ℓ := locO c) ghk_nodup (fun i => box (halfRow c.val i.2.1 i.2.2) 192 i.1) (half_disj c.val) (half_cover c.val)
      (show (7 : ℕ) ≠ 0 by decide) (outEnd a b c)))
    iapply (sepL_mono fun i _ => half_end a b c i.1 i.2.1 i.2.2)
    iexact HO
  isplitl [HN]
  · iexists (k0_pay1 (b c))
    iapply (show item a b c (opN 1) ⊢ (locN c ↦{fullShare} k0_pay1 (b c) : sProp 𝕄) from Entails.of_eq (by
      rw [item_own (of_decide_eq_true rfl) rfl]; rfl))
    iexact HN
  isplitl [HR]
  · iexists (rsC a b c)
    iapply (Entails.of_eq (known_parts (ℓ := locR c) gkt_nodup (fun i => rsBox i.1 i.2.1 i.2.2) rs_disj rs_cover (show (1 : ℕ) ≠ 0 by decide) (rsC a b c)))
    iapply (show sepL gkt (fun i => item a b c (slotR 0 i.1 i.2.1 i.2.2 1)) ⊢ sepL gkt (fun i => pts (locR c) (rsBox i.1 i.2.1 i.2.2) 1 0 (rsC a b c))
      from Entails.of_eq (sepL_congr fun s _ => by rw [item_own (show (1 : ℕ) ≠ 7 by decide) rfl]; rfl))
    iexact HR
  isplitl [HX]
  · iexists (z1C a b c)
    iapply (Entails.of_eq (known_parts (ℓ := locX c) gh_nodup (fun i => z1Box i.1 i.2) z1_disj z1_cover (show (1 : ℕ) ≠ 0 by decide) (z1C a b c)))
    iapply (show sepL gh (fun i => item a b c (slot1 0 i.1 i.2 1)) ⊢ sepL gh (fun i => pts (locX c) (z1Box i.1 i.2) 1 0 (z1C a b c))
      from Entails.of_eq (sepL_congr fun s _ => by rw [item_own (show (2 : ℕ) ≠ 7 by decide) rfl]; rfl))
    iexact HX
  · iexists (z2C a b c)
    iapply (Entails.of_eq (known_parts (ℓ := locY c) gh_nodup (fun i => z2Box i.1 i.2) z2_disj z2_cover (show (1 : ℕ) ≠ 0 by decide) (z2C a b c)))
    iapply (show sepL gh (fun i => item a b c (slot2 0 i.1 i.2 1)) ⊢ sepL gh (fun i => pts (locY c) (z2Box i.1 i.2) 1 0 (z2C a b c))
      from Entails.of_eq (sepL_congr fun s _ => by rw [item_own (show (3 : ℕ) ≠ 7 by decide) rfl]; rfl))
    iexact HY

end Cert.Prot
end
end
-- ==== Proof.Tokens.lean ====
/-
# The cells' ghost state at the launch

Each device's cells are allocated with all their tokens; the tokens are dealt to the devices that pay with them, and
the launch's credit is split over the cells.
-/
module

public import proofs.«01_k».proof.Proof.Memory
public import proofs.«01_k».proof.Proof.Gen.KernelIdeal.Launch

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S1536x768 .f32) (b : Dev nD → Vec F S768x1536 .f32) (c : Dev nD)

/-! ## The cells numbered -/

/-- The code of a device's `k`-th cell. -/
def codeOf (k : Fin 153) : ℕ := if k.val = 0 then 0 else k.val + 2
/-- The number of the cell of a code. -/
def idxOf (j : ℕ) : Fin 153 := ⟨(j - 2) % 153, Nat.mod_lt _ (by decide)⟩
/-- The code of a semaphore. -/
def semNo : SemLoc sig → ℕ
  | .reg _ => 0
  | .dma j => j.val

theorem idxOf_codeOf : ∀ k : Fin 153, idxOf (codeOf k) = k := by decide +kernel
theorem codeOf_ok : ∀ k : Fin 153, codeOf k = 0 ∨ IsDma (codeOf k) := by decide +kernel
theorem codes_eq : (List.finRange 153).map codeOf = codes := by decide +kernel
theorem semNo_semOf {j : ℕ} (h : j = 0 ∨ IsDma j) : semNo (semOf j) = j := by
  rcases h with rfl | h
  · rfl
  · rw [semOf_dma h]; rfl
theorem ok_of_mem {j : ℕ} (h : j ∈ codes) : j = 0 ∨ IsDma j := by
  rw [← codes_eq] at h
  obtain ⟨k, -, rfl⟩ := List.mem_map.mp h
  exact codeOf_ok k

/-- Different cells have different names. -/
theorem cell_inj {c c' : Dev nD} {j j' : ℕ} (h : j = 0 ∨ IsDma j) (h' : j' = 0 ∨ IsDma j') (e : cell c j = cell c' j') : c = c' ∧ j = j' := by
  refine ⟨congrArg (fun g : GSem nD τ sig => g.1.1) e, ?_⟩
  have e₂ : semNo (semOf j) = semNo (semOf j') := congrArg (fun g : GSem nD τ sig => semNo g.2) e
  rwa [semNo_semOf h, semNo_semOf h'] at e₂

/-- A conjunction over a device's cells. -/
theorem sepL_codes (Φ : ℕ → sProp 𝕄) : bigSep Finset.univ (fun k : Fin 153 => Φ (codeOf k)) = sepL codes Φ := by
  rw [← codes_eq, sepL_map, ← sepL_toFinset (List.nodup_finRange 153), List.toFinset_finRange]

/-- The device's `k`-th cell. -/
def kcell (ck : Dev nD × Fin 153) : GSem nD τ sig := cell ck.1 (codeOf ck.2)
theorem kcell_inj : Function.Injective kcell := by
  rintro ⟨c, k⟩ ⟨c', k'⟩ h
  obtain ⟨rfl, e⟩ := cell_inj (codeOf_ok k) (codeOf_ok k') h
  rw [← idxOf_codeOf k, ← idxOf_codeOf k', e]
/-- All the cells. -/
def allCells : Finset (GSem nD τ sig) := Finset.univ.map ⟨kcell, kcell_inj⟩

/-- The duties of a device's cells: the code and the duty. -/
def dutyOf (k : Fin 156) : ℕ × ℕ := if k.val < 4 then (0, k.val + 1) else (k.val - 1, 0)
theorem dutyOf_ok : ∀ k : Fin 156, (dutyOf k).1 = 0 ∨ IsDma (dutyOf k).1 := by decide +kernel
theorem dutyOf_inj : ∀ k : Fin 156, (if (dutyOf k).1 = 0 then (dutyOf k).2 - 1 else (dutyOf k).1 + 1) = k.val := by decide +kernel
/-- A device's `k`-th token. -/
def tokOf (ck : Dev nD × Fin 156) : GSem nD τ sig × ℕ × ℕ := (cell ck.1 (dutyOf ck.2).1, 0, (dutyOf ck.2).2)
theorem tokOf_inj : Function.Injective tokOf := by
  rintro ⟨c, k⟩ ⟨c', k'⟩ h
  obtain ⟨rfl, e⟩ := cell_inj (dutyOf_ok k) (dutyOf_ok k') (congrArg Prod.fst h)
  have e' : (dutyOf k).2 = (dutyOf k').2 := congrArg (fun x : GSem nD τ sig × ℕ × ℕ => x.2.2) h
  have : k = k' := Fin.ext (by rw [← dutyOf_inj k, ← dutyOf_inj k', e, e'])
  rw [this]
/-- All the tokens. -/
def allToks : Finset (GSem nD τ sig × ℕ × ℕ) := Finset.univ.map ⟨tokOf, tokOf_inj⟩

/-! ## What the program needs, kind by kind -/

/-- The signals of a run of steps. -/
def sigsOf (l : List Op) : List ℕ := l.filterMap fun | .sig d => some d | _ => none
/-- Its messages. -/
def msgsOf (l : List Op) : List Msg := l.filterMap fun | .send m => some m | _ => none
/-- Its waits. -/
def waitsOf (l : List Op) : List ℕ := l.filterMap fun | .wait j => some j | _ => none

theorem sigs_ops : sigsOf ops = [2, 1, 3, 4] := by decide +kernel
theorem waits_perm : (waitsOf ops).Perm codes := by decide +kernel

/-- What a wait needs. -/
def waitTok (j : ℕ) : sProp 𝕄 :=
  iprop(atPos ER (cell c j) 0 ∅ 0 ∗ if isSend j then iprop(emp) else cred (tallyAt (cell c j) () (if j = 0 then 4 else amt j)))

theorem toks_split (l : List Op) : (sepL l (toks c) : sProp 𝕄) = iprop(sepL (sigsOf l) (fun d => dutyTok ER (cell (peer c d) 0) 0 d)
    ∗ sepL (msgsOf l) (fun m => iprop(dutyTok ER (cell c m.ss) 0 0 ∗ dutyTok ER (cell (peer c m.dir) m.rs) 0 0)) ∗ sepL (waitsOf l) (waitTok c)) := by
  induction l with
  | nil =>
    show iprop(emp) = iprop(emp ∗ emp ∗ emp)
    rw [emp_sep_eq, emp_sep_eq]
  | cons op l ih =>
    rw [sepL_cons, ih]
    cases op with
    | sig d => exact (sep_assoc_eq _ _ _).symm
    | send m =>
      rw [sep_left_comm_eq]
      exact congrArg (fun X => iprop(_ ∗ X)) (sep_assoc_eq _ _ _).symm
    | wait j =>
      rw [sep_left_comm_eq]
      refine congrArg (fun X => iprop(_ ∗ X)) ?_
      rw [sep_left_comm_eq]
      rfl
    | _ => exact emp_sep_eq _

theorem zeros_split (l : List Op) : (sepL l (zeros c) : sProp 𝕄) = sepL (waitsOf l) (fun j => semVal (cell c j) 0) := by
  induction l with
  | nil => rfl
  | cons op l ih =>
    rw [sepL_cons, ih]
    cases op with
    | wait j => rfl
    | _ => exact emp_sep_eq _

/-- The tokens device `c` pays with. -/
def payToks : sProp 𝕄 :=
  iprop(sepL [2, 1, 3, 4] (fun d => dutyTok ER (cell (peer c d) 0) 0 d)
    ∗ sepL msgs (fun m => iprop(dutyTok ER (cell c m.ss) 0 0 ∗ dutyTok ER (cell (peer c m.dir) m.rs) 0 0)))

/-- The credit device `c` waits with from the start. -/
def credL : sProp 𝕄 :=
  sepL codes fun j => if isSend j then iprop(emp) else cred (tallyAt (cell c j) () (if j = 0 then 4 else amt j))

/-- The positions of device `c`'s cells. -/
def posL : sProp 𝕄 := sepL codes fun j => atPos ER (cell c j) 0 ∅ 0

theorem toks_ops : (sepL ops (toks c) : sProp 𝕄) = iprop(payToks c ∗ posL c ∗ credL c) := by
  rw [toks_split, sigs_ops, sepL_perm waits_perm]
  show iprop(_ ∗ sepL msgs _ ∗ _) = _
  unfold payToks posL credL
  rw [← sepL_sep, sep_assoc_eq]
  rfl

/-! ## The tokens dealt -/

/-- The neighbours in one direction. -/
def peerEquiv (dir : ℕ) (h : dir = 1 ∨ dir = 2 ∨ dir = 3 ∨ dir = 4) : Dev nD ≃ Dev nD where
  toFun c := peer c dir
  invFun c := peer c (opp dir)
  left_inv c := peer_opp c dir h
  right_inv c := opp_peer c dir h

/-- A conjunction over the devices and a list, either way round. -/
theorem bigSep_sepL {I : Type} (l : List I) (Φ : I → Dev nD → sProp 𝕄) :
    bigSep Finset.univ (fun d => sepL l (fun i => Φ i d)) = sepL l (fun i => bigSep Finset.univ (Φ i)) := by
  induction l with
  | nil =>
    show bigSep Finset.univ (fun _ : Dev nD => (iprop(emp) : sProp 𝕄)) = iprop(emp)
    rw [← List.toFinset_finRange, sepL_toFinset (List.nodup_finRange nD), sepL_emp]
  | cons i l ih => rw [sepL_cons, ← ih, ← bigSep_sep']; rfl

/-- The same over every device's neighbour. -/
theorem deal {I : Type} {l : List I} (dir : I → ℕ) (h : ∀ i ∈ l, dir i = 1 ∨ dir i = 2 ∨ dir i = 3 ∨ dir i = 4) (Φ : I → Dev nD → sProp 𝕄) :
    bigSep Finset.univ (fun d => sepL l (fun i => Φ i d)) = bigSep Finset.univ (fun d => sepL l (fun i => Φ i (peer d (dir i)))) := by
  rw [bigSep_sepL, bigSep_sepL l (fun i d => Φ i (peer d (dir i)))]
  exact sepL_congr fun i hi => bigSep_univ_equiv (peerEquiv (dir i) (h i hi)) (Φ i)

/-- The tokens of device `c`'s own cells. -/
def ownToks : sProp 𝕄 := bigSep Finset.univ fun k : Fin 156 => dutyTok ER (cell c (dutyOf k).1) 0 (dutyOf k).2

theorem duties_perm : ((List.finRange 156).map dutyOf).Perm
    ([2, 1, 3, 4].map (fun d => (0, d)) ++ (msgs.map (fun m => (m.ss, 0)) ++ msgs.map (fun m => (m.rs, 0)))) := by decide +kernel

theorem ownToks_eq : (ownToks c : sProp 𝕄) = iprop(sepL [2, 1, 3, 4] (fun d => dutyTok ER (cell c 0) 0 d)
    ∗ sepL msgs (fun m => dutyTok ER (cell c m.ss) 0 0) ∗ sepL msgs (fun m => dutyTok ER (cell c m.rs) 0 0)) := by
  unfold ownToks
  rw [← List.toFinset_finRange, sepL_toFinset (List.nodup_finRange 156), ← sepL_map dutyOf (List.finRange 156) (fun p => dutyTok ER (cell c p.1) 0 p.2),
    sepL_perm duties_perm, sepL_append, sepL_append, sepL_map, sepL_map, sepL_map]

theorem msg_dir {m : Msg} (h : m ∈ msgs) : (IsDma m.ss ∧ IsDma m.rs) ∧ (m.dir = 1 ∨ m.dir = 2 ∨ m.dir = 3 ∨ m.dir = 4) := by
  obtain ⟨op, hop, e⟩ := List.mem_filterMap.mp h
  cases op with
  | send m' =>
    cases e
    have hg := of_decide_eq_true (good_of_mem hop)
    exact ⟨⟨hg.1, hg.2.1⟩, by have := hg.2.2.1; omega⟩
  | _ => cases e

/-- Every token goes to the device that pays with it. -/
theorem toks_around : (bigSep Finset.univ fun d : Dev nD => (ownToks d : sProp 𝕄)) = bigSep Finset.univ fun d : Dev nD => payToks d := by
  have e (d : Dev nD) : (payToks d : sProp 𝕄) = iprop(sepL [2, 1, 3, 4] (fun i => dutyTok ER (cell (peer d i) 0) 0 i)
      ∗ sepL msgs (fun m => dutyTok ER (cell d m.ss) 0 0) ∗ sepL msgs (fun m => dutyTok ER (cell (peer d m.dir) m.rs) 0 0)) := by
    unfold payToks; rw [sepL_sep]
  rw [bigSep_congr fun d _ => ownToks_eq d, bigSep_congr fun d _ => e d, bigSep_sep', bigSep_sep', bigSep_sep', bigSep_sep',
    deal (l := [2, 1, 3, 4]) id (by decide) (fun i d => (dutyTok ER (cell d 0) 0 i : sProp 𝕄)),
    deal (l := msgs) (fun m => m.dir) (fun m hm => (msg_dir hm).2) (fun m d => (dutyTok ER (cell d m.rs) 0 0 : sProp 𝕄))]
  rfl

/-! ## The cells allocated -/

/-- The kernel's own semaphores. -/
def osem (k : Fin 152) : SemLoc sig := .dma ⟨k.val + 3, by have := k.isLt; show k.val + 3 < 155; omega⟩

theorem ownSemFacts : Pipeline.OwnSemFacts cfg0.spec osem := by decide +kernel

theorem sems_list : codes = 0 :: (List.finRange 152).map (fun k => k.val + 3) := by decide +kernel

/-- All the counters of device `c`'s cells. -/
theorem sems_eq : (iprop(Pipeline.ownSems0 (Ix := Unit) (Name := ℕ) (U := UU) (Lvl := ℕ) (Val := Elt F) (τ := τ) osem c ∗ unscopedSems0 c) : sProp 𝕄)
    = sepL codes (fun j => semVal (cell c j) 0) := by
  rw [sems_list, sepL_cons, sepL_map, sep_comm_eq]
  have e₁ : (unscopedSems0 c : sProp 𝕄) = semVal (cell c 0) 0 := by
    unfold unscopedSems0; rw [bigSep_eq_bigSepL_of_eq [SemLoc.reg barS] (by decide +kernel) (by decide)]; rfl
  have e₂ : (Pipeline.ownSems0 (Ix := Unit) (Name := ℕ) (U := UU) (Lvl := ℕ) (Val := Elt F) (τ := τ) osem c : sProp 𝕄)
      = sepL (List.finRange 152) (fun k => semVal (cell c (k.val + 3)) 0) := by
    unfold Pipeline.ownSems0
    rw [← List.toFinset_finRange, sepL_toFinset (List.nodup_finRange 152)]
    refine sepL_congr fun k _ => ?_
    have hk : IsDma (k.val + 3) := ⟨by omega, by have := k.isLt; omega⟩
    unfold cell; rw [semOf_dma hk]; rfl
  rw [e₁, e₂]

/-- What the launch deals device `c`. -/
def G : sProp 𝕄 :=
  iprop((bigSep Finset.univ fun k : Fin 153 => roundState ER (Rd a b) (kcell (c, k)) 0)
    ∗ ((bigSep Finset.univ fun k : Fin 153 => atPos ER (kcell (c, k)) 0 ∅ 0) ∗ (bigSep Finset.univ fun k : Fin 153 => reached ER (kcell (c, k)) 0)) ∗ ownToks c)

/-- What the global step makes of it. -/
def G' : sProp 𝕄 := iprop(∃ K, recs a b K ∗ payToks c ∗ posL c)

theorem fund_cells : BI.own (ER (initOf allCells allToks)) ⊢ (|==> bigSep Finset.univ (G a b) : sProp 𝕄) := by
  have hX (Φ : GSem nD τ sig → sProp 𝕄) : bigSep allCells Φ = bigSep Finset.univ fun c : Dev nD => bigSep Finset.univ fun k : Fin 153 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (Rd a b) allCells allToks) $$ HX with ⟨Hst, Hr, Hat, Htok⟩
  imodintro
  ihave Hst' := (Entails.of_eq (hX fun g => roundState ER (Rd a b) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- One device's cells put under invariants. -/
theorem cells_alloc :
    iprop(Pipeline.ownSems0 (Ix := Unit) (Name := ℕ) (U := UU) (Lvl := ℕ) (Val := Elt F) (τ := τ) osem c ∗ unscopedSems0 c ∗ G a b c)
      ⊢ (|={Set.univ}=> iprop((bigSep Finset.univ fun k : Fin 153 => iprop(∃ κ : ℕ, cellInv ER (Rd a b) κ (kcell (c, k))))
          ∗ ((bigSep Finset.univ fun k : Fin 153 => atPos ER (kcell (c, k)) 0 ∅ 0) ∗ (bigSep Finset.univ fun k : Fin 153 => reached ER (kcell (c, k)) 0))
          ∗ ownToks c) : sProp 𝕄) := by
  unfold G
  iintro ⟨Hos, Hus, Hst, Hat, Htok⟩
  ihave Hv := (Entails.of_eq ((sems_eq (F := F) c).trans (sepL_codes (F := F) (fun j => semVal (cell c j) 0)).symm)) $$ [Hos Hus]
  · isplitl [Hos] <;> iassumption
  imod (show iprop((bigSep Finset.univ fun k : Fin 153 => semVal (cell c (codeOf k)) 0) ∗ bigSep Finset.univ fun k : Fin 153 => roundState ER (Rd a b) (kcell (c, k)) 0)
      ⊢ (|={Set.univ}=> bigSep Finset.univ fun k : Fin 153 => iprop(∃ κ : ℕ, cellInv ER (Rd a b) κ (kcell (c, k))) : sProp 𝕄) from by
        rw [← bigSep_sep']
        exact (bigSep_mono fun k _ => (Rounds.body_intro ER (Rd a b) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records of all cells, by code. -/
theorem recs_intro (K : Dev nD × Fin 153 → ℕ) :
    iprop((bigSep Finset.univ fun ck : Dev nD × Fin 153 => cellInv ER (Rd a b) (K ck) (kcell ck)) ∗ bigSep Finset.univ fun ck : Dev nD × Fin 153 => reached ER (kcell ck) 0)
      ⊢ (recs a b (fun p => K (p.1, idxOf p.2)) : sProp 𝕄) := by
  unfold recs
  rw [bigSep_univ_prod, bigSep_univ_prod, ← bigSep_sep']
  refine bigSep_mono fun d _ => ?_
  rw [← bigSep_sep', ← sepL_codes]
  refine bigSep_mono fun k _ => ?_
  dsimp only
  rw [idxOf_codeOf]
  exact BI.Entails.refl _

theorem keep_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The allocated cells' state, dealt to the devices. -/
theorem regroup :
    (bigSep Finset.univ fun c : Dev nD => iprop((bigSep Finset.univ fun k : Fin 153 => iprop(∃ κ : ℕ, cellInv ER (Rd a b) κ (kcell (c, k))))
          ∗ ((bigSep Finset.univ fun k : Fin 153 => atPos ER (kcell (c, k)) 0 ∅ 0) ∗ (bigSep Finset.univ fun k : Fin 153 => reached ER (kcell (c, k)) 0))
          ∗ ownToks c) : sProp 𝕄)
      ⊢ bigSep Finset.univ (G' a b) := by
  rw [bigSep_sep', bigSep_sep', bigSep_sep', ← bigSep_univ_prod (fun ck : Dev nD × Fin 153 => iprop(∃ κ : ℕ, cellInv ER (Rd a b) κ (kcell ck))),
    ← bigSep_univ_prod (fun ck : Dev nD × Fin 153 => (reached ER (kcell ck) 0 : sProp 𝕄)), toks_around]
  iintro ⟨HI, ⟨Hat, #HR⟩, Htok⟩
  ihave HK := (BI.bigSep_exists_pi Finset.univ (fun (ck : Dev nD × Fin 153) (κ : ℕ) => (cellInv ER (Rd a b) κ (kcell ck) : sProp 𝕄))) $$ HI
  icases HK with ⟨%K, #HI⟩
  iapply (keep_persistent (R := recs a b (fun p => K (p.1, idxOf p.2))) (Φ := fun d : Dev nD => iprop(payToks d ∗ posL d)) (fun d _ => by
    unfold G'
    iintro ⟨#HR, H⟩
    iexists _
    isplitr; · iexact HR
    iexact H))
  isplitr
  · iapply (recs_intro a b K)
    isplitl; · iexact HI
    iexact HR
  · rw [bigSep_sep']
    isplitl [Htok]; · iexact Htok
    iapply (Entails.of_eq (bigSep_congr (s := Finset.univ) fun (d : Dev nD) _ => (sepL_codes (F := F) (fun j => atPos ER (cell d j) 0 ∅ 0))))
    iexact Hat

/-- Every device's cells at once. -/
theorem glob : (bigSep Finset.univ fun c => iprop(Pipeline.ownSems0 (Ix := Unit) (Name := ℕ) (U := UU) (Lvl := ℕ) (Val := Elt F) (τ := τ) osem c
      ∗ unscopedSems0 c ∗ G a b c) : sProp 𝕄)
    ⊢ |={Set.univ}=> bigSep Finset.univ (G' a b) :=
  ((bigSep_mono fun c _ => cells_alloc a b c).trans (bigSep_fupd _ _)).trans (BI.fupd_mono (regroup a b))

/-! ## The credit -/

/-- How often a run of steps pays into a cell. -/
def paysTo (j : ℕ) (l : List Op) : ℕ := l.countP fun op => decide (owedCode op = some j)

theorem pays_ops : ∀ j ∈ codes, isSend j = false → paysTo j ops = if j = 0 then 4 else 1 := by decide +kernel

/-- What all devices pay into a cell of device `c` with one kind of payment. -/
theorem paid_one {dir j j' n : ℕ} (hd : dir = 1 ∨ dir = 2 ∨ dir = 3 ∨ dir = 4) (hj : j = 0 ∨ IsDma j) (hj' : j' = 0 ∨ IsDma j') :
    ∑ d : Dev nD, (tallyAt (cell (peer d dir) j') () n : CellTallies nD τ sig Unit) (cell c j) () = if j' = j then n else 0 := by
  have h (d : Dev nD) : (tallyAt (cell (peer d dir) j') () n : CellTallies nD τ sig Unit) (cell c j) () = if d = peer c (opp dir) then (if j' = j then n else 0) else 0 := by
    rw [tallyAt_apply]
    by_cases hc : d = peer c (opp dir)
    · subst hc
      rw [opp_peer c dir hd, if_pos rfl]
      by_cases e : j' = j
      · subst e; rw [if_pos ⟨rfl, rfl⟩, if_pos rfl]
      · rw [if_neg fun h => e (cell_inj hj hj' h.1).2.symm, if_neg e]
    · rw [if_neg fun h => hc (by rw [(cell_inj hj hj' h.1).1, peer_opp d dir hd]), if_neg hc]
  rw [Finset.sum_congr rfl fun d _ => h d, Finset.sum_ite_eq' Finset.univ (peer c (opp dir)) fun _ => if j' = j then n else 0, if_pos (Finset.mem_univ _)]

theorem O_cons (d : Dev nD) (op : Op) (l : List Op) (g : GSem nD τ sig) : O d (op :: l) g () = O d l g () + debt d op g () := by
  rw [show O d (op :: l) = O d l + debt d op from rfl, Pi.add_apply, Finsupp.add_apply]

theorem paid_all {j : ℕ} (hj : j = 0 ∨ IsDma j) {l : List Op} (hl : ∀ op ∈ l, goodOp op = true) :
    ∑ d : Dev nD, O d l (cell c j) () = paysTo j l * if j = 0 then 1 else amt j := by
  induction l with
  | nil =>
    show ∑ d : Dev nD, 0 = _
    rw [Finset.sum_const_zero, show paysTo j [] = 0 from rfl, Nat.zero_mul]
  | cons op l ih =>
    have ih := ih fun op hop => hl op (List.mem_cons_of_mem _ hop)
    have hop := hl op List.mem_cons_self
    have hsum : ∑ d : Dev nD, O d (op :: l) (cell c j) () = ∑ d : Dev nD, (O d l (cell c j) () + debt d op (cell c j) ()) :=
      Finset.sum_congr rfl fun d _ => O_cons d op l (cell c j)
    rw [hsum, Finset.sum_add_distrib, ih,
      show paysTo j (op :: l) = paysTo j l + if decide (owedCode op = some j) = true then 1 else 0 from List.countP_cons, Nat.add_mul]
    suffices h : ∑ d : Dev nD, debt d op (cell c j) () = (if decide (owedCode op = some j) = true then 1 else 0) * (if j = 0 then 1 else amt j) by rw [h]
    cases op with
    | sig dir =>
      have hdir : 1 ≤ dir ∧ dir ≤ 4 := of_decide_eq_true hop
      rw [show ∑ d : Dev nD, debt d (.sig dir) (cell c j) () = _ from paid_one c (dir := dir) (j' := 0) (n := 1) (by omega) hj (Or.inl rfl)]
      by_cases e : 0 = j
      · subst e; rfl
      · rw [if_neg e, show owedCode (.sig dir) = some 0 from rfl, if_neg (fun h => e (Option.some.inj (of_decide_eq_true h))), Nat.zero_mul]
    | send m =>
      have hg := of_decide_eq_true hop
      have hd := hg.2.2.1
      rw [show ∑ d : Dev nD, debt d (.send m) (cell c j) () = _ from paid_one c (dir := m.dir) (j' := m.rs) (n := amt m.rs) (by omega) hj (Or.inr hg.2.1)]
      by_cases e : m.rs = j
      · subst e
        rw [if_pos rfl, show owedCode (.send m) = some m.rs from rfl, if_pos (decide_eq_true rfl), if_neg (by have := hg.2.1.1; omega), Nat.one_mul]
      · rw [if_neg e, show owedCode (.send m) = some m.rs from rfl, if_neg (fun h => e (Option.some.inj (of_decide_eq_true h))), Nat.zero_mul]
    | _ =>
      rw [if_neg (by intro h; cases of_decide_eq_true h), Nat.zero_mul]
      exact Finset.sum_const_zero

/-- What the launch credits a cell that no own copy pays. -/
theorem credit_eq {j : ℕ} (hj : j ∈ codes) (hs : isSend j = false) :
    tallyOn (cell c j) (launchCredit (Pipeline.owing (fun d => O d ops)) 0 (cell c j)) = (tallyAt (cell c j) () (if j = 0 then 4 else amt j) : CellTallies nD τ sig Unit) := by
  unfold tallyAt; refine congrArg _ (Finsupp.ext fun u => ?_); cases u
  rw [Pipeline.launchCredit_owing, Finsupp.single_eq_same, paid_all c (ok_of_mem hj) fun op hop => good_of_mem hop, pays_ops j hj hs]
  by_cases h : j = 0
  · rw [if_pos h, if_pos h, if_pos h]
  · rw [if_neg h, if_neg h, if_neg h, Nat.one_mul]

theorem creds : (Pipeline.launchCred (fun d => O d ops) c : sProp 𝕄) ⊢ credL c := by
  have hinj : Function.Injective fun k : Fin 153 => semOf (codeOf k) := fun k k' h => by
    have h : semNo (semOf (codeOf k)) = semNo (semOf (codeOf k')) := congrArg semNo h
    rw [semNo_semOf (codeOf_ok k), semNo_semOf (codeOf_ok k')] at h
    rw [← idxOf_codeOf k, ← idxOf_codeOf k', h]
  unfold Pipeline.launchCred credL
  refine (bigSep_subset (Finset.subset_univ (Finset.univ.map ⟨_, hinj⟩))).trans ?_
  rw [bigSep_map]
  refine (Entails.of_eq (sepL_codes (F := F) (fun j => cred (tallyOn (cell c j) (launchCredit (Pipeline.owing (fun d => O d ops)) 0 (cell c j)))))).trans ?_
  refine sepL_mono fun j hj => ?_
  by_cases hs : isSend j = true
  · rw [if_pos hs]; iintro -; iempintro
  · rw [if_neg hs, credit_eq c hj (Bool.eq_false_iff.mpr hs)]

end Cert.Prot
end
end
-- ==== Proof.Launch.lean ====
/-
# The run of the whole program

The body's theorem put under the launch: from any memory, for any float values, every device's program terminates, its
operands unchanged, its result array holding the protocol's result and every counter at zero.
-/
module

public import proofs.«01_k».proof.Proof.Body
public import proofs.«01_k».proof.Proof.Tokens
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Prot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at the launch: any contents, all counters at zero. -/
def s₀ : MemSt nD τ sig (Elt F) := ⟨m, fun _ => 0, ρ⟩

/-- Device `c`'s left operand. -/
def aOf (c : Dev nD) : Vec F S1536x768 .f32 := (win0_0.blk (0 : Fin 1)).view.read (Elt F) ((s₀ m ρ).mem ((c : Thread nD τ).loc main_arg0))
/-- Device `c`'s right operand. -/
def bOf (c : Dev nD) : Vec F S768x1536 .f32 := (win0_1.blk (0 : Fin 1)).view.read (Elt F) ((s₀ m ρ).mem ((c : Thread nD τ).loc main_arg1))

/-! ## The launch's data -/

/-- What device `c`'s body starts from beside its buffers. -/
def begin (c : Dev nD) : sProp 𝕄 := iprop((∃ K, recs (aOf m ρ) (bOf m ρ) K) ∗ sepL ops (toks c) ∗ levAts L lv)

/-- The scratch buffers, at any contents. -/
def scratch (c : Dev nD) : sProp 𝕄 :=
  iprop((∃ f : Buf (Elt F) (locN c), locN c ↦{fullShare} f) ∗ (∃ f : Buf (Elt F) (locR c), locR c ↦{fullShare} f)
    ∗ (∃ f : Buf (Elt F) (locX c), locX c ↦{fullShare} f) ∗ (∃ f : Buf (Elt F) (locY c), locY c ↦{fullShare} f))

/-- All counters of device `c`'s cells at zero. -/
def counters (c : Dev nD) : sProp 𝕄 := sepL codes fun j => semVal (cell c j) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aOf m ρ c
    | ⟨1, _⟩ => bOf m ρ c
    | ⟨2, _⟩ => outEnd (aOf m ρ) (bOf m ρ) c
  Φ t := match t with
    | ⟨0, _⟩ => iprop(begin m ρ c ∗ scratch c)
    | ⟨_ + 1, _⟩ => iprop(counters c ∗ scratch c)
  q _ := fullShare
  owed t := match t with
    | ⟨0, _⟩ => O c ops
    | ⟨_ + 1, _⟩ => 0

theorem fetch_0 (t : Fin cfg0.N) : (cfg0.win (0 : Fin 3)).fetch t = true := by rw [show t = t0_0 from fin_N0 t]; rfl
theorem fetch_1 (t : Fin cfg0.N) : (cfg0.win (1 : Fin 3)).fetch t = true := by rw [show t = t0_0 from fin_N0 t]; rfl

theorem owns_stage (c : Dev nD) (r : Ref sig .tc) (X : r.ty.Contents (Elt F)) :
    (owns (Ix := Unit) (Name := ℕ) (U := UU) (Lvl := ℕ) (c : Thread nD τ) (Memref.whole r) fullShare X : sProp 𝕄)
      = iprop(∃ f : Buf (Elt F) (((c : Dev nD) : Thread nD τ).loc r), ⌜f = X⌝ ∗ (((c : Thread nD τ).loc r) ↦{fullShare} f)) := by
  unfold owns; simp only [Memref.view_whole, View.read_whole, View.set_whole]

/-- A staging buffer at given contents. -/
abbrev stg (c : Dev nD) (r : Ref sig .tc) (X : r.ty.Contents (Elt F)) : sProp 𝕄 :=
  iprop(∃ f : Buf (Elt F) (((c : Dev nD) : Thread nD τ).loc r), ⌜f = X⌝ ∗ (((c : Thread nD τ).loc r) ↦{fullShare} f))

/-- What the body is given, -/
def bodyPre (c : Dev nD) : sProp 𝕄 :=
  iprop((begin m ρ c ∗ scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and what it gives back. -/
def bodyPost (c : Dev nD) : sProp 𝕄 :=
  iprop((counters c ∗ scratch c) ∗ (dats m ρ 0 c).owesAt () t0_0.succ
    ∗ stg c cc0_stg0_0 (aOf m ρ c) ∗ stg c cc0_stg1_0 (bOf m ρ c) ∗ stg c cc0_stg2_0 (outEnd (aOf m ρ) (bOf m ρ) c))

/-- The invariant at the start, from what the body is given. -/
theorem inv_start (a : Dev nD → Vec F S1536x768 .f32) (b : Dev nD → Vec F S768x1536 .f32) (c : Dev nD) (W : Waits sig Unit) :
    iprop(owes (c : Thread nD τ) (O c ops) W ∗ sepL ops (toks c) ∗ (locA c ↦{fullShare} a c) ∗ (locB c ↦{fullShare} b c)
      ∗ (∃ f : Buf (Elt F) (locO c), locO c ↦{fullShare} f) ∗ scratch c) ⊢ (Inv a b c ops : sProp 𝕄) := by
  unfold Inv scratch
  iintro ⟨HO, Ht, Hm⟩
  iexists []; iexists start; iexists W
  isplitr; · ipureintro; exact ⟨rfl, rfl⟩
  isplitl [HO]; · iexact HO
  isplitl [Ht]; · iexact Ht
  isplitr
  · iapply (show iprop(emp) ⊢ (sepL [] (zeros c) : sProp 𝕄) from .rfl)
    iempintro
  iapply (memStart a b c)
  iexact Hm

/-- What is held when no step is left. -/
theorem inv_end (a : Dev nD → Vec F S1536x768 .f32) (b : Dev nD → Vec F S768x1536 .f32) (c : Dev nD) :
    Inv a b c [] ⊢ (iprop((∃ W : Waits sig Unit, owes (c : Thread nD τ) 0 W) ∗ counters c ∗ (locA c ↦{fullShare} a c) ∗ (locB c ↦{fullShare} b c)
      ∗ (locO c ↦{fullShare} outEnd a b c) ∗ scratch c) : sProp 𝕄) := by
  unfold Inv scratch counters
  iintro ⟨%d, %regs, %W, %h, HO, -, Hz, Hi⟩
  obtain ⟨h₁, h₂⟩ := h
  rw [List.append_nil] at h₁
  subst h₁
  have hregs : regs = (run ops start).getD [] := by rw [h₂]; rfl
  subst hregs
  isplitl [HO]; · iexists W; iexact HO
  isplitl [Hz]
  · iapply (Entails.of_eq ((zeros_split (F := F) c ops).trans (sepL_perm waits_perm _)))
    iexact Hz
  iapply (memEnd a b c)
  iexact Hi

set_option maxHeartbeats 800000 in
/-- The body's theorem in the launch's form. -/
theorem body_run (c : Dev nD) :
    bodyPre m ρ c ⊢ wp frame (wpE (defs₀ (F := F)) 𝒱₀ (c : Thread nD τ) none) Set.univ
      (cc0_body (F := F) mA (Memref.isWhole_whole _) mB (Memref.isWhole_whole _) mO (Memref.isWhole_whole _) mN (Memref.isWhole_whole _) mR (Memref.isWhole_whole _)
        mX (Memref.isWhole_whole _) mY (Memref.isWhole_whole _) cc0_scratch4 cc0_scratch5 cc0_scratch6 cc0_scratch7 cc0_scratch8 cc0_scratch9 cc0_scratch10
        cc0_scratch11 cc0_scratch12 cc0_scratch13 cc0_scratch14 cc0_scratch15) (fun _ => bodyPost m ρ c) := by
  unfold bodyPre begin
  iintro ⟨⟨⟨⟨%K, #HR⟩, Ht, #HL⟩, Hs⟩, Ho, ⟨%d0, %g0, %hg0, HA⟩, ⟨%d1, %g1, %hg1, HB⟩, ⟨%d2, %g2, -, HO⟩⟩
  have h0 : g0 = aOf m ρ c := by rw [hg0]; unfold Dat.before; rw [if_pos (fetch_0 t0_0)]; rfl
  have h1 : g1 = bOf m ρ c := by rw [hg1]; unfold Dat.before; rw [if_pos (fetch_1 t0_0)]; rfl
  subst h0 h1
  unfold Dat.owesAt Pipeline.owesWithin
  icases Ho with ⟨%W, %hW, Ho⟩
  have hbody : Tr (aOf m ρ) (bOf m ρ) K c ops
      (cc0_body (F := F) mA (Memref.isWhole_whole _) mB (Memref.isWhole_whole _) mO (Memref.isWhole_whole _) mN (Memref.isWhole_whole _) mR (Memref.isWhole_whole _)
        mX (Memref.isWhole_whole _) mY (Memref.isWhole_whole _) cc0_scratch4 cc0_scratch5 cc0_scratch6 cc0_scratch7 cc0_scratch8 cc0_scratch9 cc0_scratch10
        cc0_scratch11 cc0_scratch12 cc0_scratch13 cc0_scratch14 cc0_scratch15) (fun _ => bodyPost m ρ c) := by
    apply body_ok
    unfold Tr
    iintro ⟨-, -, HI⟩
    rw [wp_ret]
    imodintro
    ihave H := (inv_end (aOf m ρ) (bOf m ρ) c) $$ HI
    icases H with ⟨⟨%W', HO⟩, Hz, HA, HB, Hout, Hs⟩
    unfold bodyPost Dat.owesAt Pipeline.owesWithin
    rw [show (dats m ρ 0 c).owed t0_0.succ = 0 from rfl]
    isplitl [Hz Hs]
    · isplitl [Hz] <;> iassumption
    isplitl [HO]
    · iexists W'
      isplitr; · ipureintro; exact fun _ _ => Or.inl trivial
      iexact HO
    isplitl [HA]
    · iexists _; isplitr; · (ipureintro; rfl)
      iexact HA
    isplitl [HB]
    · iexists _; isplitr; · (ipureintro; rfl)
      iexact HB
    iexists _; isplitr; · (ipureintro; rfl)
    iexact Hout
  iapply (show iprop(recs (aOf m ρ) (bOf m ρ) K ∗ levAts L lv ∗ Inv (aOf m ρ) (bOf m ρ) c ops) ⊢ _ from hbody)
  isplitr; · iexact HR
  isplitr; · iexact HL
  iapply (inv_start (aOf m ρ) (bOf m ρ) c W)
  isplitl [Ho]; · iexact Ho
  isplitl [Ht]; · iexact Ht
  isplitl [HA]; · iexact HA
  isplitl [HB]; · iexact HB
  isplitl [HO]; · iexists g2; iexact HO
  iexact Hs

set_option maxRecDepth 100000 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_stage]
  exact body_run m ρ c

/-! ## The launch -/

/-- The launch's ghost state: the pipeline's and the cells'. -/
def u₀ : UU := (initOf (Pipeline.cells cfgs cellOf_inj) (Pipeline.launchToks cfgs cellOf_inj), initOf allCells allToks)

theorem share_eq (c : Dev nD) (w : Fin cfg0.W) : (dats m ρ 0 c).share w = fullShare := by unfold Dat.share; split <;> rfl

theorem begin_intro (c : Dev nD) :
    iprop(Pipeline.unscopedRestP Pipeline.Prefetch.none cfg0.spec c (fun r => m ((c : Thread nD τ).loc r)) ∗ levAts L lv
        ∗ Pipeline.launchCred (fun d => O d ops) c ∗ prngReg c (ρ c) ∗ G' (aOf m ρ) (bOf m ρ) c)
      ⊢ (|={Set.univ}=> iprop(begin m ρ c ∗ emp) : sProp 𝕄) := by
  unfold G'
  iintro ⟨-, Hlev, Hcr, -, ⟨%K, HR, Hp, Hat⟩⟩
  ihave Hc := (creds (F := F) c) $$ Hcr
  imodintro
  isplitl
  · unfold begin
    isplitl [HR]; · iexists K; iexact HR
    isplitr [Hlev]
    · rw [toks_ops]
      isplitl [Hp]; · iexact Hp
      isplitl [Hat] <;> iassumption
    iexact Hlev
  · iempintro

theorem phi_first (c : Dev nD) :
    iprop(begin m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(begin m ρ c ∗ scratch c) from rfl, scopedRest0_eq]
  iintro ⟨Hs, -, Hr⟩
  isplitl [Hs]; · iexact Hs
  unfold scratch
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(counters c ∗ scratch c) from rfl, scopedRest0_eq]
  unfold counters scratch
  iintro ⟨Hz, Hr⟩
  ihave Hz := (Entails.of_eq (sems_eq (F := F) c).symm) $$ Hz
  icases Hz with ⟨Ho, Hu⟩
  isplitl [Hu]; · iexact Hu
  isplitl [Ho]; · iexact Ho
  iexact Hr

/-- The copies of the operands in and of the result out are waited on below everything the program pays. -/
theorem staging_waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), SemLoc.dma (((cfgs (0 : Fin 1)).win w).sem s)) () ≤ 0 := by
      fin_cases w <;> fin_cases s <;> exact Nat.le_refl 0
    rcases t with ⟨_ | _, ht⟩
    · exact mayWait (l := ops) hl above_ops fun op hop => good_of_mem hop
    · exact mayWait (l := []) hl rfl fun op hop => absurd hop List.not_mem_nil

/-- A window's array at the end. -/
def finalA (c : Dev nD) (w : Fin cfg0.W) : Buf (Elt F) ((cfg0.win w).arr.view.loc (c : Thread nD τ)) := (dats m ρ 0 c).arrAt w cfg0.N

/-- The final memory. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
/-- The whole program, for any float values, from any memory with its counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := fun d => O d ops) (howed₀ := fun _ => rfl) (howedN := fun _ => rfl)
    (L := L) (lv := lv) (hL := L_of_ne) (hwaits := staging_waits m ρ)
    (G := G (aOf m ρ) (bOf m ρ)) (G' := G' (aOf m ρ) (bOf m ρ)) (u₀ := u₀)
    (hu₀ := by
      unfold u₀
      iintro Hu
      ihave H := (ownU_pair _ _) $$ Hu
      icases H with ⟨HP, HX⟩
      imod (fund_cells (aOf m ρ) (bOf m ρ)) $$ HX with HG
      imodintro
      isplitl [HP] <;> iassumption)
    (hglob := glob (aOf m ρ) (bOf m ρ))
    (hA := fun _ _ => rfl) (hpf := fun _ k => k.elim0)
    (X := begin m ρ) (Y := fun c => unscopedSems0 c) (Z := fun _ => iprop(emp))
    (hX := begin_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold what they held. -/
theorem finalA_0 (c : Dev nD) : finalA m ρ c (0 : Fin 3) = (s₀ m ρ).mem (win0_0.arr.view.loc (c : Thread nD τ)) :=
  (dats (F := F) m ρ 0 c).arrAt_in (0 : Fin 3) rfl _
theorem finalA_1 (c : Dev nD) : finalA m ρ c (1 : Fin 3) = (s₀ m ρ).mem (win0_1.arr.view.loc (c : Thread nD τ)) :=
  (dats (F := F) m ρ 0 c).arrAt_in (1 : Fin 3) rfl _

/-- The result's block, the whole array, read back. -/
theorem read_2 (f : main_v1.ty.Contents (Elt F)) : (win0_2.blk (0 : Fin 1)).view.read (Elt F) f = f :=
  Memref.read_access_unit_zero (Elt F) main_v1 (funext fun x => by fin_cases x <;> decide) (fun x => by fin_cases x <;> decide) f
theorem read_0 (f : main_arg0.ty.Contents (Elt F)) : (win0_0.blk (0 : Fin 1)).view.read (Elt F) f = f :=
  Memref.read_access_unit_zero (Elt F) main_arg0 (funext fun x => by fin_cases x <;> decide) (fun x => by fin_cases x <;> decide) f
theorem read_1 (f : main_arg1.ty.Contents (Elt F)) : (win0_1.blk (0 : Fin 1)).view.read (Elt F) f = f :=
  Memref.read_access_unit_zero (Elt F) main_arg1 (funext fun x => by fin_cases x <;> decide) (fun x => by fin_cases x <;> decide) f

/-- The result's array holds what the body left in its buffer. -/
theorem finalA_2 (c : Dev nD) : finalA m ρ c (2 : Fin 3) = outEnd (aOf m ρ) (bOf m ρ) c := by
  refine (read_2 _).symm.trans ?_
  unfold finalA
  rw [show cfg0.N = (t0_0 : Fin cfg0.N).val + 1 from rfl, (dats m ρ 0 c).arrAt_succ (2 : Fin 3) t0_0]
  rw [show (cfg0.win (2 : Fin 3)).flush t0_0 = true from rfl, if_pos rfl]
  exact View.read_write_univ _ _

/-- The operands as the launch memory holds them. -/
theorem aOf_eq (c : Dev nD) : aOf m ρ c = m ((c : Thread nD τ).loc main_arg0) := read_0 _
theorem bOf_eq (c : Dev nD) : bOf m ρ c = m ((c : Thread nD τ).loc main_arg1) := read_1 _

end Cert.Prot
end
end
-- ==== Proof.Value.lean ====
/-
# The result over the reals

The kernel's result read in exact arithmetic: the ring sums and the two exchanges add up the products of all sixteen
devices, the sixteen products of column and row blocks make the product of the whole operands, and the activation is the
reference's.
-/
module

public import proofs.«01_k».proof.Proof.Content
public import proofs.«01_k».proof.Proof.Gen.ReferenceIdeal.Run
public import Idealize.ShloMosaic.Lib.Layout
public import Idealize.ShloMosaic.Lib.MatmulPlain
public import Idealize.ShloMosaic.Lib.IdealHost
public import Idealize.ShloMosaic.Lib.StackMember
public import Idealize.ShloMosaic.Lib.Pipeline.Value

@[expose] public section

noncomputable section

namespace Cert.Prot

open Cert.KernelIdeal Cert.KernelIdeal.Gen
open Idealize.ShloMosaic Idealize.ShloMosaic.ValueIdx
open scoped BigOperators

/-! ## The sum over the devices -/

/-- The devices whose products the ring sum of device `c` holds, in the order of the ring. -/
def ringL (c : Dev nD) (h : ℕ) : ℕ → List (Dev nD)
  | 0 => [c]
  | t + 1 => c :: ringL (peer c (opp (fwd h))) h t

/-- The devices whose products the sum after the first exchange holds. -/
def xL (c : Dev nD) (h : ℕ) : List (Dev nD) := ringL c h 3 ++ ringL (peer c 3) h 3

/-- The devices whose products the sum after the second exchange holds. -/
def yL (c : Dev nD) (h : ℕ) : List (Dev nD) := xL c h ++ xL (peer c 4) h

/-- Every device once, whoever finishes the row and whichever way its half went round the ring. -/
theorem yL_perm (c : Dev nD) (h : Fin 2) : (yL c h.val).Perm (List.finRange nD) := by
  revert c h; decide

variable (a : Dev nD → Vec Ideal S1536x768 .f32) (b : Dev nD → Vec Ideal S768x1536 .f32)

/-- The ring sum is the sum over the devices of the ring. -/
theorem acc_eq (h r j : ℕ) : ∀ (t : ℕ) (c : Dev nD), acc a b c h t r j = ((ringL c h t).map fun d => (prod a b d r j : EReal)).sum
  | 0, c => by simp [acc, ringL]
  | t + 1, c => by
    rw [ringL, List.map_cons, List.sum_cons, ← acc_eq h r j t]
    rfl

/-- The sum after the first exchange. -/
theorem xsum_eq (c : Dev nD) (h r j : ℕ) : xsum a b c h r j = ((xL c h).map fun d => (prod a b d r j : EReal)).sum := by
  rw [xL, List.map_append, List.sum_append, ← acc_eq, ← acc_eq]
  rfl

/-- The sum after the second exchange is the sum over all devices. -/
theorem ysum_eq (c : Dev nD) (h : Fin 2) (r j : ℕ) : ysum a b c h.val r j = ∑ d : Dev nD, (prod a b d r j : EReal) := by
  have hL : ysum a b c h.val r j = ((yL c h.val).map fun d => (prod a b d r j : EReal)).sum := by
    rw [yL, List.map_append, List.sum_append, ← xsum_eq, ← xsum_eq]
    rfl
  rw [hL, ((yL_perm c h).map _).sum_eq]
  exact (Fin.sum_univ_def _).symm

/-! ## One device's product -/

/-- The left operand's index, and the result's, by coordinates. -/
theorem at2_ix2 {m n : ℕ} (hm : 0 < m) (hn : 0 < n) (r : ℕ) (j : ℕ) (hr : r < m) (hj : j < n) : at2 hm hn r j = ix2 ⟨r, hr⟩ ⟨j, hj⟩ := by
  funext x
  match x with
  | ⟨0, _⟩ => exact Fin.ext (Nat.mod_eq_of_lt hr)
  | ⟨1, _⟩ => exact Fin.ext (Nat.mod_eq_of_lt hj)

/-- The printed product of a slab, at an index. -/
theorem pay2_apply (x : Vec Ideal S384x768 .f32) (w : Vec Ideal S768x1536 .f32) (r : Fin 384) (j : Fin 1536) :
    (k0_pay2 x (k0_pay1 w) (ix2 r j) : EReal) = ∑ k : Fin 768, (x (ix2 r k) : EReal) * w (ix2 k j) := by
  unfold k0_pay2 k0_pay1
  simp only [shapeCast_self]
  rw [truncf_apply]
  refine (Ideal.matmul_plain_apply (M := 384) (K := 768) (N := 1536) none _ _ _ r j).trans ?_
  rw [constant_apply, Ideal.ofBits_zero_f32, zero_add]
  rfl

/-- Row `r`, column `j` of a device's product. -/
theorem prod_eq (c : Dev nD) (r j : Fin 1536) :
    (prod a b c r.val j.val : EReal) = ∑ k : Fin 768, (a c (ix2 r k) : EReal) * b c (ix2 k j) := by
  have hi : at2 (m := 384) (n := 1536) (by decide) (by decide) r.val j.val = ix2 ⟨r.val % 384, Nat.mod_lt _ (by decide)⟩ j := by
    funext x
    match x with
    | ⟨0, _⟩ => rfl
    | ⟨1, _⟩ => exact Fin.ext (Nat.mod_eq_of_lt j.isLt)
  unfold prod
  rw [hi, pay2_apply]
  refine Finset.sum_congr rfl fun k _ => ?_
  unfold slabA
  rw [at2_ix2 (m := 1536) (n := 768) (by decide) (by decide) (384 * (r.val / 384) + r.val % 384) k.val
    (by have := r.isLt; omega) k.isLt]
  congr 3
  apply Fin.ext
  show 384 * (r.val / 384) + r.val % 384 = r.val
  omega

/-! ## The whole product -/

/-- The sixteen products of blocks make the product of the whole operands. -/
theorem blocks_sum (A : Vec Ideal ⟨2, ![1536, 12288]⟩ .f32) (B : Vec Ideal ⟨2, ![12288, 1536]⟩ .f32)
    (ha : ∀ c : Dev nD, a c = Layout.block ⟨2, ![1536, 768]⟩ ⟨2, ![1536, 12288]⟩ 1 16 c A)
    (hb : ∀ c : Dev nD, b c = Layout.block ⟨2, ![768, 1536]⟩ ⟨2, ![12288, 1536]⟩ 0 16 c B) (r j : Fin 1536) :
    ∑ d : Dev nD, (prod a b d r.val j.val : EReal) = ∑ k : Fin 12288, (A (ix2 r k) : EReal) * B (ix2 k j) := by
  have e : ∑ k : Fin 12288, (A (ix2 r k) : EReal) * B (ix2 k j)
      = ∑ p : Fin 16 × Fin 768, (A (ix2 r (finProdFinEquiv p)) : EReal) * B (ix2 (finProdFinEquiv p) j) :=
    (Equiv.sum_comp (finProdFinEquiv (m := 16) (n := 768)) fun k : Fin 12288 => (A (ix2 r k) : EReal) * B (ix2 k j)).symm
  rw [e, Fintype.sum_prod_type]
  refine Finset.sum_congr rfl fun d _ => ?_
  rw [prod_eq]
  refine Finset.sum_congr rfl fun k _ => ?_
  rw [ha, hb, Layout.block_apply, Layout.block_apply]
  refine congrArg₂ _ (congrArg A ?_) (congrArg B ?_)
  · funext x
    apply Fin.ext
    match x with
    | ⟨0, _⟩ => rfl
    | ⟨1, _⟩ => show d.val * 768 + k.val = k.val + 768 * d.val; omega
  · funext x
    apply Fin.ext
    match x with
    | ⟨0, _⟩ => show d.val * 768 + k.val = k.val + 768 * d.val; omega
    | ⟨1, _⟩ => rfl

/-! ## The activation and the result -/

/-- The activation over the reals. -/
theorem act1_eq (z : EReal) : (act1 (F := Ideal) z : EReal) = Ideal.div z (1 + Ideal.exp (-z)) := by
  unfold act1 k0_pay38
  simp only [shapeCast_self]
  show Ideal.div z (Ideal.ofBits .f32 0x3F800000#32 + Ideal.exp (Ideal.ofBits .f32 0x00000000#32 - z)) = _
  rw [Ideal.ofBits_one_f32, Ideal.ofBits_zero_f32, zero_sub]

/-- What the reference's operations compute of its two arguments. -/
def refOut (A : Vec Ideal ⟨2, ![1536, 12288]⟩ .f32) (B : Vec Ideal ⟨2, ![12288, 1536]⟩ .f32) : Vec Ideal ⟨2, ![1536, 1536]⟩ .bf16 :=
  fun i => Ideal.div (∑ k : Fin 12288, (A (ix2 (i 0) k) : EReal) * B (ix2 k (i 1)))
    (1 + Ideal.exp (-(∑ k : Fin 12288, (A (ix2 (i 0) k) : EReal) * B (ix2 k (i 1)))))

/-- The result buffer's contents at the end are the reference's result. -/
theorem out_eq (A : Vec Ideal ⟨2, ![1536, 12288]⟩ .f32) (B : Vec Ideal ⟨2, ![12288, 1536]⟩ .f32)
    (ha : ∀ c : Dev nD, a c = Layout.block ⟨2, ![1536, 768]⟩ ⟨2, ![1536, 12288]⟩ 1 16 c A)
    (hb : ∀ c : Dev nD, b c = Layout.block ⟨2, ![768, 1536]⟩ ⟨2, ![12288, 1536]⟩ 0 16 c B) (c : Dev nD) :
    outC a b c 0 7 = refOut A B := by
  funext i
  show res a b (i 0).val (i 1).val = _
  unfold res
  rw [ysum_eq a b (owner (i 0).val) ⟨((i 0).val / 192) % 2, Nat.mod_lt _ (by decide)⟩ (i 0).val (i 1).val, act1_eq,
    blocks_sum a b A B ha hb (i 0) (i 1)]
  rfl

end Cert.Prot

namespace Cert.RefValue

open Cert.ReferenceIdeal Cert.ReferenceIdeal.Gen
open Idealize.ShloMosaic Idealize.ShloMosaic.ValueIdx

/-- The reference's printed operations, read at every index. -/
theorem ref_eq (A : FVec Ideal S1536x12288 .f32) (B : FVec Ideal S12288x1536 .f32) :
    (truncf .bf16 (Host.divf (Host.dotGeneral dot_S1536x12288_S12288x1536_S1536x1536_1_0_0_1_n_n none A B)
      (addf (broadcastInDim S1536x1536 ![] bcast_S_S1536x1536 (constant S_ .f32 0x3F800000#32))
        (Host.exp (Host.negf (Host.dotGeneral dot_S1536x12288_S12288x1536_S1536x1536_1_0_0_1_n_n none A B))))) bitsLt_bf16_f32
      : FVec Ideal S1536x1536 .bf16) = Cert.Prot.refOut A B := by
  have hd : ∀ i : S1536x1536.Idx, (Host.dotGeneral dot_S1536x12288_S12288x1536_S1536x1536_1_0_0_1_n_n none A B : FVec Ideal S1536x1536 .f32) i
      = ∑ k : Fin 12288, (A (ix2 (i 0) k) : EReal) * B (ix2 k (i 1)) := by
    intro i
    obtain ⟨r, j, rfl⟩ : ∃ (r : Fin 1536) (j : Fin 1536), i = ix2 r j := ⟨i 0, i 1, eq_ix2 i⟩
    exact StackMember.dotGeneral_plain_apply (m := 1536) (k := 12288) (n := 1536) none A B r j
  funext i
  have hi := hd i
  generalize (Host.dotGeneral dot_S1536x12288_S12288x1536_S1536x1536_1_0_0_1_n_n none A B : FVec Ideal S1536x1536 .f32) = Z at hi ⊢
  have hz : (Z i : EReal) = ∑ k : Fin 12288, (A (ix2 (i 0) k) : EReal) * B (ix2 k (i 1)) := hi
  unfold Cert.Prot.refOut
  rw [← hz, truncf_apply, hostDivf_apply, addf_apply, broadcastInDim_scalar_apply, constant_apply, Ideal.ofBits_one_f32]
  rfl

end Cert.RefValue
end
end
-- ==== Proof.lean ====
/-
# The claims

The kernel's run on sixteen devices, proved once over any float values, gives both of its frames; read over the reals it
gives, on every device, the whole result of the reference. The reference is a straight line of host operations.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's run ends with its operands as they were, its result array holding what the protocol computes, and every
counter at zero, for any float values. -/
theorem run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v1)
            = Cert.Prot.outEnd (Cert.Prot.aOf m ρ) (Cert.Prot.bOf m ρ) c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h =>
    ⟨fun c => ⟨(h.1 c (2 : Fin 3)).trans (Cert.Prot.finalA_2 m ρ c), (h.1 c (0 : Fin 3)).trans (Cert.Prot.finalA_0 m ρ c),
      (h.1 c (1 : Fin 3)).trans (Cert.Prot.finalA_1 m ρ c)⟩, h.2⟩) (Cert.Prot.run_main m ρ)

set_option maxRecDepth 100000 in
/-- The kernel's body is the same text in the two programs, -/
theorem body_same : Cert.Kernel.cc0_body (F := Bits) = Cert.KernelIdeal.cc0_body (F := Bits) := rfl

set_option maxRecDepth 100000 in
/-- so the tables of bodies are the same, -/
theorem defs₀_same : Cert.Kernel.defs₀ (F := Bits) = Cert.KernelIdeal.defs₀ (F := Bits) := by
  refine congrArg Defs.onTc (funext fun l => funext fun x => ?_)
  match l, x with
  | ⟨0, _⟩, (t, s) =>
    exact congrFun (congrFun (congrFun (congrFun (congrFun (congrFun (congrFun (congrFun (congrFun (congrFun (congrFun (congrFun
      (congrFun (congrFun (congrFun (congrFun (congrFun (congrFun (congrFun (congrFun (congrFun (congrFun (congrFun (congrFun
      (congrFun (congrFun body_same _) _) _) _) _) _) _) _) _) _) _) _) _) _) _) _) _) _) _) _) _) _) _) _) _) _

set_option maxRecDepth 100000 in
/-- and so are those of the pipelines over them. -/
theorem defs_same : Cert.Kernel.defs (F := Bits) = Cert.KernelIdeal.defs (F := Bits) :=
  congrArg (Pipeline.defs (Cert.KernelIdeal.pcfgs (F := Bits))) defs₀_same

set_option maxRecDepth 100000 in
/-- The kernel on bit patterns runs, keeps its operands and leaves every counter at zero. -/
theorem frame_kernel : Cert.quiescent_Kernel := by
  intro m ρ _
  rw [defs_same]
  exact (θ_run Cert.KernelIdeal.defs _ _).mono (fun _ h => ⟨fun c => (h.1 c).2, h.2⟩) (run (F := Bits) m ρ)

/-- So does the kernel in exact arithmetic. -/
theorem frame_kernelIdeal : Cert.quiescent_KernelIdeal := fun m ρ _ =>
  (θ_run Cert.KernelIdeal.defs _ _).mono (fun _ h => ⟨fun c => (h.1 c).2, h.2⟩) (run (F := Ideal) m ρ)

/-- And the reference, which has no counter at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device ends with the reference's whole result. -/
theorem algebraic : Cert.algebraic_KernelIdeal_ReferenceIdeal := by
  intro m ρ m' ρ' _ hagree
  refine ⟨Cert.Prot.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩) (run (F := Ideal) m ρ)
    exact Cert.Prot.out_eq (Cert.Prot.aOf m ρ) (Cert.Prot.bOf m ρ) _ _
      (fun d => (Cert.Prot.aOf_eq m ρ d).trans (hagree d).1) (fun d => (Cert.Prot.bOf_eq m ρ d).trans (hagree d).2) c
  · exact (θ_run Cert.ReferenceIdeal.defs _ _).mono (fun _ h => ⟨(h 0).1.trans (Cert.RefValue.ref_eq _ _), (h 0).2⟩)
      (Cert.ReferenceIdeal.Value.run (F := Ideal) m' ρ')

/-- The claims together. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
